-- ==== Defs.lean ====
def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_tiles_finite_b [hPre_tiles_finite_b : Cert.Pre_tiles_finite_b.Facts] (m : (ℓ : Loc Cert.DiffIdeal.nD Cert.DiffIdeal.τ Cert.DiffIdeal.sig) → Buf (Elt Ideal) ℓ) : Prop :=
  ∀ c : Dev Cert.DiffIdeal.nD,
    (Cert.Pre_tiles_finite_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_tiles_finite_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2 = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_tiles_finite_b [hPre_tiles_finite_b : Cert.Pre_tiles_finite_b.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_tiles_finite_b.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).1 = (fun _ => 1#1)
    ∧ (Cert.Pre_tiles_finite_b.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4))).2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_tiles_finite_a [hPre_tiles_finite_a : Cert.Pre_tiles_finite_a.Facts] (m : (ℓ : Loc Cert.AttnIdeal.nD Cert.AttnIdeal.τ Cert.AttnIdeal.sig) → Buf (Elt Ideal) ℓ) : Prop :=
  ∀ c : Dev Cert.AttnIdeal.nD,
    (Cert.Pre_tiles_finite_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_tiles_finite_a [hPre_tiles_finite_a : Cert.Pre_tiles_finite_a.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_tiles_finite_a.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_gate_finite [hPre_gate_finite : Cert.Pre_gate_finite.Facts] (m : (ℓ : Loc Cert.UpIdeal.nD Cert.UpIdeal.τ Cert.UpIdeal.sig) → Buf (Elt Ideal) ℓ) : Prop :=
  ∀ c : Dev Cert.UpIdeal.nD,
    (Cert.Pre_gate_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_gate_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.1 = (fun _ => 1#1)
    ∧ (Cert.Pre_gate_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.1 = (fun _ => 1#1)
    ∧ (Cert.Pre_gate_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_gate_finite [hPre_gate_finite : Cert.Pre_gate_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_gate_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).1 = (fun _ => 1#1)
    ∧ (Cert.Pre_gate_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.1 = (fun _ => 1#1)
    ∧ (Cert.Pre_gate_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.1 = (fun _ => 1#1)
    ∧ (Cert.Pre_gate_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_tiles_finite_b [hDiffIdeal : Cert.DiffIdeal.Facts] [hPre_tiles_finite_b : Cert.Pre_tiles_finite_b.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_tiles_finite_b m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_DiffRefIdeal_pre_tiles_finite_b [hDiffRefIdeal : Cert.DiffRefIdeal.Facts] [hPre_tiles_finite_b : Cert.Pre_tiles_finite_b.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_tiles_finite_b m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_tiles_finite_a [hAttnIdeal : Cert.AttnIdeal.Facts] [hPre_tiles_finite_a : Cert.Pre_tiles_finite_a.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_tiles_finite_a m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_tiles_finite_a [hAttnRefIdeal : Cert.AttnRefIdeal.Facts] [hPre_tiles_finite_a : Cert.Pre_tiles_finite_a.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_tiles_finite_a m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_gate_finite [hUpIdeal : Cert.UpIdeal.Facts] [hPre_gate_finite : Cert.Pre_gate_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_gate_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_gate_finite [hUpRefIdeal : Cert.UpRefIdeal.Facts] [hPre_gate_finite : Cert.Pre_gate_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_gate_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v19) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v2_0)) (v1 : (c : Dev Cert.ModulateIdeal.nD) → Buf (Elt Ideal) ((c.tc : Thread Cert.ModulateIdeal.nD Cert.ModulateIdeal.τ).loc Cert.ModulateIdeal.main_v2_1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v2_0) = v0 c
          ∧ r.2.mem ((c.tc : Thread Cert.ModulateIdeal.nD Cert.ModulateIdeal.τ).loc Cert.ModulateIdeal.main_v2_1) = v1 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v2) = v0 c
          ∧ r.2.mem ((c.tc : Thread Cert.ModulateRefIdeal.nD Cert.ModulateRefIdeal.τ).loc Cert.ModulateRefIdeal.main_v29) = v1 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v47) = v0 c
          ∧ r.2.mem ((c.tc : Thread Cert.DownRefIdeal.nD Cert.DownRefIdeal.τ).loc Cert.DownRefIdeal.main_v74) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v2_0)) (v1 : (c : Dev Cert.LastIdeal.nD) → Buf (Elt Ideal) ((c.tc : Thread Cert.LastIdeal.nD Cert.LastIdeal.τ).loc Cert.LastIdeal.main_v2_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2_0) = v0 c
          ∧ r.2.mem ((c.tc : Thread Cert.LastIdeal.nD Cert.LastIdeal.τ).loc Cert.LastIdeal.main_v2_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v48) = v0 c
          ∧ r.2.mem ((c.tc : Thread Cert.LastRefIdeal.nD Cert.LastRefIdeal.τ).loc Cert.LastRefIdeal.main_v49) = v1 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v46) = v0 c
          ∧ r.2.mem ((c.tc : Thread Cert.OutRefIdeal.nD Cert.OutRefIdeal.τ).loc Cert.OutRefIdeal.main_v73) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Diff_DiffIdeal : Prop :=
  True

def algebraic_DiffIdeal_DiffRefIdeal_on_prompt_rows_b_pre_tiles_finite_b [hDiffIdeal : Cert.DiffIdeal.Facts] [hDiffRefIdeal : Cert.DiffRefIdeal.Facts] [hPre_tiles_finite_b : Cert.Pre_tiles_finite_b.Facts] [hOn_prompt_rows_b : Cert.On_prompt_rows_b.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_tiles_finite_b m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v1_0)) (v1 : (c : Dev Cert.DiffIdeal.nD) → Buf (Elt Ideal) ((c.tc : Thread Cert.DiffIdeal.nD Cert.DiffIdeal.τ).loc Cert.DiffIdeal.main_v1_1)) (v2 : (c : Dev Cert.DiffIdeal.nD) → Buf (Elt Ideal) ((c.tc : Thread Cert.DiffIdeal.nD Cert.DiffIdeal.τ).loc Cert.DiffIdeal.main_v1_2)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          (∀ i : (⟨2, ![8192, 640]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 i = 1#1 → r.2.mem ((c.tc : Thread Cert.DiffIdeal.nD Cert.DiffIdeal.τ).loc Cert.DiffIdeal.main_v1_0) i = v0 c i)
          ∧ (∀ i : (⟨5, ![16, 2, 5, 256, 128]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 i = 1#1 → r.2.mem ((c.tc : Thread Cert.DiffIdeal.nD Cert.DiffIdeal.τ).loc Cert.DiffIdeal.main_v1_1) i = v1 c i)
          ∧ (∀ i : (⟨5, ![16, 2, 5, 256, 128]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2 i = 1#1 → r.2.mem ((c.tc : Thread Cert.DiffIdeal.nD Cert.DiffIdeal.τ).loc Cert.DiffIdeal.main_v1_2) i = v2 c i)
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          (∀ i : (⟨2, ![8192, 640]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 i = 1#1 → r.2.mem ((c.tc : Thread Cert.DiffRefIdeal.nD Cert.DiffRefIdeal.τ).loc Cert.DiffRefIdeal.main_v73) i = v0 c i)
          ∧ (∀ i : (⟨5, ![16, 2, 5, 256, 128]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 i = 1#1 → r.2.mem ((c.tc : Thread Cert.DiffRefIdeal.nD Cert.DiffRefIdeal.τ).loc Cert.DiffRefIdeal.main_v77) i = v1 c i)
          ∧ (∀ i : (⟨5, ![16, 2, 5, 256, 128]⟩ : Shape).Idx, (Cert.On_prompt_rows_b.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2 i = 1#1 → r.2.mem ((c.tc : Thread Cert.DiffRefIdeal.nD Cert.DiffRefIdeal.τ).loc Cert.DiffRefIdeal.main_v81) i = v2 c i)
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4))

def preserves_Attn_AttnIdeal : Prop :=
  True

def algebraic_AttnIdeal_AttnRefIdeal_on_prompt_rows_a_pre_tiles_finite_a [hAttnIdeal : Cert.AttnIdeal.Facts] [hAttnRefIdeal : Cert.AttnRefIdeal.Facts] [hPre_tiles_finite_a : Cert.Pre_tiles_finite_a.Facts] [hOn_prompt_rows_a : Cert.On_prompt_rows_a.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_tiles_finite_a m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![8192, 768]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 i = 1#1 → r.2.mem ((c.tc : Thread Cert.AttnIdeal.nD Cert.AttnIdeal.τ).loc Cert.AttnIdeal.main_v0_0) i = v0 c i)
          ∧ (∀ i : (⟨5, ![16, 2, 6, 256, 128]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 i = 1#1 → r.2.mem ((c.tc : Thread Cert.AttnIdeal.nD Cert.AttnIdeal.τ).loc Cert.AttnIdeal.main_v0_1) i = v1 c i)
          ∧ (∀ i : (⟨5, ![16, 2, 6, 256, 128]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 i = 1#1 → r.2.mem ((c.tc : Thread Cert.AttnIdeal.nD Cert.AttnIdeal.τ).loc Cert.AttnIdeal.main_v0_2) i = v2 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![8192, 768]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 i = 1#1 → r.2.mem ((c.tc : Thread Cert.AttnRefIdeal.nD Cert.AttnRefIdeal.τ).loc Cert.AttnRefIdeal.main_v23) i = v0 c i)
          ∧ (∀ i : (⟨5, ![16, 2, 6, 256, 128]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 i = 1#1 → r.2.mem ((c.tc : Thread Cert.AttnRefIdeal.nD Cert.AttnRefIdeal.τ).loc Cert.AttnRefIdeal.main_v27) i = v1 c i)
          ∧ (∀ i : (⟨5, ![16, 2, 6, 256, 128]⟩ : Shape).Idx, (Cert.On_prompt_rows_a.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 i = 1#1 → r.2.mem ((c.tc : Thread Cert.AttnRefIdeal.nD Cert.AttnRefIdeal.τ).loc Cert.AttnRefIdeal.main_v31) i = v2 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Up_UpIdeal : Prop :=
  True

def algebraic_UpIdeal_UpRefIdeal_on_real_rows_pre_gate_finite [hUpIdeal : Cert.UpIdeal.Facts] [hUpRefIdeal : Cert.UpRefIdeal.Facts] [hPre_gate_finite : Cert.Pre_gate_finite.Facts] [hOn_real_rows : Cert.On_real_rows.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_gate_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v18_0)) (v1 : (c : Dev Cert.UpIdeal.nD) → Buf (Elt Ideal) ((c.tc : Thread Cert.UpIdeal.nD Cert.UpIdeal.τ).loc Cert.UpIdeal.main_v18_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          (∀ i : (⟨2, ![8192, 5632]⟩ : Shape).Idx, (Cert.On_real_rows.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 i = 1#1 → r.2.mem ((c.tc : Thread Cert.UpIdeal.nD Cert.UpIdeal.τ).loc Cert.UpIdeal.main_v18_0) i = v0 c i)
          ∧ (∀ i : (⟨2, ![5632, 2048]⟩ : Shape).Idx, (Cert.On_real_rows.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2 i = 1#1 → r.2.mem ((c.tc : Thread Cert.UpIdeal.nD Cert.UpIdeal.τ).loc Cert.UpIdeal.main_v18_1) i = v1 c i)
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          (∀ i : (⟨2, ![8192, 5632]⟩ : Shape).Idx, (Cert.On_real_rows.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 i = 1#1 → r.2.mem ((c.tc : Thread Cert.UpRefIdeal.nD Cert.UpRefIdeal.τ).loc Cert.UpRefIdeal.main_v76) i = v0 c i)
          ∧ (∀ i : (⟨2, ![5632, 2048]⟩ : Shape).Idx, (Cert.On_real_rows.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2 i = 1#1 → r.2.mem ((c.tc : Thread Cert.UpRefIdeal.nD Cert.UpRefIdeal.τ).loc Cert.UpRefIdeal.main_v80) i = v1 c i)
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_v11) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hMods : Cert.Mods.Facts) (hModsIdeal : Cert.ModsIdeal.Facts) (hModsRefIdeal : Cert.ModsRefIdeal.Facts) (hModulate : Cert.Modulate.Facts) (hModulateIdeal : Cert.ModulateIdeal.Facts) (hModulateRefIdeal : Cert.ModulateRefIdeal.Facts) (hDown : Cert.Down.Facts) (hDownIdeal : Cert.DownIdeal.Facts) (hDownRefIdeal : Cert.DownRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hDiff : Cert.Diff.Facts) (hDiffIdeal : Cert.DiffIdeal.Facts) (hDiffRefIdeal : Cert.DiffRefIdeal.Facts) (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hInProj : Cert.InProj.Facts) (hInProjIdeal : Cert.InProjIdeal.Facts) (hInProjRefIdeal : Cert.InProjRefIdeal.Facts) (hPre_tiles_finite_b : Cert.Pre_tiles_finite_b.Facts) (hPre_tiles_finite_a : Cert.Pre_tiles_finite_a.Facts) (hPre_gate_finite : Cert.Pre_gate_finite.Facts) (hOn_prompt_rows_b : Cert.On_prompt_rows_b.Facts) (hOn_prompt_rows_a : Cert.On_prompt_rows_a.Facts) (hOn_real_rows : Cert.On_real_rows.Facts),
    quiescent_Mods (hMods := hMods)
    ∧ quiescent_ModsIdeal (hModsIdeal := hModsIdeal)
    ∧ quiescent_ModsRefIdeal (hModsRefIdeal := hModsRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_Down (hDown := hDown)
    ∧ quiescent_DownIdeal (hDownIdeal := hDownIdeal)
    ∧ quiescent_DownRefIdeal (hDownRefIdeal := hDownRefIdeal)
    ∧ quiescent_Last (hLast := hLast)
    ∧ quiescent_LastIdeal (hLastIdeal := hLastIdeal)
    ∧ quiescent_LastRefIdeal (hLastRefIdeal := hLastRefIdeal)
    ∧ quiescent_Out (hOut := hOut)
    ∧ quiescent_OutIdeal (hOutIdeal := hOutIdeal)
    ∧ quiescent_OutRefIdeal (hOutRefIdeal := hOutRefIdeal)
    ∧ quiescent_Diff (hDiff := hDiff)
    ∧ quiescent_DiffIdeal (hDiffIdeal := hDiffIdeal)
    ∧ quiescent_DiffIdeal_pre_tiles_finite_b (hDiffIdeal := hDiffIdeal) (hPre_tiles_finite_b := hPre_tiles_finite_b)
    ∧ quiescent_DiffRefIdeal (hDiffRefIdeal := hDiffRefIdeal)
    ∧ quiescent_DiffRefIdeal_pre_tiles_finite_b (hDiffRefIdeal := hDiffRefIdeal) (hPre_tiles_finite_b := hPre_tiles_finite_b)
    ∧ quiescent_Attn (hAttn := hAttn)
    ∧ quiescent_AttnIdeal (hAttnIdeal := hAttnIdeal)
    ∧ quiescent_AttnIdeal_pre_tiles_finite_a (hAttnIdeal := hAttnIdeal) (hPre_tiles_finite_a := hPre_tiles_finite_a)
    ∧ quiescent_AttnRefIdeal (hAttnRefIdeal := hAttnRefIdeal)
    ∧ quiescent_AttnRefIdeal_pre_tiles_finite_a (hAttnRefIdeal := hAttnRefIdeal) (hPre_tiles_finite_a := hPre_tiles_finite_a)
    ∧ quiescent_Up (hUp := hUp)
    ∧ quiescent_UpIdeal (hUpIdeal := hUpIdeal)
    ∧ quiescent_UpIdeal_pre_gate_finite (hUpIdeal := hUpIdeal) (hPre_gate_finite := hPre_gate_finite)
    ∧ quiescent_UpRefIdeal (hUpRefIdeal := hUpRefIdeal)
    ∧ quiescent_UpRefIdeal_pre_gate_finite (hUpRefIdeal := hUpRefIdeal) (hPre_gate_finite := hPre_gate_finite)
    ∧ quiescent_InProj (hInProj := hInProj)
    ∧ quiescent_InProjIdeal (hInProjIdeal := hInProjIdeal)
    ∧ quiescent_InProjRefIdeal (hInProjRefIdeal := hInProjRefIdeal)
    ∧ preserves_Mods_ModsIdeal
    ∧ algebraic_ModsIdeal_ModsRefIdeal (hModsIdeal := hModsIdeal) (hModsRefIdeal := hModsRefIdeal)
    ∧ preserves_Modulate_ModulateIdeal
    ∧ algebraic_ModulateIdeal_ModulateRefIdeal (hModulateIdeal := hModulateIdeal) (hModulateRefIdeal := hModulateRefIdeal)
    ∧ preserves_Down_DownIdeal
    ∧ algebraic_DownIdeal_DownRefIdeal (hDownIdeal := hDownIdeal) (hDownRefIdeal := hDownRefIdeal)
    ∧ preserves_Last_LastIdeal
    ∧ algebraic_LastIdeal_LastRefIdeal (hLastIdeal := hLastIdeal) (hLastRefIdeal := hLastRefIdeal)
    ∧ preserves_Out_OutIdeal
    ∧ algebraic_OutIdeal_OutRefIdeal (hOutIdeal := hOutIdeal) (hOutRefIdeal := hOutRefIdeal)
    ∧ preserves_Diff_DiffIdeal
    ∧ algebraic_DiffIdeal_DiffRefIdeal_on_prompt_rows_b_pre_tiles_finite_b (hDiffIdeal := hDiffIdeal) (hDiffRefIdeal := hDiffRefIdeal) (hPre_tiles_finite_b := hPre_tiles_finite_b) (hOn_prompt_rows_b := hOn_prompt_rows_b)
    ∧ preserves_Attn_AttnIdeal
    ∧ algebraic_AttnIdeal_AttnRefIdeal_on_prompt_rows_a_pre_tiles_finite_a (hAttnIdeal := hAttnIdeal) (hAttnRefIdeal := hAttnRefIdeal) (hPre_tiles_finite_a := hPre_tiles_finite_a) (hOn_prompt_rows_a := hOn_prompt_rows_a)
    ∧ preserves_Up_UpIdeal
    ∧ algebraic_UpIdeal_UpRefIdeal_on_real_rows_pre_gate_finite (hUpIdeal := hUpIdeal) (hUpRefIdeal := hUpRefIdeal) (hPre_gate_finite := hPre_gate_finite) (hOn_real_rows := hOn_real_rows)
    ∧ preserves_InProj_InProjIdeal
    ∧ algebraic_InProjIdeal_InProjRefIdeal (hInProjIdeal := hInProjIdeal) (hInProjRefIdeal := hInProjRefIdeal)
-- ==== On_prompt_rows_a.lean ====
abbrev S54x8192x128 : Shape := ⟨3, ![54, 8192, 128]⟩
abbrev S16x2x6x256x128 : Shape := ⟨5, ![16, 2, 6, 256, 128]⟩
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  bcast_S_S16x2x6x256x128 : S_.BroadcastsInDim S16x2x6x256x128 (![] : Fin 0 → Fin S16x2x6x256x128.rank)

variable [Facts]

def fn {F : FTy → Type} [FloatOps F] (main_arg0 : FVec F S54x8192x128 .f32) (main_arg1 : FVec F S16x2x6x256x128 .f32) (main_arg2 : FVec F S16x2x6x256x128 .f32) : IVec S8192x768 1 × IVec S16x2x6x256x128 1 × IVec S16x2x6x256x128 1 :=
  let main_v0 : IVec S8192x768 32 := iotaInDim S8192x768 32 0
  let main_c : IVec S_ 32 := constantI S_ 32 4096#32
  let main_v1 : IVec S8192x768 32 := broadcastInDim S8192x768 ![] bcast_S_S8192x768 main_c
  let main_v2 : IVec S8192x768 1 := cmpi .slt main_v0 main_v1
  let main_c_0 : IVec S_ 1 := constantI S_ 1 1#1
  let main_v3 : IVec S16x2x6x256x128 1 := broadcastInDim S16x2x6x256x128 ![] bcast_S_S16x2x6x256x128 main_c_0
  let main_c_1 : IVec S_ 1 := constantI S_ 1 1#1
  let main_v4 : IVec S16x2x6x256x128 1 := broadcastInDim S16x2x6x256x128 ![] bcast_S_S16x2x6x256x128 main_c_1
  (main_v2, main_v3, main_v4)
-- ==== On_prompt_rows_b.lean ====
abbrev S54x8192x128 : Shape := ⟨3, ![54, 8192, 128]⟩
abbrev S4x64 : Shape := ⟨2, ![4, 64]⟩
abbrev S128 : Shape := ⟨1, ![128]⟩
abbrev S16x2x5x256x128 : Shape := ⟨5, ![16, 2, 5, 256, 128]⟩
abbrev S8192x640 : Shape := ⟨2, ![8192, 640]⟩
abbrev S_ : Shape := ⟨0, ![]⟩

class Facts : Prop where
  bcast_S_S8192x640 : S_.BroadcastsInDim S8192x640 (![] : Fin 0 → Fin S8192x640.rank)
  bcast_S_S16x2x5x256x128 : S_.BroadcastsInDim S16x2x5x256x128 (![] : Fin 0 → Fin S16x2x5x256x128.rank)

variable [Facts]

def fn {F : FTy → Type} [FloatOps F] (main_arg0 : FVec F S54x8192x128 .f32) (main_arg1 : FVec F S4x64 .f32) (main_arg2 : FVec F S128 .f32) (main_arg3 : FVec F S16x2x5x256x128 .f32) (main_arg4 : FVec F S16x2x5x256x128 .f32) : IVec S8192x640 1 × IVec S16x2x5x256x128 1 × IVec S16x2x5x256x128 1 :=
  let main_v0 : IVec S8192x640 32 := iotaInDim S8192x640 32 0
  let main_c : IVec S_ 32 := constantI S_ 32 4096#32
  let main_v1 : IVec S8192x640 32 := broadcastInDim S8192x640 ![] bcast_S_S8192x640 main_c
  let main_v2 : IVec S8192x640 1 := cmpi .slt main_v0 main_v1
  let main_c_0 : IVec S_ 1 := constantI S_ 1 1#1
  let main_v3 : IVec S16x2x5x256x128 1 := broadcastInDim S16x2x5x256x128 ![] bcast_S_S16x2x5x256x128 main_c_0
  let main_c_1 : IVec S_ 1 := constantI S_ 1 1#1
  let main_v4 : IVec S16x2x5x256x128 1 := broadcastInDim S16x2x5x256x128 ![] bcast_S_S16x2x5x256x128 main_c_1
  (main_v2, main_v3, main_v4)
-- ==== On_real_rows.lean ====
abbrev S8192x2048 : Shape := ⟨2, ![8192, 2048]⟩
abbrev S2x2048x11008 : Shape := ⟨3, ![2, 2048, 11008]⟩
abbrev S2x3x11008 : Shape := ⟨3, ![2, 3, 11008]⟩
abbrev S2x11008 : Shape := ⟨2, ![2, 11008]⟩
abbrev S2x5504x2048 : Shape := ⟨3, ![2, 5504, 2048]⟩
abbrev S_ : Shape := ⟨0, ![]⟩
abbrev S8192x5632 : Shape := ⟨2, ![8192, 5632]⟩
abbrev S5632x2048 : Shape := ⟨2, ![5632, 2048]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)

variable [Facts]

def fn {F : FTy → Type} [FloatOps F] (main_arg0 : FVec F S8192x2048 .bf16) (main_arg1 : FVec F S2x2048x11008 .f32) (main_arg2 : FVec F S2x3x11008 .f32) (main_arg3 : FVec F S2x11008 .f32) (main_arg4 : FVec F S2x5504x2048 .f32) : IVec S8192x5632 1 × IVec S5632x2048 1 :=
  let main_c : IVec S_ 1 := constantI S_ 1 1#1
  let main_v0 : IVec S8192x5632 1 := broadcastInDim S8192x5632 ![] bcast_S_S8192x5632 main_c
  let main_v1 : IVec S5632x2048 32 := iotaInDim S5632x2048 32 0
  let main_c_0 : IVec S_ 32 := constantI S_ 32 5504#32
  let main_v2 : IVec S5632x2048 32 := broadcastInDim S5632x2048 ![] bcast_S_S5632x2048 main_c_0
  let main_v3 : IVec S5632x2048 1 := cmpi .slt main_v1 main_v2
  (main_v0, main_v3)
-- ==== Pre_gate_finite.lean ====
abbrev S8192x2048 : Shape := ⟨2, ![8192, 2048]⟩
abbrev S2x2048x11008 : Shape := ⟨3, ![2, 2048, 11008]⟩
abbrev S2x3x11008 : Shape := ⟨3, ![2, 3, 11008]⟩
abbrev S2x11008 : Shape := ⟨2, ![2, 11008]⟩
abbrev S2x5504x2048 : Shape := ⟨3, ![2, 5504, 2048]⟩
abbrev S1x2048x11008 : Shape := ⟨3, ![1, 2048, 11008]⟩
abbrev S2048x11008 : Shape := ⟨2, ![2048, 11008]⟩
abbrev S2048x5504 : Shape := ⟨2, ![2048, 5504]⟩
abbrev S1x3x11008 : Shape := ⟨3, ![1, 3, 11008]⟩
abbrev S3x11008 : Shape := ⟨2, ![3, 11008]⟩
abbrev S3x5504 : Shape := ⟨2, ![3, 5504]⟩
abbrev S1x11008 : Shape := ⟨2, ![1, 11008]⟩
abbrev S11008 : Shape := ⟨1, ![11008]⟩
abbrev S5504 : Shape := ⟨1, ![5504]⟩
abbrev S_ : Shape := ⟨0, ![]⟩

class Facts : Prop where
  slices_S2x2048x11008_S1x2048x11008_0_0_0 : S2x2048x11008.Slices ![0, 0, 0] S1x2048x11008
  shapeCasts_S1x2048x11008_S2048x11008 : S1x2048x11008.ShapeCasts S2048x11008
  slices_S2048x11008_S2048x5504_0_5504 : S2048x11008.Slices ![0, 5504] S2048x5504
  slices_S2x3x11008_S1x3x11008_0_0_0 : S2x3x11008.Slices ![0, 0, 0] S1x3x11008
  shapeCasts_S1x3x11008_S3x11008 : S1x3x11008.ShapeCasts S3x11008
  slices_S3x11008_S3x5504_0_5504 : S3x11008.Slices ![0, 5504] S3x5504
  slices_S2x11008_S1x11008_0_0 : S2x11008.Slices ![0, 0] S1x11008
  shapeCasts_S1x11008_S11008 : S1x11008.ShapeCasts S11008
  slices_S11008_S5504_5504 : S11008.Slices ![5504] S5504
  bcast_S_S8192x2048 : S_.BroadcastsInDim S8192x2048 (![] : Fin 0 → Fin S8192x2048.rank)
  bcast_S_S2048x5504 : S_.BroadcastsInDim S2048x5504 (![] : Fin 0 → Fin S2048x5504.rank)
  bcast_S_S3x5504 : S_.BroadcastsInDim S3x5504 (![] : Fin 0 → Fin S3x5504.rank)
  bcast_S_S5504 : S_.BroadcastsInDim S5504 (![] : Fin 0 → Fin S5504.rank)

variable [Facts]

def fn_part1 {F : FTy → Type} [FloatOps F] (main_v11 : IVec S8192x2048 1) (main_v14 : IVec S2048x5504 1) (main_v17 : IVec S3x5504 1) (main_v18 : FVec F S5504 .f32) (main_v19 : FVec F S5504 .f32) : IVec S8192x2048 1 × IVec S2048x5504 1 × IVec S3x5504 1 × IVec S5504 1 :=
  let main_v20 : IVec S5504 1 := cmpf .olt main_v18 main_v19
  (main_v11, main_v14, main_v17, main_v20)

def fn {F : FTy → Type} [FloatOps F] (main_arg0 : FVec F S8192x2048 .bf16) (main_arg1 : FVec F S2x2048x11008 .f32) (main_arg2 : FVec F S2x3x11008 .f32) (main_arg3 : FVec F S2x11008 .f32) (main_arg4 : FVec F S2x5504x2048 .f32) : IVec S8192x2048 1 × IVec S2048x5504 1 × IVec S3x5504 1 × IVec S5504 1 :=
  let main_v0 : FVec F S1x2048x11008 .f32 := (extractStridedSlice S1x2048x11008 ![0, 0, 0] · slices_S2x2048x11008_S1x2048x11008_0_0_0) main_arg1
  let main_v1 : FVec F S2048x11008 .f32 := shapeCast S2048x11008 main_v0 shapeCasts_S1x2048x11008_S2048x11008
  let main_v2 : FVec F S2048x5504 .f32 := (extractStridedSlice S2048x5504 ![0, 5504] · slices_S2048x11008_S2048x5504_0_5504) main_v1
  let main_v3 : FVec F S1x3x11008 .f32 := (extractStridedSlice S1x3x11008 ![0, 0, 0] · slices_S2x3x11008_S1x3x11008_0_0_0) main_arg2
  let main_v4 : FVec F S3x11008 .f32 := shapeCast S3x11008 main_v3 shapeCasts_S1x3x11008_S3x11008
  let main_v5 : FVec F S3x5504 .f32 := (extractStridedSlice S3x5504 ![0, 5504] · slices_S3x11008_S3x5504_0_5504) main_v4
  let main_v6 : FVec F S1x11008 .f32 := (extractStridedSlice S1x11008 ![0, 0] · slices_S2x11008_S1x11008_0_0) main_arg3
  let main_v7 : FVec F S11008 .f32 := shapeCast S11008 main_v6 shapeCasts_S1x11008_S11008
  let main_v8 : FVec F S5504 .f32 := (extractStridedSlice S5504 ![5504] · slices_S11008_S5504_5504) main_v7
  let main_v9 : FVec F S8192x2048 .bf16 := Host.absf main_arg0
  let main_cst : FVec F S_ .bf16 := constant S_ .bf16 0x7F80#16
  let main_v10 : FVec F S8192x2048 .bf16 := broadcastInDim S8192x2048 ![] bcast_S_S8192x2048 main_cst
  let main_v11 : IVec S8192x2048 1 := cmpf .olt main_v9 main_v10
  let main_v12 : FVec F S2048x5504 .f32 := Host.absf main_v2
  let main_cst_0 : FVec F S_ .f32 := constant S_ .f32 0x7F800000#32
  let main_v13 : FVec F S2048x5504 .f32 := broadcastInDim S2048x5504 ![] bcast_S_S2048x5504 main_cst_0
  let main_v14 : IVec S2048x5504 1 := cmpf .olt main_v12 main_v13
  let main_v15 : FVec F S3x5504 .f32 := Host.absf main_v5
  let main_cst_1 : FVec F S_ .f32 := constant S_ .f32 0x7F800000#32
  let main_v16 : FVec F S3x5504 .f32 := broadcastInDim S3x5504 ![] bcast_S_S3x5504 main_cst_1
  let main_v17 : IVec S3x5504 1 := cmpf .olt main_v15 main_v16
  let main_v18 : FVec F S5504 .f32 := Host.absf main_v8
  let main_cst_2 : FVec F S_ .f32 := constant S_ .f32 0x7F800000#32
  let main_v19 : FVec F S5504 .f32 := broadcastInDim S5504 ![] bcast_S_S5504 main_cst_2
  fn_part1 (F := F) main_v11 main_v14 main_v17 main_v18 main_v19
-- ==== Pre_tiles_finite_a.lean ====
abbrev S54x8192x128 : Shape := ⟨3, ![54, 8192, 128]⟩
abbrev S16x2x6x256x128 : Shape := ⟨5, ![16, 2, 6, 256, 128]⟩
abbrev S12x4096x128 : Shape := ⟨3, ![12, 4096, 128]⟩
abbrev S_ : Shape := ⟨0, ![]⟩

class Facts : Prop where
  slices_S54x8192x128_S12x4096x128_0_0_0 : S54x8192x128.Slices ![0, 0, 0] S12x4096x128
  bcast_S_S12x4096x128 : S_.BroadcastsInDim S12x4096x128 (![] : Fin 0 → Fin S12x4096x128.rank)

variable [Facts]

def fn {F : FTy → Type} [FloatOps F] (main_arg0 : FVec F S54x8192x128 .f32) (main_arg1 : FVec F S16x2x6x256x128 .f32) (main_arg2 : FVec F S16x2x6x256x128 .f32) : IVec S12x4096x128 1 :=
  let main_v0 : FVec F S12x4096x128 .f32 := (extractStridedSlice S12x4096x128 ![0, 0, 0] · slices_S54x8192x128_S12x4096x128_0_0_0) main_arg0
  let main_v1 : FVec F S12x4096x128 .f32 := Host.absf main_v0
  let main_cst : FVec F S_ .f32 := constant S_ .f32 0x7F800000#32
  let main_v2 : FVec F S12x4096x128 .f32 := broadcastInDim S12x4096x128 ![] bcast_S_S12x4096x128 main_cst
  let main_v3 : IVec S12x4096x128 1 := cmpf .olt main_v1 main_v2
  main_v3
-- ==== Pre_tiles_finite_b.lean ====
abbrev S54x8192x128 : Shape := ⟨3, ![54, 8192, 128]⟩
abbrev S4x64 : Shape := ⟨2, ![4, 64]⟩
abbrev S128 : Shape := ⟨1, ![128]⟩
abbrev S16x2x5x256x128 : Shape := ⟨5, ![16, 2, 5, 256, 128]⟩
abbrev S15x4096x128 : Shape := ⟨3, ![15, 4096, 128]⟩
abbrev S_ : Shape := ⟨0, ![]⟩
abbrev S1x64 : Shape := ⟨2, ![1, 64]⟩
abbrev S64 : Shape := ⟨1, ![64]⟩

class Facts : Prop where
  slices_S54x8192x128_S15x4096x128_18_0_0 : S54x8192x128.Slices ![18, 0, 0] S15x4096x128
  bcast_S_S15x4096x128 : S_.BroadcastsInDim S15x4096x128 (![] : Fin 0 → Fin S15x4096x128.rank)
  slices_S4x64_S1x64_0_0 : S4x64.Slices ![0, 0] S1x64
  shapeCasts_S1x64_S64 : S1x64.ShapeCasts S64
  slices_S4x64_S1x64_1_0 : S4x64.Slices ![1, 0] S1x64
  reducesTo_S64_S_d0 : S64.ReducesTo [0] S_
  h_S_ : 0 < S_.numel
  slices_S4x64_S1x64_2_0 : S4x64.Slices ![2, 0] S1x64
  slices_S4x64_S1x64_3_0 : S4x64.Slices ![3, 0] S1x64

variable [Facts]

def fn_part1 {F : FTy → Type} [FloatOps F] (main_v3 : IVec S15x4096x128 1) (main_v19 : FVec F S_ .f32) : IVec S15x4096x128 1 × IVec S_ 1 :=
  let main_v20 : FVec F S_ .f32 := Host.absf main_v19
  let main_cst_3 : FVec F S_ .f32 := constant S_ .f32 0x7F800000#32
  let main_v21 : IVec S_ 1 := cmpf .olt main_v20 main_cst_3
  (main_v3, main_v21)

def fn {F : FTy → Type} [FloatOps F] (main_arg0 : FVec F S54x8192x128 .f32) (main_arg1 : FVec F S4x64 .f32) (main_arg2 : FVec F S128 .f32) (main_arg3 : FVec F S16x2x5x256x128 .f32) (main_arg4 : FVec F S16x2x5x256x128 .f32) : IVec S15x4096x128 1 × IVec S_ 1 :=
  let main_v0 : FVec F S15x4096x128 .f32 := (extractStridedSlice S15x4096x128 ![18, 0, 0] · slices_S54x8192x128_S15x4096x128_18_0_0) main_arg0
  let main_v1 : FVec F S15x4096x128 .f32 := Host.absf main_v0
  let main_cst : FVec F S_ .f32 := constant S_ .f32 0x7F800000#32
  let main_v2 : FVec F S15x4096x128 .f32 := broadcastInDim S15x4096x128 ![] bcast_S_S15x4096x128 main_cst
  let main_v3 : IVec S15x4096x128 1 := cmpf .olt main_v1 main_v2
  let main_v4 : FVec F S1x64 .f32 := (extractStridedSlice S1x64 ![0, 0] · slices_S4x64_S1x64_0_0) main_arg1
  let main_v5 : FVec F S64 .f32 := shapeCast S64 main_v4 shapeCasts_S1x64_S64
  let main_v6 : FVec F S1x64 .f32 := (extractStridedSlice S1x64 ![1, 0] · slices_S4x64_S1x64_1_0) main_arg1
  let main_v7 : FVec F S64 .f32 := shapeCast S64 main_v6 shapeCasts_S1x64_S64
  let main_v8 : FVec F S64 .f32 := mulf main_v5 main_v7
  let main_cst_0 : FVec F S_ .f32 := constant S_ .f32 0x00000000#32
  let main_v9 : FVec F S_ .f32 := (fun x v => Host.reduceAdd x v reducesTo_S64_S_d0 h_S_) main_v8 main_cst_0
  let main_v10 : FVec F S_ .f32 := Host.exp main_v9
  let main_v11 : FVec F S1x64 .f32 := (extractStridedSlice S1x64 ![2, 0] · slices_S4x64_S1x64_2_0) main_arg1
  let main_v12 : FVec F S64 .f32 := shapeCast S64 main_v11 shapeCasts_S1x64_S64
  let main_v13 : FVec F S1x64 .f32 := (extractStridedSlice S1x64 ![3, 0] · slices_S4x64_S1x64_3_0) main_arg1
  let main_v14 : FVec F S64 .f32 := shapeCast S64 main_v13 shapeCasts_S1x64_S64
  let main_v15 : FVec F S64 .f32 := mulf main_v12 main_v14
  let main_cst_1 : FVec F S_ .f32 := constant S_ .f32 0x00000000#32
  let main_v16 : FVec F S_ .f32 := (fun x v => Host.reduceAdd x v reducesTo_S64_S_d0 h_S_) main_v15 main_cst_1
  let main_v17 : FVec F S_ .f32 := Host.exp main_v16
  let main_v18 : FVec F S_ .f32 := subf main_v10 main_v17
  let main_cst_2 : FVec F S_ .f32 := constant S_ .f32 0x3EB60549#32
  let main_v19 : FVec F S_ .f32 := addf main_v18 main_cst_2
  fn_part1 (F := F) main_v3 main_v19
-- ==== Mods.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Modulate.lean ====
abbrev S16x256x2048 : Shape := ⟨3, ![16, 256, 2048]⟩
abbrev S2x2048x2048 : Shape := ⟨3, ![2, 2048, 2048]⟩
abbrev S2x8x12288 : Shape := ⟨3, ![2, 8, 12288]⟩
abbrev S4096x2048 : Shape := ⟨2, ![4096, 2048]⟩
abbrev S8192x2048 : Shape := ⟨2, ![8192, 2048]⟩
abbrev S512x2048 : Shape := ⟨2, ![512, 2048]⟩
abbrev S1x8x2048 : Shape := ⟨3, ![1, 8, 2048]⟩
abbrev S1x1x2048 : Shape := ⟨3, ![1, 1, 2048]⟩
abbrev S1x2048 : Shape := ⟨2, ![1, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16x256x2048, .f32⟩
  | .hbm, ⟨1, _⟩ => ⟨S2x2048x2048, .f32⟩
  | .hbm, ⟨2, _⟩ => ⟨S2x8x12288, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x8x2048, .f32⟩
  | .local _ .vmem, ⟨5, _⟩ => ⟨S1x8x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let v2 : BitVec 32 := Scalar.extui v1
  let c0_i32 : BitVec 32 := 0#32
  let v3 : BitVec 1 := Scalar.cmpi .ne v2 c0_i32
  v3

def k0_off1 (i : grid0.Coords) : Fin 3 → Nat :=
  let c0_16 : Index := 0#32
  let arg0 : BitVec 32 := BitVec.ofNat 32 (i 0).val
  let c512_i32_3 : BitVec 32 := 512#32
  let v8 : BitVec 32 := Scalar.muli arg0 c512_i32_3
  let c4096_i32_4 : BitVec 32 := 4096#32
  let v9 : BitVec 1 := Scalar.cmpi .slt v8 c4096_i32_4
  let c0_i32_12 : BitVec 32 := 0#32
  let c1_i32_11 : BitVec 32 := 1#32
  let c4096_i32_5 : BitVec 32 := 4096#32
  let v10 : BitVec 32 := Scalar.subi v8 c4096_i32_5
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2048_i32 : BitVec 32 := 2048#32
  let c0_i32_8 : BitVec 32 := 0#32
  let v17 : BitVec 1 := Scalar.cmpi .sgt c2048_i32 c0_i32_8
  let v18 : BitVec 32 := Scalar.extui v17
  let c0_i32_9 : BitVec 32 := 0#32
  let v19 : BitVec 1 := Scalar.cmpi .slt c2048_i32 c0_i32_9
  let v20 : BitVec 32 := Scalar.extui v19
  let v21 : BitVec 32 := Scalar.subi v18 v20
  let v22 : BitVec 1 := Scalar.cmpi .ne v16 v21
  let v23 : BitVec 32 := Scalar.remsi v10 c2048_i32
  let c0_i32_10 : BitVec 32 := 0#32
  let v24 : BitVec 1 := Scalar.cmpi .ne v23 c0_i32_10
  let v25 : BitVec 1 := Scalar.andi v22 v24
  let v11 : BitVec 32 := Scalar.divsi v10 c2048_i32
  let c1_i32 : BitVec 32 := 1#32
  let v26 : BitVec 32 := Scalar.subi v11 c1_i32
  let v27 : BitVec 32 := Scalar.select v25 v26 v11
  let v28 : BitVec 32 := Scalar.addi c1_i32_11 v27
  let v29 : BitVec 32 := Scalar.select v9 c0_i32_12 v28
  let v33 : Index := Scalar.indexCast v29
  let c0_17 : Index := 0#32
  ![0, v33.toNat, 0]
def k0_cond2 (i : grid0.Coords) : BitVec 1 :=
  let arg0 : BitVec 32 := BitVec.ofNat 32 (i 0).val
  let c512_i32_0 : BitVec 32 := 512#32
  let v4 : BitVec 32 := Scalar.muli arg0 c512_i32_0
  let c4096_i32_1 : BitVec 32 := 4096#32
  let v5 : BitVec 1 := Scalar.cmpi .sge v4 c4096_i32_1
  let v6 : BitVec 32 := Scalar.extui v5
  let c0_i32_2 : BitVec 32 := 0#32
  let v7 : BitVec 1 := Scalar.cmpi .ne v6 c0_i32_2
  v7

def k0_off2 (i : grid0.Coords) : Fin 3 → Nat :=
  let c0_16 : Index := 0#32
  let arg0 : BitVec 32 := BitVec.ofNat 32 (i 0).val
  let c512_i32_3 : BitVec 32 := 512#32
  let v8 : BitVec 32 := Scalar.muli arg0 c512_i32_3
  let c4096_i32_4 : BitVec 32 := 4096#32
  let v9 : BitVec 1 := Scalar.cmpi .slt v8 c4096_i32_4
  let c0_i32_12 : BitVec 32 := 0#32
  let c1_i32_11 : BitVec 32 := 1#32
  let c4096_i32_5 : BitVec 32 := 4096#32
  let v10 : BitVec 32 := Scalar.subi v8 c4096_i32_5
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2048_i32 : BitVec 32 := 2048#32
  let c0_i32_8 : BitVec 32 := 0#32
  let v17 : BitVec 1 := Scalar.cmpi .sgt c2048_i32 c0_i32_8
  let v18 : BitVec 32 := Scalar.extui v17
  let c0_i32_9 : BitVec 32 := 0#32
  let v19 : BitVec 1 := Scalar.cmpi .slt c2048_i32 c0_i32_9
  let v20 : BitVec 32 := Scalar.extui v19
  let v21 : BitVec 32 := Scalar.subi v18 v20
  let v22 : BitVec 1 := Scalar.cmpi .ne v16 v21
  let v23 : BitVec 32 := Scalar.remsi v10 c2048_i32
  let c0_i32_10 : BitVec 32 := 0#32
  let v24 : BitVec 1 := Scalar.cmpi .ne v23 c0_i32_10
  let v25 : BitVec 1 := Scalar.andi v22 v24
  let v11 : BitVec 32 := Scalar.divsi v10 c2048_i32
  let c1_i32 : BitVec 32 := 1#32
  let v26 : BitVec 32 := Scalar.subi v11 c1_i32
  let v27 : BitVec 32 := Scalar.select v25 v26 v11
  let v28 : BitVec 32 := Scalar.addi c1_i32_11 v27
  let v29 : BitVec 32 := Scalar.select v9 c0_i32_12 v28
  let v33 : Index := Scalar.indexCast v29
  let c0_17 : Index := 0#32
  ![0, v33.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModulateRefIdeal.lean ====
abbrev S16x256x2048 : Shape := ⟨3, ![16, 256, 2048]⟩
abbrev S2x2048x2048 : Shape := ⟨3, ![2, 2048, 2048]⟩
abbrev S2x8x12288 : Shape := ⟨3, ![2, 8, 12288]⟩
abbrev S4096x2048 : Shape := ⟨2, ![4096, 2048]⟩
abbrev S8192x2048 : Shape := ⟨2, ![8192, 2048]⟩
abbrev S1x8x2048 : Shape := ⟨3, ![1, 8, 2048]⟩
abbrev S8x2048 : Shape := ⟨2, ![8, 2048]⟩
abbrev S1x2048 : Shape := ⟨2, ![1, 2048]⟩
abbrev S1x1x2048 : Shape := ⟨3, ![1, 1, 2048]⟩
abbrev S2x2048 : Shape := ⟨2, ![2, 2048]⟩
abbrev S2x1x2048 : Shape := ⟨3, ![2, 1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2x2048x2048, .f32⟩
  | .hbm, ⟨2, _⟩ => ⟨S2x8x12288, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S1x8x2048, .f32⟩
  | .hbm, ⟨7, _⟩ => ⟨S8x2048, .f32⟩
  | .hbm, ⟨8, _⟩ => ⟨S1x2048, .f32⟩
  | .hbm, ⟨9, _⟩ => ⟨S1x1x2048, .f32⟩
  | .hbm, ⟨10, _⟩ => ⟨S16x256x2048, .f32⟩
  | .hbm, ⟨11, _⟩ => ⟨S4096x2048, .f32⟩
  | .hbm, ⟨12, _⟩ => ⟨S2x2048, .f32⟩
  | .hbm, ⟨13, _⟩ => ⟨S2x1x2048, .f32⟩
  | .hbm, ⟨14, _⟩ => ⟨S2x2048x2048, .f32⟩
  | .hbm, ⟨15, _⟩ => ⟨S4096x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x8x2048, .f32⟩
  | .hbm, ⟨22, _⟩ => ⟨S8x2048, .f32⟩
  | .hbm, ⟨23, _⟩ => ⟨S1x2048, .f32⟩
  | .hbm, ⟨24, _⟩ => ⟨S1x1x2048, .f32⟩
  | .hbm, ⟨25, _⟩ => ⟨S16x256x2048, .f32⟩
  | .hbm, ⟨26, _⟩ => ⟨S4096x2048, .f32⟩
  | .hbm, ⟨27, _⟩ => ⟨S2x2048, .f32⟩
  | .hbm, ⟨28, _⟩ => ⟨S2x1x2048, .f32⟩
  | .hbm, ⟨29, _⟩ => ⟨S2x2048x2048, .f32⟩
  | .hbm, ⟨30, _⟩ => ⟨S4096x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S2x8x12288 : Shape := ⟨3, ![2, 8, 12288]⟩
abbrev S2x2048 : Shape := ⟨2, ![2, 2048]⟩
abbrev S2x1x2048 : Shape := ⟨3, ![2, 1, 2048]⟩
abbrev S256x5504 : Shape := ⟨2, ![256, 5504]⟩
abbrev S5504x2048 : Shape := ⟨2, ![5504, 2048]⟩
abbrev S256x2048 : Shape := ⟨2, ![256, 2048]⟩
abbrev S1x8x2048 : Shape := ⟨3, ![1, 8, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2x8x12288, .f32⟩
  | .hbm, ⟨4, _⟩ => ⟨S2x2048, .f32⟩
  | .hbm, ⟨5, _⟩ => ⟨S2x2048, .f32⟩
  | .hbm, ⟨6, _⟩ => ⟨S2x1x2048, .f32⟩
  | .hbm, ⟨7, _⟩ => ⟨S2x1x2048, .f32⟩
  | .hbm, ⟨8, _⟩ => ⟨S8192x2048, .f32⟩
  | .hbm, ⟨9, _⟩ => ⟨S8192x2048, .bf16⟩
  | .local _ .vmem, ⟨0, _⟩ => ⟨S256x5504, .bf16⟩
  | .local _ .vmem, ⟨1, _⟩ => ⟨S256x5504, .bf16⟩
  | .local _ .vmem, ⟨2, _⟩ => ⟨S5504x2048, .bf16⟩
  | .local _ .vmem, ⟨3, _⟩ => ⟨S256x2048, .f32⟩
  | .local _ .vmem, ⟨4, _⟩ => ⟨S256x2048, .f32⟩
  | .local _ .vmem, ⟨5, _⟩ => ⟨S1x8x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x8x2048, .f32⟩
  | .local _ .vmem, ⟨9, _⟩ => ⟨S1x8x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0_8 : Index := 0#32
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v25 : Index := Scalar.indexCast v21
  let c0_9 : Index := 0#32
  ![0, v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5504x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S2x8x12288 : Shape := ⟨3, ![2, 8, 12288]⟩
abbrev S2x2048 : Shape := ⟨2, ![2, 2048]⟩
abbrev S8192x5504 : Shape := ⟨2, ![8192, 5504]⟩
abbrev S5504x2048 : Shape := ⟨2, ![5504, 2048]⟩
abbrev S_ : Shape := ⟨0, ![]⟩
abbrev S1x8x2048 : Shape := ⟨3, ![1, 8, 2048]⟩
abbrev S8x2048 : Shape := ⟨2, ![8, 2048]⟩
abbrev S1x2048 : Shape := ⟨2, ![1, 2048]⟩
abbrev S1x1x2048 : Shape := ⟨3, ![1, 1, 2048]⟩
abbrev S16x256x2048 : Shape := ⟨3, ![16, 256, 2048]⟩
abbrev S4096x2048 : Shape := ⟨2, ![4096, 2048]⟩
abbrev S2x1x2048 : Shape := ⟨3, ![2, 1, 2048]⟩
abbrev S2x2048x2048 : Shape := ⟨3, ![2, 2048, 2048]⟩
abbrev S2048 : Shape := ⟨1, ![2048]⟩
abbrev S8192 : Shape := ⟨1, ![8192]⟩
abbrev S8192x1 : Shape := ⟨2, ![8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2x8x12288, .f32⟩
  | .hbm, ⟨4, _⟩ => ⟨S2x2048, .f32⟩
  | .hbm, ⟨5, _⟩ => ⟨S2x2048, .f32⟩
  | .hbm, ⟨6, _⟩ => ⟨S8192x5504, .bf16⟩
  | .hbm, ⟨7, _⟩ => ⟨S8192x5504, .f32⟩
  | .hbm, ⟨8, _⟩ => ⟨S5504x2048, .bf16⟩
  | .hbm, ⟨9, _⟩ => ⟨S5504x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x8x2048, .f32⟩
  | .hbm, ⟨15, _⟩ => ⟨S8x2048, .f32⟩
  | .hbm, ⟨16, _⟩ => ⟨S1x2048, .f32⟩
  | .hbm, ⟨17, _⟩ => ⟨S1x1x2048, .f32⟩
  | .hbm, ⟨18, _⟩ => ⟨S16x256x2048, .f32⟩
  | .hbm, ⟨19, _⟩ => ⟨S4096x2048, .f32⟩
  | .hbm, ⟨20, _⟩ => ⟨S2x2048, .f32⟩
  | .hbm, ⟨21, _⟩ => ⟨S2x1x2048, .f32⟩
  | .hbm, ⟨22, _⟩ => ⟨S2x2048x2048, .f32⟩
  | .hbm, ⟨23, _⟩ => ⟨S4096x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S1x8x2048, .f32⟩
  | .hbm, ⟨61, _⟩ => ⟨S8x2048, .f32⟩
  | .hbm, ⟨62, _⟩ => ⟨S1x2048, .f32⟩
  | .hbm, ⟨63, _⟩ => ⟨S1x1x2048, .f32⟩
  | .hbm, ⟨64, _⟩ => ⟨S16x256x2048, .f32⟩
  | .hbm, ⟨65, _⟩ => ⟨S4096x2048, .f32⟩
  | .hbm, ⟨66, _⟩ => ⟨S2x2048, .f32⟩
  | .hbm, ⟨67, _⟩ => ⟨S2x1x2048, .f32⟩
  | .hbm, ⟨68, _⟩ => ⟨S2x2048x2048, .f32⟩
  | .hbm, ⟨69, _⟩ => ⟨S4096x2048, .f32⟩
  | .hbm, ⟨70, _⟩ => ⟨S8192x2048, .f32⟩
  | .hbm, ⟨71, _⟩ => ⟨S_, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S1x8x2048, .f32⟩
  | .hbm, ⟨76, _⟩ => ⟨S8x2048, .f32⟩
  | .hbm, ⟨77, _⟩ => ⟨S1x2048, .f32⟩
  | .hbm, ⟨78, _⟩ => ⟨S1x1x2048, .f32⟩
  | .hbm, ⟨79, _⟩ => ⟨S16x256x2048, .f32⟩
  | .hbm, ⟨80, _⟩ => ⟨S4096x2048, .f32⟩
  | .hbm, ⟨81, _⟩ => ⟨S2x2048, .f32⟩
  | .hbm, ⟨82, _⟩ => ⟨S2x1x2048, .f32⟩
  | .hbm, ⟨83, _⟩ => ⟨S2x2048x2048, .f32⟩
  | .hbm, ⟨84, _⟩ => ⟨S4096x2048, .f32⟩
  | .hbm, ⟨85, _⟩ => ⟨S8192x2048, .f32⟩
  | .hbm, ⟨86, _⟩ => ⟨S8192x2048, .f32⟩
  | .hbm, ⟨87, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== Last.lean ====
abbrev S8192x5632 : Shape := ⟨2, ![8192, 5632]⟩
abbrev S5632x2048 : Shape := ⟨2, ![5632, 2048]⟩
abbrev S8192x2048 : Shape := ⟨2, ![8192, 2048]⟩
abbrev S2x8x12288 : Shape := ⟨3, ![2, 8, 12288]⟩
abbrev S2x2048 : Shape := ⟨2, ![2, 2048]⟩
abbrev S2x1x2048 : Shape := ⟨3, ![2, 1, 2048]⟩
abbrev S4096x2048 : Shape := ⟨2, ![4096, 2048]⟩
abbrev S256x5504 : Shape := ⟨2, ![256, 5504]⟩
abbrev S5504x2048 : Shape := ⟨2, ![5504, 2048]⟩
abbrev S256x2048 : Shape := ⟨2, ![256, 2048]⟩
abbrev S1x8x2048 : Shape := ⟨3, ![1, 8, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2x8x12288, .f32⟩
  | .hbm, ⟨4, _⟩ => ⟨S2x2048, .f32⟩
  | .hbm, ⟨5, _⟩ => ⟨S2x2048, .f32⟩
  | .hbm, ⟨6, _⟩ => ⟨S2x1x2048, .f32⟩
  | .hbm, ⟨7, _⟩ => ⟨S2x1x2048, .f32⟩
  | .hbm, ⟨8, _⟩ => ⟨S4096x2048, .f32⟩
  | .hbm, ⟨9, _⟩ => ⟨S4096x2048, .f32⟩
  | .local _ .vmem, ⟨0, _⟩ => ⟨S256x5504, .bf16⟩
  | .local _ .vmem, ⟨1, _⟩ => ⟨S256x5504, .bf16⟩
  | .local _ .vmem, ⟨2, _⟩ => ⟨S5504x2048, .bf16⟩
  | .local _ .vmem, ⟨3, _⟩ => ⟨S256x2048, .f32⟩
  | .local _ .vmem, ⟨4, _⟩ => ⟨S256x2048, .f32⟩
  | .local _ .vmem, ⟨5, _⟩ => ⟨S1x8x2048, .f32⟩
  | .local _ .vmem, ⟨6, _⟩ => ⟨S1x1x2048, .f32⟩
  | .local _ .vmem, ⟨7, _⟩ => ⟨S1x1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0_8 : Index := 0#32
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v25 : Index := Scalar.indexCast v21
  let c0_9 : Index := 0#32
  ![0, v25.toNat, 0]
def k0_cond1 (i : grid0.Coords) : BitVec 1 :=
  let arg0 : BitVec 32 := BitVec.ofNat 32 (i 0).val
  let c256_i32 : BitVec 32 := 256#32
  let v0 : BitVec 32 := Scalar.muli arg0 c256_i32
  let c4096_i32_26 : BitVec 32 := 4096#32
  let v58 : BitVec 1 := Scalar.cmpi .slt v0 c4096_i32_26
  let v59 : BitVec 32 := Scalar.extui v58
  let c0_i32_27 : BitVec 32 := 0#32
  let v60 : BitVec 1 := Scalar.cmpi .ne v59 c0_i32_27
  v60

def k0_cond2 (i : grid0.Coords) : BitVec 1 :=
  let arg0 : BitVec 32 := BitVec.ofNat 32 (i 0).val
  let c256_i32 : BitVec 32 := 256#32
  let v0 : BitVec 32 := Scalar.muli arg0 c256_i32
  let c4096_i32_28 : BitVec 32 := 4096#32
  let v61 : BitVec 1 := Scalar.cmpi .sge v0 c4096_i32_28
  let v62 : BitVec 32 := Scalar.extui v61
  let c0_i32_29 : BitVec 32 := 0#32
  let v63 : BitVec 1 := Scalar.cmpi .ne v62 c0_i32_29
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5504x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LastRefIdeal.lean ====
abbrev S8192x5632 : Shape := ⟨2, ![8192, 5632]⟩
abbrev S5632x2048 : Shape := ⟨2, ![5632, 2048]⟩
abbrev S8192x2048 : Shape := ⟨2, ![8192, 2048]⟩
abbrev S2x8x12288 : Shape := ⟨3, ![2, 8, 12288]⟩
abbrev S2x2048 : Shape := ⟨2, ![2, 2048]⟩
abbrev S8192x5504 : Shape := ⟨2, ![8192, 5504]⟩
abbrev S5504x2048 : Shape := ⟨2, ![5504, 2048]⟩
abbrev S_ : Shape := ⟨0, ![]⟩
abbrev S1x8x2048 : Shape := ⟨3, ![1, 8, 2048]⟩
abbrev S8x2048 : Shape := ⟨2, ![8, 2048]⟩
abbrev S1x2048 : Shape := ⟨2, ![1, 2048]⟩
abbrev S1x1x2048 : Shape := ⟨3, ![1, 1, 2048]⟩
abbrev S16x256x2048 : Shape := ⟨3, ![16, 256, 2048]⟩
abbrev S4096x2048 : Shape := ⟨2, ![4096, 2048]⟩
abbrev S2x1x2048 : Shape := ⟨3, ![2, 1, 2048]⟩
abbrev S2x2048x2048 : Shape := ⟨3, ![2, 2048, 2048]⟩
abbrev S2048 : Shape := ⟨1, ![2048]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S2x8x12288, .f32⟩
  | .hbm, ⟨4, _⟩ => ⟨S2x2048, .f32⟩
  | .hbm, ⟨5, _⟩ => ⟨S2x2048, .f32⟩
  | .hbm, ⟨6, _⟩ => ⟨S8192x5504, .bf16⟩
  | .hbm, ⟨7, _⟩ => ⟨S8192x5504, .f32⟩
  | .hbm, ⟨8, _⟩ => ⟨S5504x2048, .bf16⟩
  | .hbm, ⟨9, _⟩ => ⟨S5504x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S1x8x2048, .f32⟩
  | .hbm, ⟨15, _⟩ => ⟨S8x2048, .f32⟩
  | .hbm, ⟨16, _⟩ => ⟨S1x2048, .f32⟩
  | .hbm, ⟨17, _⟩ => ⟨S1x1x2048, .f32⟩
  | .hbm, ⟨18, _⟩ => ⟨S16x256x2048, .f32⟩
  | .hbm, ⟨19, _⟩ => ⟨S4096x2048, .f32⟩
  | .hbm, ⟨20, _⟩ => ⟨S2x2048, .f32⟩
  | .hbm, ⟨21, _⟩ => ⟨S2x1x2048, .f32⟩
  | .hbm, ⟨22, _⟩ => ⟨S2x2048x2048, .f32⟩
  | .hbm, ⟨23, _⟩ => ⟨S4096x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S4096x2048, .f32⟩
  | .hbm, ⟨61, _⟩ => ⟨S4096x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Out.lean ====
abbrev S8192x768 : Shape := ⟨2, ![8192, 768]⟩
abbrev S8192x640 : Shape := ⟨2, ![8192, 640]⟩
abbrev S2048x2048 : Shape := ⟨2, ![2048, 2048]⟩
abbrev S8192x2048 : Shape := ⟨2, ![8192, 2048]⟩
abbrev S2x8x12288 : Shape := ⟨3, ![2, 8, 12288]⟩
abbrev S2x2048 : Shape := ⟨2, ![2, 2048]⟩
abbrev S2x1x2048 : Shape := ⟨3, ![2, 1, 2048]⟩
abbrev S512x768 : Shape := ⟨2, ![512, 768]⟩
abbrev S512x640 : Shape := ⟨2, ![512, 640]⟩
abbrev S512x2048 : Shape := ⟨2, ![512, 2048]⟩
abbrev S1x8x2048 : Shape := ⟨3, ![1, 8, 2048]⟩
abbrev S1x1x2048 : Shape := ⟨3, ![1, 1, 2048]⟩
abbrev S256x768 : Shape := ⟨2, ![256, 768]⟩
abbrev S768x2048 : Shape := ⟨2, ![768, 2048]⟩
abbrev S256x2048 : Shape := ⟨2, ![256, 2048]⟩
abbrev S256x640 : Shape := ⟨2, ![256, 640]⟩
abbrev S640x2048 : Shape := ⟨2, ![640, 2048]⟩
abbrev S1x2048 : Shape := ⟨2, ![1, 2048]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S8192x768, .bf16⟩
  | .hbm, ⟨1, _⟩ => ⟨S8192x640, .bf16⟩
  | .hbm, ⟨2, _⟩ => ⟨S8192x640, .bf16⟩
  | .hbm, ⟨3, _⟩ => ⟨S2048x2048, .bf16⟩
  | .hbm, ⟨4, _⟩ => ⟨S8192x2048, .f32⟩
  | .hbm, ⟨5, _⟩ => ⟨S2x8x12288, .f32⟩
  | .hbm, ⟨6, _⟩ => ⟨S2x2048, .f32⟩
  | .hbm, ⟨7, _⟩ => ⟨S2x2048, .f32⟩
  | .hbm, ⟨8, _⟩ => ⟨S2x1x2048, .f32⟩
  | .hbm, ⟨9, _⟩ => ⟨S2x1x2048, .f32⟩
  | .hbm, ⟨10, _⟩ => ⟨S8192x2048, .f32⟩
  | .hbm, ⟨11, _⟩ => ⟨S8192x2048, .bf16⟩
  | .local _ .vmem, ⟨0, _⟩ => ⟨S512x768, .bf16⟩
  | .local _ .vmem, ⟨1, _⟩ => ⟨S512x768, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_35 : Index := 0#32
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c0_i32_6 : BitVec 32 := 0#32
  let c1_i32_5 : BitVec 32 := 1#32
  let c4096_i32_0 : BitVec 32 := 4096#32
  let v2 : BitVec 32 := Scalar.subi v0 c4096_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32 : BitVec 32 := 2048#32
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let v3 : BitVec 32 := Scalar.divsi v2 c2048_i32
  let c1_i32 : BitVec 32 := 1#32
  let v18 : BitVec 32 := Scalar.subi v3 c1_i32
  let v19 : BitVec 32 := Scalar.select v17 v18 v3
  let v20 : BitVec 32 := Scalar.addi c1_i32_5 v19
  let v21 : BitVec 32 := Scalar.select v1 c0_i32_6 v20
  let v47 : Index := Scalar.indexCast v21
  let c0_36 : Index := 0#32
  ![0, v47.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S8192x768 : Shape := ⟨2, ![8192, 768]⟩
abbrev S8192x640 : Shape := ⟨2, ![8192, 640]⟩
abbrev S2048x2048 : Shape := ⟨2, ![2048, 2048]⟩
abbrev S8192x2048 : Shape := ⟨2, ![8192, 2048]⟩
abbrev S2x8x12288 : Shape := ⟨3, ![2, 8, 12288]⟩
abbrev S2x2048 : Shape := ⟨2, ![2, 2048]⟩
abbrev S_ : Shape := ⟨0, ![]⟩
abbrev S1x8x2048 : Shape := ⟨3, ![1, 8, 2048]⟩
abbrev S8x2048 : Shape := ⟨2, ![8, 2048]⟩
abbrev S1x2048 : Shape := ⟨2, ![1, 2048]⟩
abbrev S1x1x2048 : Shape := ⟨3, ![1, 1, 2048]⟩
abbrev S16x256x2048 : Shape := ⟨3, ![16, 256, 2048]⟩
abbrev S4096x2048 : Shape := ⟨2, ![4096, 2048]⟩
abbrev S2x1x2048 : Shape := ⟨3, ![2, 1, 2048]⟩
abbrev S2x2048x2048 : Shape := ⟨3, ![2, 2048, 2048]⟩
abbrev S2048 : Shape := ⟨1, ![2048]⟩
abbrev S8192 : Shape := ⟨1, ![8192]⟩
abbrev S8192x1 : Shape := ⟨2, ![8192, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x640, .bf16⟩
  | .hbm, ⟨2, _⟩ => ⟨S8192x640, .bf16⟩
  | .hbm, ⟨3, _⟩ => ⟨S2048x2048, .bf16⟩
  | .hbm, ⟨4, _⟩ => ⟨S8192x2048, .f32⟩
  | .hbm, ⟨5, _⟩ => ⟨S2x8x12288, .f32⟩
  | .hbm, ⟨6, _⟩ => ⟨S2x2048, .f32⟩
  | .hbm, ⟨7, _⟩ => ⟨S2x2048, .f32⟩
  | .hbm, ⟨8, _⟩ => ⟨S8192x2048, .bf16⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S1x8x2048, .f32⟩
  | .hbm, ⟨16, _⟩ => ⟨S8x2048, .f32⟩
  | .hbm, ⟨17, _⟩ => ⟨S1x2048, .f32⟩
  | .hbm, ⟨18, _⟩ => ⟨S1x1x2048, .f32⟩
  | .hbm, ⟨19, _⟩ => ⟨S16x256x2048, .f32⟩
  | .hbm, ⟨20, _⟩ => ⟨S4096x2048, .f32⟩
  | .hbm, ⟨21, _⟩ => ⟨S2x2048, .f32⟩
  | .hbm, ⟨22, _⟩ => ⟨S2x1x2048, .f32⟩
  | .hbm, ⟨23, _⟩ => ⟨S2x2048x2048, .f32⟩
  | .hbm, ⟨24, _⟩ => ⟨S4096x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S1x8x2048, .f32⟩
  | .hbm, ⟨62, _⟩ => ⟨S8x2048, .f32⟩
  | .hbm, ⟨63, _⟩ => ⟨S1x2048, .f32⟩
  | .hbm, ⟨64, _⟩ => ⟨S1x1x2048, .f32⟩
  | .hbm, ⟨65, _⟩ => ⟨S16x256x2048, .f32⟩
  | .hbm, ⟨66, _⟩ => ⟨S4096x2048, .f32⟩
  | .hbm, ⟨67, _⟩ => ⟨S2x2048, .f32⟩
  | .hbm, ⟨68, _⟩ => ⟨S2x1x2048, .f32⟩
  | .hbm, ⟨69, _⟩ => ⟨S2x2048x2048, .f32⟩
  | .hbm, ⟨70, _⟩ => ⟨S4096x2048, .f32⟩
  | .hbm, ⟨71, _⟩ => ⟨S8192x2048, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S1x8x2048, .f32⟩
  | .hbm, ⟨77, _⟩ => ⟨S8x2048, .f32⟩
  | .hbm, ⟨78, _⟩ => ⟨S1x2048, .f32⟩
  | .hbm, ⟨79, _⟩ => ⟨S1x1x2048, .f32⟩
  | .hbm, ⟨80, _⟩ => ⟨S16x256x2048, .f32⟩
  | .hbm, ⟨81, _⟩ => ⟨S4096x2048, .f32⟩
  | .hbm, ⟨82, _⟩ => ⟨S2x2048, .f32⟩
  | .hbm, ⟨83, _⟩ => ⟨S2x1x2048, .f32⟩
  | .hbm, ⟨84, _⟩ => ⟨S2x2048x2048, .f32⟩
  | .hbm, ⟨85, _⟩ => ⟨S4096x2048, .f32⟩
  | .hbm, ⟨86, _⟩ => ⟨S8192x2048, .f32⟩
  | .hbm, ⟨87, _⟩ => ⟨S8192x2048, .f32⟩
  | .hbm, ⟨88, _⟩ => ⟨S8192x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Diff.lean ====
abbrev S54x8192x128 : Shape := ⟨3, ![54, 8192, 128]⟩
abbrev S4x64 : Shape := ⟨2, ![4, 64]⟩
abbrev S128 : Shape := ⟨1, ![128]⟩
abbrev S16x2x5x256x128 : Shape := ⟨5, ![16, 2, 5, 256, 128]⟩
abbrev S1x128 : Shape := ⟨2, ![1, 128]⟩
abbrev S8192x640 : Shape := ⟨2, ![8192, 640]⟩
abbrev S1x256x128 : Shape := ⟨3, ![1, 256, 128]⟩
abbrev S256x640 : Shape := ⟨2, ![256, 640]⟩
abbrev S1x1x5x256x128 : Shape := ⟨5, ![1, 1, 5, 256, 128]⟩
abbrev S256x128 : Shape := ⟨2, ![256, 128]⟩
abbrev S1x1x1x256x128 : Shape := ⟨5, ![1, 1, 1, 256, 128]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 38
  | .smem => 0
  | _ => 0

abbrev bufTy : (tb : Table) → Fin (tcTables nBuf tb) → BufTy
  | .hbm, ⟨0, _⟩ => ⟨S54x8192x128, .f32⟩
  | .hbm, ⟨1, _⟩ => ⟨S4x64, .f32⟩
  | .hbm, ⟨2, _⟩ => ⟨S128, .f32⟩
  | .hbm, ⟨3, _⟩ => ⟨S16x2x5x256x128, .f32⟩
  | .hbm, ⟨4, _⟩ => ⟨S16x2x5x256x128, .f32⟩
  | .hbm, ⟨5, _⟩ => ⟨S1x128, .f32⟩
  | .hbm, ⟨6, _⟩ => ⟨S8192x640, .bf16⟩
  | .hbm, ⟨7, _⟩ => ⟨S16x2x5x256x128, .f32⟩
  | .hbm, ⟨8, _⟩ => ⟨S16x2x5x256x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S4x64, .f32⟩
  | .local _ .vmem, ⟨31, _⟩ => ⟨S1x128, .f32⟩
  | .local _ .vmem, ⟨32, _⟩ => ⟨S256x640, .bf16⟩
  | .local _ .vmem, ⟨33, _⟩ => ⟨S256x640, .bf16⟩
  | .local _ .vmem, ⟨34, _⟩ => ⟨S1x1x5x256x128, .f32⟩
  | .local _ .vmem, ⟨35, _⟩ => ⟨S1x1x5x256x128, .f32⟩
  | .local _ .vmem, ⟨36, _⟩ => ⟨S1x1x5x256x128, .f32⟩
  | .local _ .vmem, ⟨37, _⟩ => ⟨S1x1x5x256x128, .f32⟩
  | _, _ => ⟨S54x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c18_i32 : BitVec 32 := 18#32
  let c0_i32 : BitVec 32 := 0#32
  let c0_i32_0 : BitVec 32 := 0#32
  ![c18_i32.toNat, arg0.toNat, c0_i32.toNat]

def cc0_transform_1 (i : grid0.Coords) : Fin 3 → Nat :=
  let arg0 : BitVec 32 := BitVec.ofNat 32 (i 0).val
  let c19_i32 : BitVec 32 := 19#32
  let c0_i32 : BitVec 32 := 0#32
  let c0_i32_0 : BitVec 32 := 0#32
  ![c19_i32.toNat, arg0.toNat, c0_i32.toNat]

def cc0_transform_2 (i : grid0.Coords) : Fin 3 → Nat :=
  let arg0 : BitVec 32 := BitVec.ofNat 32 (i 0).val
  let c20_i32 : BitVec 32 := 20#32
  let c0_i32 : BitVec 32 := 0#32
  let c0_i32_0 : BitVec 32 := 0#32
  ![c20_i32.toNat, arg0.toNat, c0_i32.toNat]

def cc0_transform_3 (i : grid0.Coords) : Fin 3 → Nat :=
  let arg0 : BitVec 32 := BitVec.ofNat 32 (i 0).val
  let c21_i32 : BitVec 32 := 21#32
  let c0_i32 : BitVec 32 := 0#32
  let c0_i32_0 : BitVec 32 := 0#32
  ![c21_i32.toNat, arg0.toNat, c0_i32.toNat]

def cc0_transform_4 (i : grid0.Coords) : Fin 3 → Nat :=
  let arg0 : BitVec 32 := BitVec.ofNat 32 (i 0).val
  let c22_i32 : BitVec 32 := 22#32
  let c0_i32 : BitVec 32 := 0#32
  let c0_i32_0 : BitVec 32 := 0#32
  ![c22_i32.toNat, arg0.toNat, c0_i32.toNat]

def cc0_transform_5 (i : grid0.Coords) : Fin 3 → Nat :=
  let arg0 : BitVec 32 := BitVec.ofNat 32 (i 0).val
  let c23_i32 : BitVec 32 := 23#32
  let c0_i32 : BitVec 32 := 0#32
  let c0_i32_0 : BitVec 32 := 0#32
  ![c23_i32.toNat, arg0.toNat, c0_i32.toNat]

def cc0_transform_6 (i : grid0.Coords) : Fin 3 → Nat :=
  let arg0 : BitVec 32 := BitVec.ofNat 32 (i 0).val
  let c24_i32 : BitVec 32 := 24#32
  let c0_i32 : BitVec 32 := 0#32
  let c0_i32_0 : BitVec 32 := 0#32
  ![c24_i32.toNat, arg0.toNat, c0_i32.toNat]

def cc0_transform_7 (i : grid0.Coords) : Fin 3 → Nat :=
  let arg0 : BitVec 32 := BitVec.ofNat 32 (i 0).val
  let c25_i32 : BitVec 32 := 25#32
  let c0_i32 : BitVec 32 := 0#32
  let c0_i32_0 : BitVec 32 := 0#32
  ![c25_i32.toNat, arg0.toNat, c0_i32.toNat]

def cc0_transform_8 (i : grid0.Coords) : Fin 3 → Nat :=
  let arg0 : BitVec 32 := BitVec.ofNat 32 (i 0).val
  let c26_i32 : BitVec 32 := 26#32
  let c0_i32 : BitVec 32 := 0#32
  let c0_i32_0 : BitVec 32 := 0#32
  ![c26_i32.toNat, arg0.toNat, c0_i32.toNat]

def cc0_transform_9 (i : grid0.Coords) : Fin 3 → Nat :=
  let arg0 : BitVec 32 := BitVec.ofNat 32 (i 0).val
  let c27_i32 : BitVec 32 := 27#32
  let c0_i32 : BitVec 32 := 0#32
  let c0_i32_0 : BitVec 32 := 0#32
  ![c27_i32.toNat, arg0.toNat, c0_i32.toNat]

def cc0_transform_10 (i : grid0.Coords) : Fin 3 → Nat :=
  let arg0 : BitVec 32 := BitVec.ofNat 32 (i 0).val
  let c28_i32 : BitVec 32 := 28#32
  let c0_i32 : BitVec 32 := 0#32
  let c0_i32_0 : BitVec 32 := 0#32
  ![c28_i32.toNat, arg0.toNat, c0_i32.toNat]

def cc0_transform_11 (i : grid0.Coords) : Fin 3 → Nat :=
  let arg0 : BitVec 32 := BitVec.ofNat 32 (i 0).val
  let c29_i32 : BitVec 32 := 29#32
  let c0_i32 : BitVec 32 := 0#32
  let c0_i32_0 : BitVec 32 := 0#32
  ![c29_i32.toNat, arg0.toNat, c0_i32.toNat]

def cc0_transform_12 (i : grid0.Coords) : Fin 3 → Nat :=
  let arg0 : BitVec 32 := BitVec.ofNat 32 (i 0).val
  let c30_i32 : BitVec 32 := 30#32
  let c0_i32 : BitVec 32 := 0#32
  let c0_i32_0 : BitVec 32 := 0#32
  ![c30_i32.toNat, arg0.toNat, c0_i32.toNat]

def cc0_transform_13 (i : grid0.Coords) : Fin 3 → Nat :=
  let arg0 : BitVec 32 := BitVec.ofNat 32 (i 0).val
  let c31_i32 : BitVec 32 := 31#32
  let c0_i32 : BitVec 32 := 0#32
  let c0_i32_0 : BitVec 32 := 0#32
  ![c31_i32.toNat, arg0.toNat, c0_i32.toNat]

def cc0_transform_14 (i : grid0.Coords) : Fin 3 → Nat :=
  let arg0 : BitVec 32 := BitVec.ofNat 32 (i 0).val
  let c32_i32 : BitVec 32 := 32#32
  let c0_i32 : BitVec 32 := 0#32
  let c0_i32_0 : BitVec 32 := 0#32
  ![c32_i32.toNat, arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_21 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x640 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x5x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x5x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== DiffRefIdeal.lean ====
abbrev S54x8192x128 : Shape := ⟨3, ![54, 8192, 128]⟩
abbrev S4x64 : Shape := ⟨2, ![4, 64]⟩
abbrev S128 : Shape := ⟨1, ![128]⟩
abbrev S16x2x5x256x128 : Shape := ⟨5, ![16, 2, 5, 256, 128]⟩
abbrev S5x4096x128 : Shape := ⟨3, ![5, 4096, 128]⟩
abbrev S5x16x256x128 : Shape := ⟨4, ![5, 16, 256, 128]⟩
abbrev S5x16x256x64 : Shape := ⟨4, ![5, 16, 256, 64]⟩
abbrev S5x16x256x256 : Shape := ⟨4, ![5, 16, 256, 256]⟩
abbrev S_ : Shape := ⟨0, ![]⟩
abbrev S5x16x256 : Shape := ⟨3, ![5, 16, 256]⟩
abbrev S5x16x256x1 : Shape := ⟨4, ![5, 16, 256, 1]⟩
abbrev S1x64 : Shape := ⟨2, ![1, 64]⟩
abbrev S64 : Shape := ⟨1, ![64]⟩
abbrev S1x1x1x128 : Shape := ⟨4, ![1, 1, 1, 128]⟩
abbrev S16x256x5x128 : Shape := ⟨4, ![16, 256, 5, 128]⟩
abbrev S4096x640 : Shape := ⟨2, ![4096, 640]⟩
abbrev S8192x640 : Shape := ⟨2, ![8192, 640]⟩
abbrev S16x1x5x256x128 : Shape := ⟨5, ![16, 1, 5, 256, 128]⟩
abbrev S16x5x256x128 : Shape := ⟨4, ![16, 5, 256, 128]⟩

abbrev nBuf : Space → Nat
  | .hbm => 101
  | .vmem => 0
  | .smem => 0
  | _ => 0

abbrev bufTy : (tb : Table) → Fin (tcTables nBuf tb) → BufTy
  | .hbm, ⟨0, _⟩ => ⟨S54x8192x128, .f32⟩
  | .hbm, ⟨1, _⟩ => ⟨S4x64, .f32⟩
  | .hbm, ⟨2, _⟩ => ⟨S128, .f32⟩
  | .hbm, ⟨3, _⟩ => ⟨S16x2x5x256x128, .f32⟩
  | .hbm, ⟨4, _⟩ => ⟨S16x2x5x256x128, .f32⟩
  | .hbm, ⟨5, _⟩ => ⟨S5x4096x128, .f32⟩
  | .hbm, ⟨6, _⟩ => ⟨S5x16x256x128, .f32⟩
  | .hbm, ⟨7, _⟩ => ⟨S5x4096x128, .f32⟩
  | .hbm, ⟨8, _⟩ => ⟨S5x16x256x128, .f32⟩
  | .hbm, ⟨9, _⟩ => ⟨S5x4096x128, .f32⟩
  | .hbm, ⟨10, _⟩ => ⟨S5x16x256x128, .f32⟩
  | .hbm, ⟨11, _⟩ => ⟨S5x16x256x64, .f32⟩
  | .hbm, ⟨12, _⟩ => ⟨S5x16x256x64, .f32⟩
  | .hbm, ⟨13, _⟩ => ⟨S5x16x256x256, .f32⟩
  | .hbm, ⟨14, _⟩ => ⟨S_, .f32⟩
  | .hbm, ⟨15, _⟩ => ⟨S5x16x256x256, .f32⟩
  | .hbm, ⟨16, _⟩ => ⟨S5x16x256x256, .f32⟩
  | .hbm, ⟨17, _⟩ => ⟨S_, .f32⟩
  | .hbm, ⟨18, _⟩ => ⟨S5x16x256, .f32⟩
  | .hbm, ⟨19, _⟩ => ⟨S5x16x256x1, .f32⟩
  | .hbm, ⟨20, _⟩ => ⟨S5x16x256x256, .f32⟩
  | .hbm, ⟨21, _⟩ => ⟨S5x16x256x256, .f32⟩
  | .hbm, ⟨22, _⟩ => ⟨S5x16x256x256, .f32⟩
  | .hbm, ⟨23, _⟩ => ⟨S_, .f32⟩
  | .hbm, ⟨24, _⟩ => ⟨S5x16x256, .f32⟩
  | .hbm, ⟨25, _⟩ => ⟨S5x16x256x1, .f32⟩
  | .hbm, ⟨26, _⟩ => ⟨S5x16x256x256, .f32⟩
  | .hbm, ⟨27, _⟩ => ⟨S5x16x256x256, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S5x16x256x64, .f32⟩
  | .hbm, ⟨48, _⟩ => ⟨S5x16x256x64, .f32⟩
  | .hbm, ⟨49, _⟩ => ⟨S5x16x256x256, .f32⟩
  | .hbm, ⟨50, _⟩ => ⟨S_, .f32⟩
  | .hbm, ⟨51, _⟩ => ⟨S5x16x256x256, .f32⟩
  | .hbm, ⟨52, _⟩ => ⟨S5x16x256x256, .f32⟩
  | .hbm, ⟨53, _⟩ => ⟨S_, .f32⟩
  | .hbm, ⟨54, _⟩ => ⟨S5x16x256, .f32⟩
  | .hbm, ⟨55, _⟩ => ⟨S5x16x256x1, .f32⟩
  | .hbm, ⟨56, _⟩ => ⟨S5x16x256x256, .f32⟩
  | .hbm, ⟨57, _⟩ => ⟨S5x16x256x256, .f32⟩
  | .hbm, ⟨58, _⟩ => ⟨S5x16x256x256, .f32⟩
  | .hbm, ⟨59, _⟩ => ⟨S_, .f32⟩
  | .hbm, ⟨60, _⟩ => ⟨S5x16x256, .f32⟩
  | .hbm, ⟨61, _⟩ => ⟨S5x16x256x1, .f32⟩
  | .hbm, ⟨62, _⟩ => ⟨S5x16x256x256, .f32⟩
  | .hbm, ⟨63, _⟩ => ⟨S5x16x256x256, .f32⟩
  | .hbm, ⟨64, _⟩ => ⟨S5x16x256x256, .f32⟩
  | .hbm, ⟨65, _⟩ => ⟨S5x16x256x256, .f32⟩
  | .hbm, ⟨66, _⟩ => ⟨S5x16x256x256, .f32⟩
  | .hbm, ⟨67, _⟩ => ⟨S5x16x256x128, .f32⟩
  | .hbm, ⟨68, _⟩ => ⟨S5x16x256x128, .f32⟩
  | .hbm, ⟨69, _⟩ => ⟨S_, .f32⟩
  | .hbm, ⟨70, _⟩ => ⟨S5x16x256, .f32⟩
  | .hbm, ⟨71, _⟩ => ⟨S5x16x256x1, .f32⟩
  | .hbm, ⟨72, _⟩ => ⟨S_, .f32⟩
  | .hbm, ⟨73, _⟩ => ⟨S5x16x256x1, .f32⟩
  | .hbm, ⟨74, _⟩ => ⟨S5x16x256x1, .f32⟩
  | .hbm, ⟨75, _⟩ => ⟨S_, .f32⟩
  | .hbm, ⟨76, _⟩ => ⟨S5x16x256x1, .f32⟩
  | .hbm, ⟨77, _⟩ => ⟨S5x16x256x1, .f32⟩
  | .hbm, ⟨78, _⟩ => ⟨S5x16x256x1, .f32⟩
  | .hbm, ⟨79, _⟩ => ⟨S5x16x256x128, .f32⟩
  | .hbm, ⟨80, _⟩ => ⟨S5x16x256x128, .f32⟩
  | .hbm, ⟨81, _⟩ => ⟨S1x1x1x128, .f32⟩
  | .hbm, ⟨82, _⟩ => ⟨S5x16x256x128, .f32⟩
  | .hbm, ⟨83, _⟩ => ⟨S5x16x256x128, .f32⟩
  | .hbm, ⟨84, _⟩ => ⟨S_, .f32⟩
  | .hbm, ⟨85, _⟩ => ⟨S5x16x256x128, .f32⟩
  | .hbm, ⟨86, _⟩ => ⟨S5x16x256x128, .f32⟩
  | .hbm, ⟨87, _⟩ => ⟨S16x256x5x128, .f32⟩
  | .hbm, ⟨88, _⟩ => ⟨S4096x640, .f32⟩
  | .hbm, ⟨89, _⟩ => ⟨S_, .f32⟩
  | .hbm, ⟨90, _⟩ => ⟨S4096x640, .f32⟩
  | .hbm, ⟨91, _⟩ => ⟨S8192x640, .f32⟩
  | .hbm, ⟨92, _⟩ => ⟨S8192x640, .bf16⟩
  | .hbm, ⟨93, _⟩ => ⟨S16x1x5x256x128, .f32⟩
  | .hbm, ⟨94, _⟩ => ⟨S16x5x256x128, .f32⟩
  | .hbm, ⟨95, _⟩ => ⟨S16x1x5x256x128, .f32⟩
  | .hbm, ⟨96, _⟩ => ⟨S16x2x5x256x128, .f32⟩
  | .hbm, ⟨97, _⟩ => ⟨S16x1x5x256x128, .f32⟩
  | .hbm, ⟨98, _⟩ => ⟨S16x5x256x128, .f32⟩
  | .hbm, ⟨99, _⟩ => ⟨S16x1x5x256x128, .f32⟩
  | .hbm, ⟨100, _⟩ => ⟨S16x2x5x256x128, .f32⟩
  | _, _ => ⟨S54x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Attn.lean ====
abbrev S54x8192x128 : Shape := ⟨3, ![54, 8192, 128]⟩
abbrev S16x2x6x256x128 : Shape := ⟨5, ![16, 2, 6, 256, 128]⟩
abbrev S8192x768 : Shape := ⟨2, ![8192, 768]⟩
abbrev S6x256x128 : Shape := ⟨3, ![6, 256, 128]⟩
abbrev S256x768 : Shape := ⟨2, ![256, 768]⟩
abbrev S1x1x6x256x128 : Shape := ⟨5, ![1, 1, 6, 256, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S54x8192x128, .f32⟩
  | .hbm, ⟨1, _⟩ => ⟨S16x2x6x256x128, .f32⟩
  | .hbm, ⟨2, _⟩ => ⟨S16x2x6x256x128, .f32⟩
  | .hbm, ⟨3, _⟩ => ⟨S8192x768, .bf16⟩
  | .hbm, ⟨4, _⟩ => ⟨S16x2x6x256x128, .f32⟩
  | .hbm, ⟨5, _⟩ => ⟨S16x2x6x256x128, .f32⟩
  | .local _ .vmem, ⟨0, _⟩ => ⟨S6x256x128, .f32⟩
  | .local _ .vmem, ⟨1, _⟩ => ⟨S6x256x128, .f32⟩
  | .local _ .vmem, ⟨2, _⟩ => ⟨S6x256x128, .f32⟩
  | .local _ .vmem, ⟨3, _⟩ => ⟨S6x256x128, .f32⟩
  | .local _ .vmem, ⟨4, _⟩ => ⟨S6x256x128, .f32⟩
  | .local _ .vmem, ⟨5, _⟩ => ⟨S6x256x128, .f32⟩
  | .local _ .vmem, ⟨6, _⟩ => ⟨S256x768, .bf16⟩
  | .local _ .vmem, ⟨7, _⟩ => ⟨S256x768, .bf16⟩
  | .local _ .vmem, ⟨8, _⟩ => ⟨S1x1x6x256x128, .f32⟩
  | .local _ .vmem, ⟨9, _⟩ => ⟨S1x1x6x256x128, .f32⟩
  | .local _ .vmem, ⟨10, _⟩ => ⟨S1x1x6x256x128, .f32⟩
  | .local _ .vmem, ⟨11, _⟩ => ⟨S1x1x6x256x128, .f32⟩
  | _, _ => ⟨S54x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc0_transform_7 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage0_0 : Fin 2 → Memref sig .tc .vmem S6x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnRefIdeal.lean ====
abbrev S54x8192x128 : Shape := ⟨3, ![54, 8192, 128]⟩
abbrev S16x2x6x256x128 : Shape := ⟨5, ![16, 2, 6, 256, 128]⟩
abbrev S6x4096x128 : Shape := ⟨3, ![6, 4096, 128]⟩
abbrev S6x16x256x128 : Shape := ⟨4, ![6, 16, 256, 128]⟩
abbrev S6x16x256x256 : Shape := ⟨4, ![6, 16, 256, 256]⟩
abbrev S_ : Shape := ⟨0, ![]⟩
abbrev S6x16x256 : Shape := ⟨3, ![6, 16, 256]⟩
abbrev S6x16x256x1 : Shape := ⟨4, ![6, 16, 256, 1]⟩
abbrev S16x256x6x128 : Shape := ⟨4, ![16, 256, 6, 128]⟩
abbrev S4096x768 : Shape := ⟨2, ![4096, 768]⟩
abbrev S8192x768 : Shape := ⟨2, ![8192, 768]⟩
abbrev S16x1x6x256x128 : Shape := ⟨5, ![16, 1, 6, 256, 128]⟩
abbrev S16x6x256x128 : Shape := ⟨4, ![16, 6, 256, 128]⟩

abbrev nBuf : Space → Nat
  | .hbm => 39
  | .vmem => 0
  | .smem => 0
  | _ => 0

abbrev bufTy : (tb : Table) → Fin (tcTables nBuf tb) → BufTy
  | .hbm, ⟨0, _⟩ => ⟨S54x8192x128, .f32⟩
  | .hbm, ⟨1, _⟩ => ⟨S16x2x6x256x128, .f32⟩
  | .hbm, ⟨2, _⟩ => ⟨S16x2x6x256x128, .f32⟩
  | .hbm, ⟨3, _⟩ => ⟨S6x4096x128, .f32⟩
  | .hbm, ⟨4, _⟩ => ⟨S6x16x256x128, .f32⟩
  | .hbm, ⟨5, _⟩ => ⟨S6x4096x128, .f32⟩
  | .hbm, ⟨6, _⟩ => ⟨S6x16x256x128, .f32⟩
  | .hbm, ⟨7, _⟩ => ⟨S6x4096x128, .f32⟩
  | .hbm, ⟨8, _⟩ => ⟨S6x16x256x128, .f32⟩
  | .hbm, ⟨9, _⟩ => ⟨S6x16x256x256, .f32⟩
  | .hbm, ⟨10, _⟩ => ⟨S_, .f32⟩
  | .hbm, ⟨11, _⟩ => ⟨S6x16x256x256, .f32⟩
  | .hbm, ⟨12, _⟩ => ⟨S6x16x256x256, .f32⟩
  | .hbm, ⟨13, _⟩ => ⟨S_, .f32⟩
  | .hbm, ⟨14, _⟩ => ⟨S6x16x256, .f32⟩
  | .hbm, ⟨15, _⟩ => ⟨S6x16x256x1, .f32⟩
  | .hbm, ⟨16, _⟩ => ⟨S6x16x256x256, .f32⟩
  | .hbm, ⟨17, _⟩ => ⟨S6x16x256x256, .f32⟩
  | .hbm, ⟨18, _⟩ => ⟨S6x16x256x256, .f32⟩
  | .hbm, ⟨19, _⟩ => ⟨S_, .f32⟩
  | .hbm, ⟨20, _⟩ => ⟨S6x16x256, .f32⟩
  | .hbm, ⟨21, _⟩ => ⟨S6x16x256x1, .f32⟩
  | .hbm, ⟨22, _⟩ => ⟨S6x16x256x256, .f32⟩
  | .hbm, ⟨23, _⟩ => ⟨S6x16x256x256, .f32⟩
  | .hbm, ⟨24, _⟩ => ⟨S6x16x256x128, .f32⟩
  | .hbm, ⟨25, _⟩ => ⟨S16x256x6x128, .f32⟩
  | .hbm, ⟨26, _⟩ => ⟨S4096x768, .f32⟩
  | .hbm, ⟨27, _⟩ => ⟨S_, .f32⟩
  | .hbm, ⟨28, _⟩ => ⟨S4096x768, .f32⟩
  | .hbm, ⟨29, _⟩ => ⟨S8192x768, .f32⟩
  | .hbm, ⟨30, _⟩ => ⟨S8192x768, .bf16⟩
  | .hbm, ⟨31, _⟩ => ⟨S16x1x6x256x128, .f32⟩
  | .hbm, ⟨32, _⟩ => ⟨S16x6x256x128, .f32⟩
  | .hbm, ⟨33, _⟩ => ⟨S16x1x6x256x128, .f32⟩
  | .hbm, ⟨34, _⟩ => ⟨S16x2x6x256x128, .f32⟩
  | .hbm, ⟨35, _⟩ => ⟨S16x1x6x256x128, .f32⟩
  | .hbm, ⟨36, _⟩ => ⟨S16x6x256x128, .f32⟩
  | .hbm, ⟨37, _⟩ => ⟨S16x1x6x256x128, .f32⟩
  | .hbm, ⟨38, _⟩ => ⟨S16x2x6x256x128, .f32⟩
  | _, _ => ⟨S54x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Up.lean ====
abbrev S8192x2048 : Shape := ⟨2, ![8192, 2048]⟩
abbrev S2x2048x11008 : Shape := ⟨3, ![2, 2048, 11008]⟩
abbrev S2x3x11008 : Shape := ⟨3, ![2, 3, 11008]⟩
abbrev S2x11008 : Shape := ⟨2, ![2, 11008]⟩
abbrev S2x5504x2048 : Shape := ⟨3, ![2, 5504, 2048]⟩
abbrev S1x3x11008 : Shape := ⟨3, ![1, 3, 11008]⟩
abbrev S3x11008 : Shape := ⟨2, ![3, 11008]⟩
abbrev S3x5504 : Shape := ⟨2, ![3, 5504]⟩
abbrev S_ : Shape := ⟨0, ![]⟩
abbrev S3x5632 : Shape := ⟨2, ![3, 5632]⟩
abbrev S1x11008 : Shape := ⟨2, ![1, 11008]⟩
abbrev S11008 : Shape := ⟨1, ![11008]⟩
abbrev S5504 : Shape := ⟨1, ![5504]⟩
abbrev S5632 : Shape := ⟨1, ![5632]⟩
abbrev S1x5632 : Shape := ⟨2, ![1, 5632]⟩
abbrev S8192x5632 : Shape := ⟨2, ![8192, 5632]⟩
abbrev S5632x2048 : Shape := ⟨2, ![5632, 2048]⟩
abbrev S16x2048 : Shape := ⟨2, ![16, 2048]⟩
abbrev S1024x2048 : Shape := ⟨2, ![1024, 2048]⟩
abbrev S1x2048x512 : Shape := ⟨3, ![1, 2048, 512]⟩
abbrev S1x2048x128 : Shape := ⟨3, ![1, 2048, 128]⟩
abbrev S3x512 : Shape := ⟨2, ![3, 512]⟩
abbrev S1x512 : Shape := ⟨2, ![1, 512]⟩
abbrev S1x64x2048 : Shape := ⟨3, ![1, 64, 2048]⟩
abbrev S1024x512 : Shape := ⟨2, ![1024, 512]⟩
abbrev S64x2048 : Shape := ⟨2, ![64, 2048]⟩
abbrev S1056x2048 : Shape := ⟨2, ![1056, 2048]⟩
abbrev S2048x512 : Shape := ⟨2, ![2048, 512]⟩
abbrev S2048x128 : Shape := ⟨2, ![2048, 128]⟩
abbrev S544x2048 : Shape := ⟨2, ![544, 2048]⟩
abbrev S2048x256 : Shape := ⟨2, ![2048, 256]⟩
abbrev S544x256 : Shape := ⟨2, ![544, 256]⟩
abbrev S512x1 : Shape := ⟨2, ![512, 1]⟩
abbrev S512x256 : Shape := ⟨2, ![512, 256]⟩
abbrev S3x256 : Shape := ⟨2, ![3, 256]⟩
abbrev S1x256 : Shape := ⟨2, ![1, 256]⟩

abbrev nBuf : Space → Nat
  | .hbm => 33
  | .vmem => 33
  | .smem => 0
  | _ => 0

abbrev bufTy : (tb : Table) → Fin (tcTables nBuf tb) → BufTy
  | .hbm, ⟨0, _⟩ => ⟨S8192x2048, .bf16⟩
  | .hbm, ⟨1, _⟩ => ⟨S2x2048x11008, .f32⟩
  | .hbm, ⟨2, _⟩ => ⟨S2x3x11008, .f32⟩
  | .hbm, ⟨3, _⟩ => ⟨S2x11008, .f32⟩
  | .hbm, ⟨4, _⟩ => ⟨S2x5504x2048, .f32⟩
  | .hbm, ⟨5, _⟩ => ⟨S1x3x11008, .f32⟩
  | .hbm, ⟨6, _⟩ => ⟨S3x11008, .f32⟩
  | .hbm, ⟨7, _⟩ => ⟨S3x5504, .f32⟩
  | .hbm, ⟨8, _⟩ => ⟨S_, .i32⟩
  | .hbm, ⟨9, _⟩ => ⟨S_, .f32⟩
  | .hbm, ⟨10, _⟩ => ⟨S3x5632, .f32⟩
  | .hbm, ⟨11, _⟩ => ⟨S1x3x11008, .f32⟩
  | .hbm, ⟨12, _⟩ => ⟨S3x11008, .f32⟩
  | .hbm, ⟨13, _⟩ => ⟨S3x5504, .f32⟩
  | .hbm, ⟨14, _⟩ => ⟨S_, .i32⟩
  | .hbm, ⟨15, _⟩ => ⟨S_, .f32⟩
  | .hbm, ⟨16, _⟩ => ⟨S3x5632, .f32⟩
  | .hbm, ⟨17, _⟩ => ⟨S1x11008, .f32⟩
  | .hbm, ⟨18, _⟩ => ⟨S11008, .f32⟩
  | .hbm, ⟨19, _⟩ => ⟨S5504, .f32⟩
  | .hbm, ⟨20, _⟩ => ⟨S_, .i32⟩
  | .hbm, ⟨21, _⟩ => ⟨S_, .f32⟩
  | .hbm, ⟨22, _⟩ => ⟨S5632, .f32⟩
  | .hbm, ⟨23, _⟩ => ⟨S1x5632, .f32⟩
  | .hbm, ⟨24, _⟩ => ⟨S1x11008, .f32⟩
  | .hbm, ⟨25, _⟩ => ⟨S11008, .f32⟩
  | .hbm, ⟨26, _⟩ => ⟨S5504, .f32⟩
  | .hbm, ⟨27, _⟩ => ⟨S_, .i32⟩
  | .hbm, ⟨28, _⟩ => ⟨S_, .f32⟩
  | .hbm, ⟨29, _⟩ => ⟨S5632, .f32⟩
  | .hbm, ⟨30, _⟩ => ⟨S1x5632, .f32⟩
  | .hbm, ⟨31, _⟩ => ⟨S8192x5632, .bf16⟩
  | .hbm, ⟨32, _⟩ => ⟨S5632x2048, .bf16⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S3x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x64x2048, .f32⟩
  | .local _ .vmem, ⟨25, _⟩ => ⟨S1x64x2048, .f32⟩
  | .local _ .vmem, ⟨26, _⟩ => ⟨S1024x512, .bf16⟩
  | .local _ .vmem, ⟨27, _⟩ => ⟨S1024x512, .bf16⟩
  | .local _ .vmem, ⟨28, _⟩ => ⟨S64x2048, .bf16⟩
  | .local _ .vmem, ⟨29, _⟩ => ⟨S64x2048, .bf16⟩
  | .local _ .vmem, ⟨30, _⟩ => ⟨S1056x2048, .bf16⟩
  | .local _ .vmem, ⟨31, _⟩ => ⟨S2048x512, .bf16⟩
  | .local _ .vmem, ⟨32, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c0_i32 : BitVec 32 := 0#32
  let v2 : BitVec 32 := Scalar.addi v1 c0_i32
  let c85_i32 : BitVec 32 := 85#32
  let v3 : BitVec 32 := Scalar.minsi v2 c85_i32
  let c0_i32_0 : BitVec 32 := 0#32
  let c0_i32_1 : BitVec 32 := 0#32
  let c0_i32_2 : BitVec 32 := 0#32
  ![c0_i32_0.toNat, c0_i32_1.toNat, v3.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  ![c0_i32.toNat, c0_i32_0.toNat, v3.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c2_i32 : BitVec 32 := 2#32
  let v2 : BitVec 32 := Scalar.addi v1 c2_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  ![c0_i32.toNat, c0_i32_0.toNat, v3.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c3_i32 : BitVec 32 := 3#32
  let v2 : BitVec 32 := Scalar.addi v1 c3_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  ![c0_i32.toNat, c0_i32_0.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== UpRefIdeal.lean ====
abbrev S8192x2048 : Shape := ⟨2, ![8192, 2048]⟩
abbrev S2x2048x11008 : Shape := ⟨3, ![2, 2048, 11008]⟩
abbrev S2x3x11008 : Shape := ⟨3, ![2, 3, 11008]⟩
abbrev S2x11008 : Shape := ⟨2, ![2, 11008]⟩
abbrev S2x5504x2048 : Shape := ⟨3, ![2, 5504, 2048]⟩
abbrev S1x2048x11008 : Shape := ⟨3, ![1, 2048, 11008]⟩
abbrev S2048x11008 : Shape := ⟨2, ![2048, 11008]⟩
abbrev S8192x11008 : Shape := ⟨2, ![8192, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S4096x11008 : Shape := ⟨2, ![4096, 11008]⟩
abbrev S16x256x11008 : Shape := ⟨3, ![16, 256, 11008]⟩
abbrev S_ : Shape := ⟨0, ![]⟩
abbrev S16x1x11008 : Shape := ⟨3, ![16, 1, 11008]⟩
abbrev S16x258x11008 : Shape := ⟨3, ![16, 258, 11008]⟩
abbrev S1x1x11008 : Shape := ⟨3, ![1, 1, 11008]⟩
abbrev S2x1x11008 : Shape := ⟨3, ![2, 1, 11008]⟩
abbrev S2x2050x11008 : Shape := ⟨3, ![2, 2050, 11008]⟩
abbrev S8192x5504 : Shape := ⟨2, ![8192, 5504]⟩
abbrev S8192x5632 : Shape := ⟨2, ![8192, 5632]⟩
abbrev S1x5504x2048 : Shape := ⟨3, ![1, 5504, 2048]⟩
abbrev S5504x2048 : Shape := ⟨2, ![5504, 2048]⟩
abbrev S5632x2048 : Shape := ⟨2, ![5632, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11008, .f32⟩
  | .hbm, ⟨2, _⟩ => ⟨S2x3x11008, .f32⟩
  | .hbm, ⟨3, _⟩ => ⟨S2x11008, .f32⟩
  | .hbm, ⟨4, _⟩ => ⟨S2x5504x2048, .f32⟩
  | .hbm, ⟨5, _⟩ => ⟨S8192x2048, .f32⟩
  | .hbm, ⟨6, _⟩ => ⟨S1x2048x11008, .f32⟩
  | .hbm, ⟨7, _⟩ => ⟨S2048x11008, .f32⟩
  | .hbm, ⟨8, _⟩ => ⟨S8192x11008, .f32⟩
  | .hbm, ⟨9, _⟩ => ⟨S1x3x11008, .f32⟩
  | .hbm, ⟨10, _⟩ => ⟨S3x11008, .f32⟩
  | .hbm, ⟨11, _⟩ => ⟨S1x11008, .f32⟩
  | .hbm, ⟨12, _⟩ => ⟨S11008, .f32⟩
  | .hbm, ⟨13, _⟩ => ⟨S4096x11008, .f32⟩
  | .hbm, ⟨14, _⟩ => ⟨S16x256x11008, .f32⟩
  | .hbm, ⟨15, _⟩ => ⟨S_, .f32⟩
  | .hbm, ⟨16, _⟩ => ⟨S16x1x11008, .f32⟩
  | .hbm, ⟨17, _⟩ => ⟨S16x258x11008, .f32⟩
  | .hbm, ⟨18, _⟩ => ⟨S16x256x11008, .f32⟩
  | .hbm, ⟨19, _⟩ => ⟨S1x11008, .f32⟩
  | .hbm, ⟨20, _⟩ => ⟨S11008, .f32⟩
  | .hbm, ⟨21, _⟩ => ⟨S1x1x11008, .f32⟩
  | .hbm, ⟨22, _⟩ => ⟨S16x256x11008, .f32⟩
  | .hbm, ⟨23, _⟩ => ⟨S16x256x11008, .f32⟩
  | .hbm, ⟨24, _⟩ => ⟨S16x256x11008, .f32⟩
  | .hbm, ⟨25, _⟩ => ⟨S1x11008, .f32⟩
  | .hbm, ⟨26, _⟩ => ⟨S11008, .f32⟩
  | .hbm, ⟨27, _⟩ => ⟨S1x1x11008, .f32⟩
  | .hbm, ⟨28, _⟩ => ⟨S16x256x11008, .f32⟩
  | .hbm, ⟨29, _⟩ => ⟨S16x256x11008, .f32⟩
  | .hbm, ⟨30, _⟩ => ⟨S16x256x11008, .f32⟩
  | .hbm, ⟨31, _⟩ => ⟨S16x256x11008, .f32⟩
  | .hbm, ⟨32, _⟩ => ⟨S1x11008, .f32⟩
  | .hbm, ⟨33, _⟩ => ⟨S11008, .f32⟩
  | .hbm, ⟨34, _⟩ => ⟨S1x1x11008, .f32⟩
  | .hbm, ⟨35, _⟩ => ⟨S16x256x11008, .f32⟩
  | .hbm, ⟨36, _⟩ => ⟨S16x256x11008, .f32⟩
  | .hbm, ⟨37, _⟩ => ⟨S16x256x11008, .f32⟩
  | .hbm, ⟨38, _⟩ => ⟨S1x1x11008, .f32⟩
  | .hbm, ⟨39, _⟩ => ⟨S16x256x11008, .f32⟩
  | .hbm, ⟨40, _⟩ => ⟨S16x256x11008, .f32⟩
  | .hbm, ⟨41, _⟩ => ⟨S4096x11008, .f32⟩
  | .hbm, ⟨42, _⟩ => ⟨S4096x11008, .f32⟩
  | .hbm, ⟨43, _⟩ => ⟨S2x2048x11008, .f32⟩
  | .hbm, ⟨44, _⟩ => ⟨S_, .f32⟩
  | .hbm, ⟨45, _⟩ => ⟨S2x1x11008, .f32⟩
  | .hbm, ⟨46, _⟩ => ⟨S2x2050x11008, .f32⟩
  | .hbm, ⟨47, _⟩ => ⟨S2x2048x11008, .f32⟩
  | .hbm, ⟨48, _⟩ => ⟨S1x11008, .f32⟩
  | .hbm, ⟨49, _⟩ => ⟨S11008, .f32⟩
  | .hbm, ⟨50, _⟩ => ⟨S1x1x11008, .f32⟩
  | .hbm, ⟨51, _⟩ => ⟨S2x2048x11008, .f32⟩
  | .hbm, ⟨52, _⟩ => ⟨S2x2048x11008, .f32⟩
  | .hbm, ⟨53, _⟩ => ⟨S2x2048x11008, .f32⟩
  | .hbm, ⟨54, _⟩ => ⟨S1x11008, .f32⟩
  | .hbm, ⟨55, _⟩ => ⟨S11008, .f32⟩
  | .hbm, ⟨56, _⟩ => ⟨S1x1x11008, .f32⟩
  | .hbm, ⟨57, _⟩ => ⟨S2x2048x11008, .f32⟩
  | .hbm, ⟨58, _⟩ => ⟨S2x2048x11008, .f32⟩
  | .hbm, ⟨59, _⟩ => ⟨S2x2048x11008, .f32⟩
  | .hbm, ⟨60, _⟩ => ⟨S2x2048x11008, .f32⟩
  | .hbm, ⟨61, _⟩ => ⟨S1x11008, .f32⟩
  | .hbm, ⟨62, _⟩ => ⟨S11008, .f32⟩
  | .hbm, ⟨63, _⟩ => ⟨S1x1x11008, .f32⟩
  | .hbm, ⟨64, _⟩ => ⟨S2x2048x11008, .f32⟩
  | .hbm, ⟨65, _⟩ => ⟨S2x2048x11008, .f32⟩
  | .hbm, ⟨66, _⟩ => ⟨S2x2048x11008, .f32⟩
  | .hbm, ⟨67, _⟩ => ⟨S1x1x11008, .f32⟩
  | .hbm, ⟨68, _⟩ => ⟨S2x2048x11008, .f32⟩
  | .hbm, ⟨69, _⟩ => ⟨S2x2048x11008, .f32⟩
  | .hbm, ⟨70, _⟩ => ⟨S4096x11008, .f32⟩
  | .hbm, ⟨71, _⟩ => ⟨S8192x11008, .f32⟩
  | .hbm, ⟨72, _⟩ => ⟨S8192x5504, .f32⟩
  | .hbm, ⟨73, _⟩ => ⟨S8192x5504, .f32⟩
  | .hbm, ⟨74, _⟩ => ⟨S8192x5504, .f32⟩
  | .hbm, ⟨75, _⟩ => ⟨S8192x5504, .f32⟩
  | .hbm, ⟨76, _⟩ => ⟨S_, .f32⟩
  | .hbm, ⟨77, _⟩ => ⟨S8192x5504, .f32⟩
  | .hbm, ⟨78, _⟩ => ⟨S8192x5504, .f32⟩
  | .hbm, ⟨79, _⟩ => ⟨S_, .f32⟩
  | .hbm, ⟨80, _⟩ => ⟨S8192x5504, .f32⟩
  | .hbm, ⟨81, _⟩ => ⟨S8192x5504, .f32⟩
  | .hbm, ⟨82, _⟩ => ⟨S8192x5504, .f32⟩
  | .hbm, ⟨83, _⟩ => ⟨S8192x5504, .f32⟩
  | .hbm, ⟨84, _⟩ => ⟨S_, .i32⟩
  | .hbm, ⟨85, _⟩ => ⟨S_, .f32⟩
  | .hbm, ⟨86, _⟩ => ⟨S8192x5632, .f32⟩
  | .hbm, ⟨87, _⟩ => ⟨S8192x5632, .bf16⟩
  | .hbm, ⟨88, _⟩ => ⟨S1x5504x2048, .f32⟩
  | .hbm, ⟨89, _⟩ => ⟨S5504x2048, .f32⟩
  | .hbm, ⟨90, _⟩ => ⟨S_, .i32⟩
  | .hbm, ⟨91, _⟩ => ⟨S_, .f32⟩
  | .hbm, ⟨92, _⟩ => ⟨S5632x2048, .f32⟩
  | .hbm, ⟨93, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_0 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_1 : Ref sig .tc := ⟨.hbm, 76, rfl⟩
abbrev main_v69 : Ref sig .tc := ⟨.hbm, 77, rfl⟩
abbrev main_v70 : Ref sig .tc := ⟨.hbm, 78, rfl⟩
abbrev main_cst_2 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_c : Ref sig .tc := ⟨.hbm, 84, rfl⟩
abbrev main_call0_v0 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_3 : Ref sig .tc := ⟨.hbm, 90, rfl⟩
abbrev main_call1_v0 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== InProj.lean ====
abbrev S8192x2048 : Shape := ⟨2, ![8192, 2048]⟩
abbrev S6784x4096 : Shape := ⟨2, ![6784, 4096]⟩
abbrev S128x4096 : Shape := ⟨2, ![128, 4096]⟩
abbrev S2x2048x2048 : Shape := ⟨3, ![2, 2048, 2048]⟩
abbrev S54x8192x128 : Shape := ⟨3, ![54, 8192, 128]⟩
abbrev S2048x2048 : Shape := ⟨2, ![2048, 2048]⟩
abbrev S1024x2048 : Shape := ⟨2, ![1024, 2048]⟩
abbrev S768x2048 : Shape := ⟨2, ![768, 2048]⟩
abbrev S128x2048 : Shape := ⟨2, ![128, 2048]⟩
abbrev S1x32x2048 : Shape := ⟨3, ![1, 32, 2048]⟩
abbrev S6x1024x128 : Shape := ⟨3, ![6, 1024, 128]⟩
abbrev S32x2048 : Shape := ⟨2, ![32, 2048]⟩
abbrev S1024x768 : Shape := ⟨2, ![1024, 768]⟩
abbrev S1024x128 : Shape := ⟨2, ![1024, 128]⟩
abbrev S1x1024x128 : Shape := ⟨3, ![1, 1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S6784x4096, .bf16⟩
  | .hbm, ⟨2, _⟩ => ⟨S128x4096, .bf16⟩
  | .hbm, ⟨3, _⟩ => ⟨S2x2048x2048, .f32⟩
  | .hbm, ⟨4, _⟩ => ⟨S54x8192x128, .f32⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S128x2048, .bf16⟩
  | .local _ .vmem, ⟨5, _⟩ => ⟨S1x32x2048, .f32⟩
  | .local _ .vmem, ⟨6, _⟩ => ⟨S1x32x2048, .f32⟩
  | .local _ .vmem, ⟨7, _⟩ => ⟨S6x1024x128, .f32⟩
  | .local _ .vmem, ⟨8, _⟩ => ⟨S6x1024x128, .f32⟩
  | .local _ .vmem, ⟨9, _⟩ => ⟨S32x2048, .bf16⟩
  | .local _ .vmem, ⟨10, _⟩ => ⟨S32x2048, .bf16⟩
  | .local _ .vmem, ⟨11, _⟩ => ⟨S768x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S6x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S8192x2048 : Shape := ⟨2, ![8192, 2048]⟩
abbrev S6784x4096 : Shape := ⟨2, ![6784, 4096]⟩
abbrev S128x4096 : Shape := ⟨2, ![128, 4096]⟩
abbrev S2x2048x2048 : Shape := ⟨3, ![2, 2048, 2048]⟩
abbrev S6784x2048 : Shape := ⟨2, ![6784, 2048]⟩
abbrev S128x2048 : Shape := ⟨2, ![128, 2048]⟩
abbrev S6912x2048 : Shape := ⟨2, ![6912, 2048]⟩
abbrev S2048x6912 : Shape := ⟨2, ![2048, 6912]⟩
abbrev S8192x6912 : Shape := ⟨2, ![8192, 6912]⟩
abbrev S8192x54x128 : Shape := ⟨3, ![8192, 54, 128]⟩
abbrev S54x8192x128 : Shape := ⟨3, ![54, 8192, 128]⟩
abbrev S1x2048x2048 : Shape := ⟨3, ![1, 2048, 2048]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S6784x4096, .bf16⟩
  | .hbm, ⟨2, _⟩ => ⟨S128x4096, .bf16⟩
  | .hbm, ⟨3, _⟩ => ⟨S2x2048x2048, .f32⟩
  | .hbm, ⟨4, _⟩ => ⟨S6784x2048, .bf16⟩
  | .hbm, ⟨5, _⟩ => ⟨S128x2048, .bf16⟩
  | .hbm, ⟨6, _⟩ => ⟨S6912x2048, .bf16⟩
  | .hbm, ⟨7, _⟩ => ⟨S6912x2048, .f32⟩
  | .hbm, ⟨8, _⟩ => ⟨S8192x2048, .f32⟩
  | .hbm, ⟨9, _⟩ => ⟨S2048x6912, .f32⟩
  | .hbm, ⟨10, _⟩ => ⟨S8192x6912, .f32⟩
  | .hbm, ⟨11, _⟩ => ⟨S8192x54x128, .f32⟩
  | .hbm, ⟨12, _⟩ => ⟨S54x8192x128, .f32⟩
  | .hbm, ⟨13, _⟩ => ⟨S1x2048x2048, .f32⟩
  | .hbm, ⟨14, _⟩ => ⟨S2048x2048, .f32⟩
  | .hbm, ⟨15, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.InProjIdealRun.lean ====
/-
  The body of the input projection's idealization, run at one grid point: what its stores leave in the six planes, in
  the cast rows of the output weights and in the kept weights.
-/
module

public import proofs.«01_k».proof.Proof.Gen.InProjIdeal.Frame
public import proofs.«01_k».proof.Proof.Gen.InProjIdeal.Skeleton
public import proofs.«01_k».proof.Proof.Gen.InProjIdeal.Points
public import Idealize.ShloMosaic.Lib.Pipeline.ReadBack
public import Idealize.ShloMosaic.Lib.Pipeline.ValueKit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body starts a new block of weights. -/
abbrev Starts (i : grid0.Coords) : Prop := (Scalar.cmpi .ne (Scalar.extui (Scalar.cmpi .eq (BitVec.ofNat 32 (i 1).val) 0#32)) 0#32) = 1#1

/-- The block of weights is the last one. -/
abbrev Ends (i : grid0.Coords) : Prop := (Scalar.cmpi .ne (Scalar.extui (Scalar.cmpi .eq (BitVec.ofNat 32 (i 0).val) 8#32)) 0#32) = 1#1

theorem starts_iff (t : Fin cfg0.N) : Starts (grid0.coords t) ↔ t.val % 8 = 0 := by
  have ht : t.val < 72 := Nat.lt_of_lt_of_eq t.isLt N_0
  have e1 : (grid0.coords t 1).val = t.val / 1 % 8 := Pipeline.Grid.coords_val t 1 (by decide) rfl
  simp only [Starts, e1]
  word_cmp

theorem ends_iff (t : Fin cfg0.N) : Ends (grid0.coords t) ↔ 64 ≤ t.val := by
  have ht : t.val < 72 := Nat.lt_of_lt_of_eq t.isLt N_0
  have e0 : (grid0.coords t 0).val = t.val / 8 % 9 := Pipeline.Grid.coords_val t 0 (by decide) rfl
  simp only [Ends, e0]
  word_cmp

/-- The pieces of the six planes. -/
def planePieces (h : Vec F S1024x2048 .bf16) (w : Vec F S768x2048 .bf16) : List (View.Piece (Elt F) S6x1024x128 .f32) :=
  [⟨Rect.unit (s := S6x1024x128) ![5, 0, 0] S1x1024x128.size inb_S6x1024x128_S1x1024x128_5_0_0, k0_pay2 (k0_pay6 h w)⟩,
   ⟨Rect.unit (s := S6x1024x128) ![4, 0, 0] S1x1024x128.size inb_S6x1024x128_S1x1024x128_4_0_0, k0_pay1 (k0_pay11 h w)⟩,
   ⟨Rect.unit (s := S6x1024x128) ![3, 0, 0] S1x1024x128.size inb_S6x1024x128_S1x1024x128_3_0_0, k0_pay10 h w⟩,
   ⟨Rect.unit (s := S6x1024x128) ![2, 0, 0] S1x1024x128.size inb_S6x1024x128_S1x1024x128_2_0_0, k0_pay9 h w⟩,
   ⟨Rect.unit (s := S6x1024x128) ![1, 0, 0] S1x1024x128.size inb_S6x1024x128_S1x1024x128_1_0_0, k0_pay8 h w⟩,
   ⟨Rect.unit (s := S6x1024x128) ![0, 0, 0] S1x1024x128.size inb_S6x1024x128_S1x1024x128_0_0_0, k0_pay7 h w⟩]

theorem planePieces_cover (h : Vec F S1024x2048 .bf16) (w : Vec F S768x2048 .bf16) (y : S6x1024x128.Idx) :
    ∃ p ∈ planePieces h w, y ∈ p.1.set :=
  View.cover_of_tiledL (planePieces h w) S1x1024x128.size (by sl_kernel_rfl) y

/-- The six planes: the products' columns, 128 to a plane. -/
def planes (h : Vec F S1024x2048 .bf16) (w : Vec F S768x2048 .bf16) : Vec F S6x1024x128 .f32 := View.canon (planePieces h w)

/-- The pieces of the last block of weights: its rows, and the gate's weights over its end. -/
def lastPieces (x : Vec F S768x2048 .bf16) (g : Vec F S128x2048 .bf16) : List (View.Piece (Elt F) S768x2048 .bf16) :=
  [⟨Rect.unit (s := S768x2048) ![640, 0] S128x2048.size inb_S768x2048_S128x2048_640_0, k0_pay5 g⟩,
   ⟨Rect.unit (s := S768x2048) ![0, 0] S768x2048.size inb_S768x2048_S768x2048_0_0, k0_pay4 x⟩]

theorem lastPieces_cover (x : Vec F S768x2048 .bf16) (g : Vec F S128x2048 .bf16) (y : S768x2048.Idx) :
    ∃ p ∈ lastPieces x g, y ∈ p.1.set :=
  View.cover_of_wholeMem (lastPieces x g) (by sl_whole_mem) y

/-- The last block of weights. -/
def lastRows (x : Vec F S768x2048 .bf16) (g : Vec F S128x2048 .bf16) : Vec F S768x2048 .bf16 := View.canon (lastPieces x g)

/-- The piece of the cast rows. -/
def castPieces (x : Vec F S1x32x2048 .f32) : List (View.Piece (Elt F) S32x2048 .bf16) :=
  [⟨Rect.unit (s := S32x2048) ![0, 0] S32x2048.size inb_S32x2048_S32x2048_0_0, k0_pay3 x⟩]

theorem castPieces_cover (x : Vec F S1x32x2048 .f32) (y : S32x2048.Idx) : ∃ p ∈ castPieces x, y ∈ p.1.set :=
  View.cover_of_wholeMem (castPieces x) (by sl_whole_mem) y

/-- The piece of any block of weights but the last. -/
def firstPieces (x : Vec F S768x2048 .bf16) : List (View.Piece (Elt F) S768x2048 .bf16) :=
  [⟨Rect.unit (s := S768x2048) ![0, 0] S768x2048.size inb_S768x2048_S768x2048_0_0, k0_pay4 x⟩]

theorem firstPieces_cover (x : Vec F S768x2048 .bf16) (y : S768x2048.Idx) : ∃ p ∈ firstPieces x, y ∈ p.1.set :=
  View.cover_of_wholeMem (firstPieces x) (by sl_whole_mem) y

/-- A load of the whole of the last block of weights just stored. -/
theorem lastRows_load (x : Vec F S768x2048 .bf16) (g : Vec F S128x2048 .bf16) (v : View sig .tc .vmem S768x2048 .bf16) :
    v.readCov (lastPieces x g) (Rect.unit (s := S768x2048) ![0, 0] S768x2048.size inb_S768x2048_S768x2048_0_0).toLoadRect = lastRows x g :=
  (View.readCov_eq_canon_ld _ _ _ (lastPieces_cover x g)).trans (View.ld_unit_lit' _ _ (by decide))

variable (c : Dev nD) (i : grid0.Coords)
  (arg2 : Memref sig .tc .vmem S1024x2048 .bf16) (harg2 : arg2.IsWhole) (arg3 : Memref sig .tc .vmem S768x2048 .bf16) (harg3 : arg3.IsWhole)
  (arg4 : Memref sig .tc .vmem S128x2048 .bf16) (harg4 : arg4.IsWhole) (arg5 : Memref sig .tc .vmem S1x32x2048 .f32) (harg5 : arg5.IsWhole)
  (arg6 : Memref sig .tc .vmem S6x1024x128 .f32) (harg6 : arg6.IsWhole) (arg7 : Memref sig .tc .vmem S32x2048 .bf16) (harg7 : arg7.IsWhole)
  (arg8 : Memref sig .tc .vmem S768x2048 .bf16) (harg8 : arg8.IsWhole)
  (x0 : Vec F S1024x2048 .bf16) (x1 : Vec F S768x2048 .bf16) (x2 : Vec F S128x2048 .bf16) (x3 : Vec F S1x32x2048 .f32) (xs : Vec F S768x2048 .bf16)

/-- The buffers of one point, the outputs at `y4`, `y5` and the kept weights at `s`. -/
def held (y4 : Vec F S6x1024x128 .f32) (y5 : Vec F S32x2048 .bf16) (s : Vec F S768x2048 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare y4 ∗ owns (c : Thread nD τ) arg7 fullShare y5
    ∗ owns (c : Thread nD τ) arg8 fullShare s)

set_option maxHeartbeats 1000000 in
/-- A point that keeps the weights. -/
theorem run_keep (hs : ¬ Starts i) (y4 : Vec F S6x1024x128 .f32) (y5 : Vec F S32x2048 .bf16) (E : Set ℕ) (K : PUnit → sProp 𝕄) :
    iprop(held c arg2 arg3 arg4 arg5 arg6 arg7 arg8 x0 x1 x2 x3 y4 y5 xs
        ∗ (held c arg2 arg3 arg4 arg5 arg6 arg7 arg8 x0 x1 x2 x3 (planes x0 xs) (k0_pay3 x3) xs -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, -, H4⟩, ⟨%f5, -, H5⟩, ⟨%fs, %hfs, HS⟩⟩, Hk⟩
  obtain rfl := harg2.eq_unread hf0; obtain rfl := harg3.eq_unread hf1; obtain rfl := harg4.eq_unread hf2; obtain rfl := harg5.eq_unread hf3
  obtain rfl := harg8.eq_unread hfs
  sl_exec (disch := sl_exact hs)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_open
    simp (disch := decide) only [View.readAt_eq_ld, Memref.IsWhole.read_unread, View.ld_unit_lit']
    exact View.read_writes_eq_canon _ _ (planePieces x0 xs) (planePieces_cover _ _)
  isplitl [H5]
  · iexists _; isplitr
    swap; · iexact H5
    ipureintro
    simp (disch := decide) only [View.readAt_eq_ld, Memref.IsWhole.read_unread, View.ld_unit_lit']
    exact (View.read_writes_eq_canon _ _ (castPieces x3) (castPieces_cover x3)).trans (View.canon_cons_unit_lit' _ _ _ (by decide))
  iexists _; isplitr
  swap; · iexact HS
  ipureintro
  exact harg8.read_unread _

set_option maxHeartbeats 1000000 in
/-- A point that starts a block of weights other than the last. -/
theorem run_first (hs : Starts i) (he : ¬ Ends i) (y4 : Vec F S6x1024x128 .f32) (y5 : Vec F S32x2048 .bf16) (E : Set ℕ) (K : PUnit → sProp 𝕄) :
    iprop(held c arg2 arg3 arg4 arg5 arg6 arg7 arg8 x0 x1 x2 x3 y4 y5 xs
        ∗ (held c arg2 arg3 arg4 arg5 arg6 arg7 arg8 x0 x1 x2 x3 (planes x0 (k0_pay4 x1)) (k0_pay3 x3) (k0_pay4 x1) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, -, H4⟩, ⟨%f5, -, H5⟩, ⟨%fs, %hfs, HS⟩⟩, Hk⟩
  obtain rfl := harg2.eq_unread hf0; obtain rfl := harg3.eq_unread hf1; obtain rfl := harg4.eq_unread hf2; obtain rfl := harg5.eq_unread hf3
  obtain rfl := harg8.eq_unread hfs
  sl_exec (disch := first | sl_exact hs | sl_exact he)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_open
    simp (disch := decide) only [View.readAt_eq_ld, Memref.IsWhole.read_unread, View.ld_unit_lit', View.readCov_unit_lit']
    exact View.read_writes_eq_canon _ _ (planePieces x0 (k0_pay4 x1)) (planePieces_cover _ _)
  isplitl [H5]
  · iexists _; isplitr
    swap; · iexact H5
    ipureintro
    simp (disch := decide) only [View.readAt_eq_ld, Memref.IsWhole.read_unread, View.ld_unit_lit']
    exact (View.read_writes_eq_canon _ _ (castPieces x3) (castPieces_cover x3)).trans (View.canon_cons_unit_lit' _ _ _ (by decide))
  iexists _; isplitr
  swap; · iexact HS
  ipureintro
  frame_open
  simp (disch := decide) only [View.readAt_eq_ld, Memref.IsWhole.read_unread, View.ld_unit_lit']
  exact (View.read_writes_eq_canon _ _ (firstPieces x1) (firstPieces_cover x1)).trans (View.canon_cons_unit_lit' _ _ _ (by decide))

set_option maxHeartbeats 1000000 in
/-- The point that starts the last block of weights. -/
theorem run_last (hs : Starts i) (he : Ends i) (y4 : Vec F S6x1024x128 .f32) (y5 : Vec F S32x2048 .bf16) (E : Set ℕ) (K : PUnit → sProp 𝕄) :
    iprop(held c arg2 arg3 arg4 arg5 arg6 arg7 arg8 x0 x1 x2 x3 y4 y5 xs
        ∗ (held c arg2 arg3 arg4 arg5 arg6 arg7 arg8 x0 x1 x2 x3 (planes x0 (lastRows x1 x2)) (k0_pay3 x3) (lastRows x1 x2) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, -, H4⟩, ⟨%f5, -, H5⟩, ⟨%fs, %hfs, HS⟩⟩, Hk⟩
  obtain rfl := harg2.eq_unread hf0; obtain rfl := harg3.eq_unread hf1; obtain rfl := harg4.eq_unread hf2; obtain rfl := harg5.eq_unread hf3
  obtain rfl := harg8.eq_unread hfs
  sl_exec (disch := first | sl_exact hs | sl_exact he)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    frame_open
    simp (disch := decide) only [View.readAt_eq_ld, Memref.IsWhole.read_unread, View.ld_unit_lit']
    rw [show ∀ v : View sig .tc .vmem S768x2048 .bf16, v.readCov _ _ = lastRows x1 x2 from lastRows_load x1 x2]
    exact View.read_writes_eq_canon _ _ (planePieces x0 (lastRows x1 x2)) (planePieces_cover _ _)
  isplitl [H5]
  · iexists _; isplitr
    swap; · iexact H5
    ipureintro
    simp (disch := decide) only [View.readAt_eq_ld, Memref.IsWhole.read_unread, View.ld_unit_lit']
    exact (View.read_writes_eq_canon _ _ (castPieces x3) (castPieces_cover x3)).trans (View.canon_cons_unit_lit' _ _ _ (by decide))
  iexists _; isplitr
  swap; · iexact HS
  ipureintro
  frame_open
  simp (disch := decide) only [View.readAt_eq_ld, Memref.IsWhole.read_unread, View.ld_unit_lit']
  exact View.read_writes_eq_canon _ _ (lastPieces x1 x2) (lastPieces_cover x1 x2)

end Cert.InProjIdeal.Hand

end
-- ==== Proof.InProjIdealFrame.lean ====
/-
  The frame of the input projection's idealization: the last block of weights overhangs its array, and the rows past
  the end are overwritten by the gate's weights before anything reads them.
-/
module

public import proofs.«01_k».proof.Proof.InProjIdealRun

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem tlt (t : Fin cfg0.N) : t.val < 72 := Nat.lt_of_lt_of_eq t.isLt N_0

/-! ## The window of the weights -/

/-- Contents for the rows a transfer leaves alone. -/
def rest1 : Vec F S768x2048 .bf16 := fun _ => Classical.choice (Elt.nonempty F _)

/-- What the weights' buffer holds at a point, its untouched rows at `d`. -/
def wbuf (d : Vec F S768x2048 .bf16) (t : Fin cfg0.N) : Vec F S768x2048 .bf16 :=
  (cfg0.win 1).fill (cfg0.grid.coords t) d (iblk m c 1 t)

theorem whole1 : ∀ t : Fin cfg0.N, t.val < 64 → ∀ a, (cfg0.win 1).xsize (cfg0.grid.coords t) a = (cfg0.win 1).size a := by decide +kernel
theorem rows1 : ∀ t : Fin cfg0.N, 640 ≤ (cfg0.win 1).xsize (cfg0.grid.coords t) 0 ∧ (cfg0.win 1).xsize (cfg0.grid.coords t) 1 = 2048 := by decide +kernel

/-- A row of the weights that the transfer brings. -/
theorem moved1 (t : Fin cfg0.N) (y : S768x2048.Idx) (h : t.val < 64 ∨ (y 0).val < 640) :
    (cfg0.win 1).moved (cfg0.grid.coords t) y = true := by
  refine ((cfg0.win 1).moved_iff _ y).mpr fun a => ?_
  rcases h with h | h
  · rw [whole1 t h a]; exact (y a).isLt
  · have b := rows1 t
    have b1 : (y 1).val < 2048 := (y 1).isLt
    match a with
    | ⟨0, _⟩ => exact lt_of_lt_of_le h b.1
    | ⟨1, _⟩ => exact lt_of_lt_of_eq b1 b.2.symm

theorem wbuf_apply (d d' : Vec F S768x2048 .bf16) (t : Fin cfg0.N) (y : S768x2048.Idx) (h : t.val < 64 ∨ (y 0).val < 640) :
    wbuf m c d t y = wbuf m c d' t y := by
  unfold wbuf Pipeline.Window.fill
  rw [dif_pos (moved1 t y h), dif_pos (moved1 t y h)]

/-- What the weights' buffer holds before a block other than the last does not depend on what it held. -/
theorem wbuf_first (d d' : Vec F S768x2048 .bf16) (t : Fin cfg0.N) (h : t.val < 64) : wbuf m c d t = wbuf m c d' t :=
  funext fun y => wbuf_apply m c d d' t y (.inl h)

/-- A block of weights kept whole. -/
theorem firstRows (x : Vec F S768x2048 .bf16) : View.canon (firstPieces x) = x :=
  (View.canon_cons_unit_lit' _ _ _ (by decide)).trans (shapeCast_self _ _)

/-- The gate's weights, as the piece stored over the last block's end. -/
def gatePiece (g : Vec F S128x2048 .bf16) : View.Piece (Elt F) S768x2048 .bf16 :=
  ⟨Rect.unit (s := S768x2048) ![640, 0] S128x2048.size inb_S768x2048_S128x2048_640_0, k0_pay5 g⟩

/-- The last block of weights depends on its first 640 rows only. -/
theorem lastRows_congr (x x' : Vec F S768x2048 .bf16) (g : Vec F S128x2048 .bf16)
    (h : ∀ y : S768x2048.Idx, (y 0).val < 640 → x y = x' y) : lastRows x g = lastRows x' g := by
  funext y
  have y1 : (y 1).val < 2048 := (y 1).isLt
  have y0 : (y 0).val < 768 := (y 0).isLt
  have e : ∀ z, lastRows z g = (gatePiece g).1.overlay (View.canon (firstPieces z)) (gatePiece g).2 := fun z => rfl
  rw [e, e, firstRows, firstRows]
  by_cases b : y ∈ (gatePiece g).1.set
  · rw [← Rect.map_emb_univ] at b
    obtain ⟨z, -, hz⟩ := Finset.mem_map.mp b
    rw [← hz]
    exact (Rect.overlay_emb _ _ _ z).trans (Rect.overlay_emb _ _ _ z).symm
  · refine (Rect.overlay_of_not_mem _ _ _ b).trans (Eq.trans ?_ (Rect.overlay_of_not_mem _ _ _ b).symm)
    refine h y ?_
    by_contra h0
    refine b ((Rect.mem_set_unit (inb := inb_S768x2048_S128x2048_640_0)).mpr fun a => ?_)
    match a with
    | ⟨0, _⟩ => show 640 ≤ (y 0).val ∧ (y 0).val < 640 + 128; omega
    | ⟨1, _⟩ => show 0 ≤ (y 1).val ∧ (y 1).val < 0 + 2048; omega

theorem lastRows_wbuf (d d' : Vec F S768x2048 .bf16) (g : Vec F S128x2048 .bf16) (t : Fin cfg0.N) :
    lastRows (wbuf m c d t) g = lastRows (wbuf m c d' t) g :=
  lastRows_congr _ _ g fun y h => wbuf_apply m c d d' t y (.inr h)

/-! ## What the buffers hold after each point -/

/-- The first point of the block of weights of position `n`. -/
def firstPoint (n : ℕ) (hn : n < cfg0.N) : Fin cfg0.N := ⟨n / 8 * 8, by omega⟩

/-- The weights kept at position `n`. -/
def kept (n : ℕ) (hn : n < cfg0.N) : Vec F S768x2048 .bf16 :=
  if n < 64 then k0_pay4 (wbuf m c rest1 (firstPoint n hn))
  else lastRows (wbuf m c rest1 (firstPoint n hn)) (iblk m c 2 (firstPoint n hn))

theorem firstPoint_self (t : Fin cfg0.N) (h : t.val % 8 = 0) : firstPoint t.val t.isLt = t := Fin.ext (by show t.val / 8 * 8 = t.val; omega)

theorem kept_first (t : Fin cfg0.N) (h : t.val % 8 = 0) (h' : t.val < 64) (d : Vec F S768x2048 .bf16) :
    k0_pay4 (wbuf m c d t) = kept m c t.val t.isLt := by
  unfold kept; rw [if_pos h', firstPoint_self t h, wbuf_first m c d rest1 t h']

theorem kept_last (t : Fin cfg0.N) (h : t.val % 8 = 0) (h' : 64 ≤ t.val) (d : Vec F S768x2048 .bf16) :
    lastRows (wbuf m c d t) (iblk m c 2 t) = kept m c t.val t.isLt := by
  unfold kept; rw [if_neg (by omega), firstPoint_self t h, lastRows_wbuf m c d rest1]

theorem kept_keep (n : ℕ) (hn : n < cfg0.N) (h : ¬ n % 8 = 0) : kept m c (n - 1) (by omega) = kept m c n hn := by
  have e : firstPoint (n - 1) (by omega) = firstPoint n hn := Fin.ext (by show (n - 1) / 8 * 8 = n / 8 * 8; omega)
  unfold kept
  rw [e]
  by_cases b : n < 64
  · rw [if_pos b, if_pos (by omega)]
  · rw [if_neg b, if_neg (by omega)]

/-- The kernel's own buffer, which carries the weights from point to point. -/
abbrev scr : Memref sig .tc .vmem S768x2048 .bf16 := Memref.whole cc0_scratch0

/-- What holds before position `n`. -/
def inv : (n : ℕ) → n ≤ cfg0.N → sProp 𝕄
  | 0, _ => Pipeline.ΦA spec0 c
  | n + 1, hn => iprop(owns (c : Thread nD τ) scr fullShare (kept m c n hn) ∗ (∃ r, prngReg c r))

theorem inv_zero (n : ℕ) (h : n ≤ cfg0.N) (hz : n = 0) : inv m c n h
    = iprop((∃ d, owns (c : Thread nD τ) scr fullShare d) ∗ (∃ r, prngReg c r)) := by
  subst hz
  show Pipeline.ΦA spec0 c = _
  unfold Pipeline.ΦA; rw [scopedRest0_eq]; simp only [scr, owns_whole]; try rfl

theorem inv_pos (n : ℕ) (h : n ≤ cfg0.N) (hz : n ≠ 0) : inv m c n h
    = iprop(owns (c : Thread nD τ) scr fullShare (kept m c (n - 1) (by omega)) ∗ (∃ r, prngReg c r)) := by
  cases n with
  | zero => exact absurd rfl hz
  | succ n => rfl

/-- Before any position the buffer holds something, and the kept weights where the block goes on. -/
theorem inv_open (t : Fin cfg0.N) : inv m c t.val (Nat.le_of_lt t.isLt)
    ⊢ iprop(∃ d, ⌜¬ t.val % 8 = 0 → d = kept m c t.val t.isLt⌝ ∗ owns (c : Thread nD τ) scr fullShare d ∗ (∃ r, prngReg c r)) := by
  by_cases hz : t.val = 0
  · rw [inv_zero m c _ _ hz]
    iintro ⟨⟨%d, H⟩, Hg⟩
    iexists d; isplitr
    · ipureintro; intro h; omega
    isplitl [H]; · iexact H
    iexact Hg
  · rw [inv_pos m c _ _ hz]
    iintro ⟨H, Hg⟩
    iexists _; isplitr
    swap
    · isplitl [H]; · iexact H
      iexact Hg
    ipureintro; exact fun h => kept_keep m c _ _ h

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wbuf m c rest1 t
    | ⟨2, _⟩ => iblk m c 2 t
    | ⟨3, _⟩ => iblk m c 3 t
    | ⟨4, _⟩ => planes (iblk m c 0 t) (kept m c t.val t.isLt)
    | ⟨5, _⟩ => k0_pay3 (iblk m c 3 t)
  Φ t := inv m c t.val (Nat.le_of_lt_succ t.isLt)
  q _ := fullShare
  owed _ := 0

theorem A_eq (w : Fin cfg0.W) : (dats m 0 c).A w = V m c (Pipeline.arrRef spec0 w) := by dsimp only [dats]

theorem after0_0 (t : Fin cfg0.N) : (dats m 0 c).after 0 t = iblk m c 0 t := by dsimp only [dats]
theorem after0_1 (t : Fin cfg0.N) : (dats m 0 c).after 1 t = wbuf m c rest1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = planes (iblk m c 0 t) (kept m c t.val t.isLt) := by dsimp only [dats]
theorem after0_5 (t : Fin cfg0.N) : (dats m 0 c).after 5 t = k0_pay3 (iblk m c 3 t) := by dsimp only [dats]

theorem cut_wbuf (d : Vec F S768x2048 .bf16) (t : Fin cfg0.N) :
    (cfg0.win 1).cut (cfg0.grid.coords t) (wbuf m c d t) = iblk m c 1 t := by
  unfold wbuf; exact Pipeline.Window.cut_fill _ _ _ _

theorem before0_1 (t : Fin cfg0.N) (d : Vec F S768x2048 .bf16) : (dats m 0 c).before 1 t d = wbuf m c d t :=
  ((dats m 0 c).before_in_eq_fetched 1 rfl (fun _ => rfl)
      (fun t t' h => funext fun a => congrArg (fun n => Pipeline.Clip.of n ((cfg0.win 1).size a) (S6784x4096.size a)) (congrFun h a))
      (fun t => by rw [after0_1, cut_wbuf]; unfold Dat.blockOf iblk; rw [A_eq]; try rfl) t d).trans
    (by unfold Dat.fetched wbuf Dat.blockOf iblk; rw [A_eq]; try rfl)

theorem before0_0 (t : Fin cfg0.N) (d) : (dats m 0 c).before 0 t d = iblk m c 0 t := before0_0_of m (dats m 0 c) (A_eq m c 0) (after0_0 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d

/-! ## The body at a point -/

/-- The staging buffers at point `t` and the kernel's own buffer. -/
abbrev heldAt (t : Fin cfg0.N) (x1 : Vec F S768x2048 .bf16) (y4 : Vec F S6x1024x128 .f32) (y5 : Vec F S32x2048 .bf16) (s : Vec F S768x2048 .bf16) : sProp 𝕄 :=
  held c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) scr (iblk m c 0 t) x1 (iblk m c 2 t) (iblk m c 3 t) y4 y5 s

/-- The body at point `t`, whatever the weights' buffer holds past the end of its array. -/
theorem run_at (t : Fin cfg0.N) (d s : Vec F S768x2048 .bf16) (hs : ¬ t.val % 8 = 0 → s = kept m c t.val t.isLt)
    (y4 : Vec F S6x1024x128 .f32) (y5 : Vec F S32x2048 .bf16) (K : PUnit → sProp 𝕄) :
    iprop(heldAt m c t (wbuf m c d t) y4 y5 s
        ∗ (heldAt m c t (wbuf m c d t) (planes (iblk m c 0 t) (kept m c t.val t.isLt)) (k0_pay3 (iblk m c 3 t)) (kept m c t.val t.isLt) -∗ K ⟨⟩))
      ⊢ wp frame (wpE (defs₀ (F := F)) Variants.none c none) Set.univ (bodyAt0 t) K := by
  unfold bodyAt0
  by_cases h : t.val % 8 = 0
  · by_cases h' : 64 ≤ t.val
    · have r := run_last c (grid0.coords t) _ (hstage0_0 ((cfg0.slots t 0).cast nbuf0_0)) _ (hstage0_1 ((cfg0.slots t 1).cast nbuf0_1))
        _ (hstage0_2 ((cfg0.slots t 2).cast nbuf0_2)) _ (hstage0_3 ((cfg0.slots t 3).cast nbuf0_3)) _ (hstage0_4 ((cfg0.slots t 4).cast nbuf0_4))
        _ (hstage0_5 ((cfg0.slots t 5).cast nbuf0_5)) scr (Memref.isWhole_whole _) (iblk m c 0 t) (wbuf m c d t) (iblk m c 2 t) (iblk m c 3 t) s
        ((starts_iff t).mpr h) ((ends_iff t).mpr h') y4 y5 Set.univ K
      rw [kept_last m c t h h' d] at r
      exact r
    · have r := run_first c (grid0.coords t) _ (hstage0_0 ((cfg0.slots t 0).cast nbuf0_0)) _ (hstage0_1 ((cfg0.slots t 1).cast nbuf0_1))
        _ (hstage0_2 ((cfg0.slots t 2).cast nbuf0_2)) _ (hstage0_3 ((cfg0.slots t 3).cast nbuf0_3)) _ (hstage0_4 ((cfg0.slots t 4).cast nbuf0_4))
        _ (hstage0_5 ((cfg0.slots t 5).cast nbuf0_5)) scr (Memref.isWhole_whole _) (iblk m c 0 t) (wbuf m c d t) (iblk m c 2 t) (iblk m c 3 t) s
        ((starts_iff t).mpr h) (fun b => h' ((ends_iff t).mp b)) y4 y5 Set.univ K
      rw [kept_first m c t h (by omega) d] at r
      exact r
  · have r := run_keep c (grid0.coords t) _ (hstage0_0 ((cfg0.slots t 0).cast nbuf0_0)) _ (hstage0_1 ((cfg0.slots t 1).cast nbuf0_1))
      _ (hstage0_2 ((cfg0.slots t 2).cast nbuf0_2)) _ (hstage0_3 ((cfg0.slots t 3).cast nbuf0_3)) _ (hstage0_4 ((cfg0.slots t 4).cast nbuf0_4))
      _ (hstage0_5 ((cfg0.slots t 5).cast nbuf0_5)) scr (Memref.isWhole_whole _) (iblk m c 0 t) (wbuf m c d t) (iblk m c 2 t) (iblk m c 3 t) s
      (fun b => h ((starts_iff t).mp b)) y4 y5 Set.univ K
    rw [hs h] at r ⊢
    exact r

/-- What the body is given at point `t`, window by window. -/
def given (t : Fin cfg0.N) : sProp 𝕄 :=
  iprop(inv m c t.val (Nat.le_of_lt t.isLt) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What it gives back: the weights' buffer up to the rows no transfer brought. -/
def returned (t : Fin cfg0.N) : sProp 𝕄 :=
  iprop(inv m c (t.val + 1) t.isLt ∗ (dats m 0 c).owesAt () t.castSucc
    ∗ owns (c : Thread nD τ) (win0_0.stage (cfg0.slots t 0)) fullShare ((dats m 0 c).after 0 t)
    ∗ (∃ d, owns (c : Thread nD τ) (win0_1.stage (cfg0.slots t 1)) fullShare
        ((cfg0.win 1).fill (cfg0.grid.coords t) d ((cfg0.win 1).cut (cfg0.grid.coords t) ((dats m 0 c).after 1 t))))
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 4000000 in
theorem body_at (t : Fin cfg0.N) :
    given m c t ⊢ wp frame (wpE (defs₀ (F := F)) Variants.none c none) Set.univ (bodyAt0 t) (fun _ => returned m c t) := by
  unfold given returned
  simp only [before0_0, before0_1, before0_2, before0_3]
  rw [after0_0, after0_1, after0_2, after0_3, after0_4, after0_5, cut_wbuf]
  rw [show inv m c (t.val + 1) t.isLt = iprop(owns (c : Thread nD τ) scr fullShare (kept m c t.val t.isLt) ∗ (∃ r, prngReg c r)) from rfl]
  iintro ⟨HI, Ho, ⟨%d0, H0⟩, ⟨%d1, H1⟩, ⟨%d2, H2⟩, ⟨%d3, H3⟩, ⟨%d4, H4⟩, ⟨%d5, H5⟩⟩
  ihave HS := (inv_open m c t) $$ HI
  icases HS with ⟨%s, %hs, HS, Hg⟩
  iapply (run_at m c t d1 s hs _ _ _)
  unfold heldAt held
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexists d1; iexact H1
  isplitl [H2]; · iexact H2
  isplitl [H3]; · iexact H3
  isplitl [H4]; · iexact H4
  iexact H5

theorem body_row (t : Fin cfg0.N) : defs₀ (F := F) .tc cfg0.body (cfg0.bodyArgs t (cfg0.slots t)) = bodyAt0 t := by
  unfold defs₀; rw [Defs.onTc_tc]

theorem body_ok : BodyObligationLoose (dats (F := F) m 0 c) (defs₀ (F := F)) Variants.none () Set.univ := fun t => by
  rw [bigSep_W0, bigSep_W0, body_row]
  exact triple_restated (body_at m c t) rfl .rfl fun _ => .rfl

theorem inv_in : Pipeline.ΦA spec0 c ⊢ (dats m 0 c).Φ 0 := by
  show Pipeline.ΦA spec0 c ⊢ inv m c 0 (Nat.zero_le _)
  exact Entails.refl _

theorem inv_out : (dats m 0 c).Φ (Fin.last cfg0.N) ⊢ Pipeline.ΦA spec0 c := by
  have hN : cfg0.N ≠ 0 := by have : cfg0.N = 72 := N_0; omega
  have e : Pipeline.ΦA spec0 c = iprop((∃ d, owns (c : Thread nD τ) scr fullShare d) ∗ (∃ r, prngReg c r)) := inv_zero m c 0 (Nat.zero_le _) rfl
  rw [show (dats m 0 c).Φ (Fin.last cfg0.N) = inv m c cfg0.N le_rfl from rfl, inv_pos m c _ _ hN, e]
  iintro ⟨HS, Hg⟩
  isplitl [HS]
  · iexists _; iexact HS
  iexact Hg

set_option backward.isDefEq.respectTransparency.types false in
/-- The launch: every array at what the library computes from the proof data, and no semaphore left raised. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_ok m c) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_all m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨h.1, h.2.2⟩) (θ_run_and (unchanged m ρ) (run_all m ρ))

end Cert.InProjIdeal.Hand

end
-- ==== Proof.InProjSpec.lean ====
/-
  The mathematics of the input projection: the stream times the weights of the projections and of the gate, one above the other.
-/
module

public import Idealize.ShloMosaic.Lib.Pipeline.ValueKit
public import Idealize.ShloMosaic.Lib.Pointwise

@[expose] public section

noncomputable section

namespace Cert.Spec

open Idealize.ShloMosaic

/-- Row `e` of the weights in use: the projections' rows, then the gate's; the first 2048 columns of each. -/
def inW (w : FVec Ideal ⟨2, ![6784, 4096]⟩ .bf16) (g : FVec Ideal ⟨2, ![128, 4096]⟩ .bf16) (e : ℕ) (d : Fin 2048) : EReal :=
  if h : e < 6784 then w (ix2 ⟨e, h⟩ ⟨d.val, by omega⟩) else g (ix2 ⟨(e - 6784) % 128, by omega⟩ ⟨d.val, by omega⟩)

/-- The projection of row `r`, at column `l` of plane `k`. -/
def inP (h : FVec Ideal ⟨2, ![8192, 2048]⟩ .bf16) (w : FVec Ideal ⟨2, ![6784, 4096]⟩ .bf16) (g : FVec Ideal ⟨2, ![128, 4096]⟩ .bf16)
    (k : ℕ) (r : Fin 8192) (l : ℕ) : EReal :=
  ∑ d : Fin 2048, h (ix2 r d) * inW w g (k * 128 + l) d

end Cert.Spec

end
-- ==== Proof.InProjKernel.lean ====
/-
  What the kernel of the input projection leaves in its two results, read at an index.
-/
module

public import proofs.«01_k».proof.Proof.InProjIdealFrame
public import proofs.«01_k».proof.Proof.InProjSpec

@[expose] public section

set_option maxRecDepth 16384

noncomputable section

open Idealize.ShloMosaic Idealize.ShloMosaic.TcCoe Idealize.SL.Sem
open Idealize.ShloMosaic.Pipeline (Dat)

namespace Cert.Proof.InProjKernel

open Cert.InProjIdeal Cert.InProjIdeal.Gen Cert.InProjIdeal.Hand Cert.Spec

section
variable {F : FTy → Type} [FloatOps F]

theorem pay4_eq (x : Vec F S768x2048 .bf16) : k0_pay4 x = x := shapeCast_self _ _
theorem pay5_eq (g : Vec F S128x2048 .bf16) : k0_pay5 g = g := shapeCast_self _ _

theorem lastRows_eq (x : Vec F S768x2048 .bf16) (g : Vec F S128x2048 .bf16) :
    lastRows x g = (gatePiece g).1.overlay (View.canon (firstPieces x)) (gatePiece g).2 := rfl

/-- The last block's rows before the gate's. -/
theorem lastRows_low (x : Vec F S768x2048 .bf16) (g : Vec F S128x2048 .bf16) (y : S768x2048.Idx) (h : (y 0).val < 640) :
    lastRows x g y = x y := by
  rw [lastRows_eq, firstRows]
  refine Rect.overlay_of_not_mem _ _ _ fun b => ?_
  have b0 : 640 ≤ (y 0).val := ((Rect.mem_set_unit (inb := inb_S768x2048_S128x2048_640_0)).mp b 0).1
  omega

theorem piece_at (p : View.Piece (Elt F) S768x2048 .bf16) (b : Vec F S768x2048 .bf16) (z : p.1.shape.Idx) :
    p.1.overlay b p.2 (p.1.emb z) = p.2 z := Rect.overlay_emb _ _ _ z

theorem gate_val (g : Vec F S128x2048 .bf16) (z : S128x2048.Idx) : (gatePiece g).2 z = g z := congrFun (pay5_eq g) z

/-- The last block's rows of the gate. -/
theorem lastRows_high (x : Vec F S768x2048 .bf16) (g : Vec F S128x2048 .bf16) (z : S128x2048.Idx) (y : S768x2048.Idx)
    (h0 : (y 0).val = 640 + (z 0).val) (h1 : (y 1).val = (z 1).val) :
    lastRows x g y = g z := by
  have ez : ∀ a, ((gatePiece g).1.emb z a).val = ![640, 0] a + (z a).val := fun a =>
    ValueKit.rect_emb_unit_val _ _ inb_S768x2048_S128x2048_640_0 z a
  have ey : (gatePiece g).1.emb z = y := by
    funext a
    refine Fin.ext ((ez a).trans ?_)
    match a with
    | ⟨0, _⟩ => exact h0.symm
    | ⟨1, _⟩ => exact (Nat.zero_add _).trans h1.symm
  rw [lastRows_eq, firstRows, ← ey]
  exact (piece_at (gatePiece g) x z).trans (gate_val g z)
end

/-- The six planes, at an index: the product's column. -/
theorem planes_at (h : FVec Ideal S1024x2048 .bf16) (w : FVec Ideal S768x2048 .bf16) (x : S6x1024x128.Idx)
    (e : Fin 768) (he : e.val = (x 0).val * 128 + (x 2).val) :
    planes (F := Ideal) h w x = ∑ d : Fin 2048, h (ix2 (x 1) d) * w (ix2 e d) := by
  unfold planes planePieces
  canon_tiles z g using planePieces_cover (F := Ideal) _ _ _
  all_goals
    idx_vars z
    pointwise [k0_pay1, k0_pay2, k0_pay6, k0_pay7, k0_pay8, k0_pay9, k0_pay10, k0_pay11]
    exact Finset.sum_congr rfl fun d _ => Ideal.mul_congr (congrArg (fun a => h (ix2 a d)) (Fin.ext g1.symm))
      (congrArg (fun a => w (ix2 a d)) (Fin.ext (by simp only [he]; omega)))

variable (m : (ℓ : Loc nD τ sig) → Buf (Elt Ideal) ℓ)

theorem idx : ∀ t : Fin cfg0.N, win0_0.index t = ![t.val % 8, 0] ∧ win0_1.index t = ![t.val / 8, 0] ∧ win0_2.index t = ![0, 0]
    ∧ win0_3.index t = ![0, min t.val 63, 0] ∧ win0_4.index t = ![t.val / 8, t.val % 8, 0] ∧ win0_5.index t = ![min t.val 63, 0] :=
  (by decide +kernel : ∀ t : Fin grid0.N, _)

variable (c : Dev nD) (t : Fin cfg0.N)

theorem in0 (y : S1024x2048.Idx) (r : Fin 8192) (l : Fin 2048) (hr : r.val = t.val % 8 * 1024 + (y 0).val) (hl : l.val = (y 1).val) :
    iblk m c 0 t y = m ((c : Thread nD τ).loc main_arg0) (ix2 r l) := by
  blk_ext [iblk, V, idx t]
theorem in1 (d) (y : S768x2048.Idx) (h : t.val < 64 ∨ (y 0).val < 640) (r : Fin 6784) (l : Fin 4096) (hr : r.val = t.val / 8 * 768 + (y 0).val) (hl : l.val = (y 1).val) :
    wbuf m c d t y = m ((c : Thread nD τ).loc main_arg1) (ix2 r l) := by
  unfold wbuf Pipeline.Window.fill
  rw [dif_pos (moved1 t y h)]
  blk_ext [iblk, V, idx t]
theorem in2 (y : S128x2048.Idx) (r : Fin 128) (l : Fin 4096) (hr : r.val = (y 0).val) (hl : l.val = (y 1).val) :
    iblk m c 2 t y = m ((c : Thread nD τ).loc main_arg2) (ix2 r l) := by
  blk_ext [iblk, V, idx t]
theorem in3 (y : S1x32x2048.Idx) (r : Fin 2048) (l : Fin 2048) (hr : r.val = min t.val 63 * 32 + (y 1).val) (hl : l.val = (y 2).val) :
    iblk m c 3 t y = m ((c : Thread nD τ).loc main_arg3) (ix3 0 r l) := by
  blk_ext [iblk, V, idx t]

/-- The weights kept at a point, at an index. -/
theorem kept_at (n : ℕ) (hn : n < cfg0.N) (a : Fin 768) (d : Fin 2048) :
    kept (F := Ideal) m c n hn (ix2 a d) = inW (m ((c : Thread nD τ).loc main_arg1)) (m ((c : Thread nD τ).loc main_arg2)) (n / 8 * 768 + a.val) d := by
  have hN : n < 72 := Nat.lt_of_lt_of_eq hn N_0
  have ha := a.isLt
  unfold kept inW
  by_cases b : n < 64
  · rw [if_pos b, dif_pos (by omega)]
    refine (congrFun (pay4_eq _) _).trans ?_
    exact in1 m c (firstPoint n hn) _ _ (.inl (by show n / 8 * 8 < 64; omega)) _ _ (by show n / 8 * 768 + a.val = n / 8 * 8 / 8 * 768 + a.val; omega) rfl
  · rw [if_neg b]
    by_cases b' : a.val < 640
    · rw [dif_pos (by omega)]
      refine (lastRows_low _ _ _ b').trans ?_
      exact in1 m c (firstPoint n hn) _ _ (.inr b') _ _ (by show n / 8 * 768 + a.val = n / 8 * 8 / 8 * 768 + a.val; omega) rfl
    · rw [dif_neg (by omega)]
      refine (lastRows_high _ _ (ix2 ⟨a.val - 640, by omega⟩ d) _ (by show a.val = 640 + (a.val - 640); omega) rfl).trans ?_
      exact in2 m c _ _ _ _ (by show (n / 8 * 768 + a.val - 6784) % 128 = a.val - 640; omega) rfl

/-- The planes that a point leaves. -/
theorem point4 (y : S6x1024x128.Idx) (r : Fin 8192) (hr : r.val = t.val % 8 * 1024 + (y 1).val) : ((dats m 0 c).after 4 t y : EReal)
    = inP (m ((c : Thread nD τ).loc main_arg0)) (m ((c : Thread nD τ).loc main_arg1)) (m ((c : Thread nD τ).loc main_arg2))
      (t.val / 8 * 6 + (y 0).val) r (y 2).val := by
  have y0 : (y 0).val < 6 := (y 0).isLt
  have y2 : (y 2).val < 128 := (y 2).isLt
  refine (congrFun (after0_4 m c t) y).trans ?_
  refine (planes_at _ _ y ⟨(y 0).val * 128 + (y 2).val, by omega⟩ rfl).trans (Finset.sum_congr rfl fun d _ => ?_)
  refine Ideal.mul_congr (in0 m c t _ _ _ hr rfl) ((kept_at m c _ _ _ d).trans (congrArg (fun e => inW _ _ e d) ?_))
  show t.val / 8 * 768 + ((y 0).val * 128 + (y 2).val) = (t.val / 8 * 6 + (y 0).val) * 128 + (y 2).val
  omega

/-- The first result array after the run: the projections' planes. -/
theorem final4 : (dats m 0 c).arrAt 4 cfg0.N = fun i => inP (m ((c : Thread nD τ).loc main_arg0)) (m ((c : Thread nD τ).loc main_arg1))
     (m ((c : Thread nD τ).loc main_arg2)) (i 0).val (i 1) (i 2).val := by
  refine (dats m 0 c).arrAt_eq_of_covers 4 _ (by decide +kernel) fun t _ y => ?_
  blk_simp
  refine (point4 m c t y _ ?_).trans (congrArg₂ (fun a b => inP _ _ _ a _ b) ?_ ?_) <;> blk_simp [idx t] <;> try omega

/-- The cast rows that a point leaves. -/
theorem point5 (y : S32x2048.Idx) (r l : Fin 2048) (hr : r.val = min t.val 63 * 32 + (y 0).val) (hl : l.val = (y 1).val) :
    ((dats m 0 c).after 5 t y : EReal) = m ((c : Thread nD τ).loc main_arg3) (ix3 0 r l) := by
  refine (congrFun (after0_5 m c t) y).trans ?_
  idx_vars y
  pointwise [k0_pay3]
  exact in3 m c t _ _ _ hr hl

/-- The second result array after the run: the next call's weights. -/
theorem final5 : (dats m 0 c).arrAt 5 cfg0.N = fun i => m ((c : Thread nD τ).loc main_arg3) (ix3 0 (i 0) (i 1)) := by
  refine (dats m 0 c).arrAt_eq_of_covers 5 _ (by decide +kernel) fun t _ y => ?_
  blk_simp
  refine point5 m c t y _ _ ?_ ?_ <;> blk_simp [idx t] <;> try omega

/-- After the run: the two results as the pipeline computes them, the arguments unchanged. -/
theorem run_blocks (ρ) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩) (θ_run_and (run_main m ρ) (unchanged m ρ))

end Cert.Proof.InProjKernel

end
-- ==== Proof.InProjRef.lean ====
/-
  The reference of the input projection, read at an index.
-/
module

public import proofs.«01_k».proof.Proof.Gen.InProjRefIdeal.Read
public import proofs.«01_k».proof.Proof.InProjSpec

@[expose] public section

set_option maxRecDepth 16384

noncomputable section

open Idealize.ShloMosaic Idealize.ShloMosaic.TcCoe Idealize.SL.Sem

namespace Cert.Proof.InProjRef

open Cert.InProjRefIdeal Cert.InProjRefIdeal.Gen Cert.InProjRefIdeal.Read Cert.Spec

variable (h : FVec Ideal S8192x2048 .bf16) (w : FVec Ideal S6784x4096 .bf16) (g : FVec Ideal S128x4096 .bf16) (o : FVec Ideal S2x2048x2048 .f32)

theorem w0_at (e : Fin 6784) (d : Fin 2048) : val_main_v0 (F := Ideal) w (ix2 e d) = w (ix2 e ⟨d.val, by omega⟩) := by
  pointwise [val_main_v0]
theorem w1_at (e : Fin 128) (d : Fin 2048) : val_main_v1 (F := Ideal) g (ix2 e d) = g (ix2 e ⟨d.val, by omega⟩) := by
  pointwise [val_main_v1]

/-- The reference's weights in use. -/
theorem w_at (e : Fin 6912) (d : Fin 2048) : val_main_v2 (F := Ideal) w g (ix2 e d) = inW w g e.val d := by
  unfold inW val_main_v2
  by_cases b : e.val < 6784
  · rw [dif_pos b]
    refine (concatenate_pair_apply_left (t := S6912x2048) (s₁ := S6784x2048) (s₂ := S128x2048) 0 _ _ _ (ix2 e d) rfl (ix2 (⟨e.val, b⟩ : Fin 6784) d) fun a => ?_).trans (w0_at w _ d)
    match a with
    | ⟨0, _⟩ => rfl
    | ⟨1, _⟩ => rfl
  · rw [dif_neg b]
    have he : (e.val - 6784) % 128 + 6784 = e.val := by omega
    refine (concatenate_pair_apply_right (t := S6912x2048) (s₁ := S6784x2048) (s₂ := S128x2048) 0 _ _ _ (ix2 e d) rfl rfl (ix2 (⟨(e.val - 6784) % 128, Nat.mod_lt _ (by decide)⟩ : Fin 128) d) (fun a ha => ?_) he).trans (w1_at g _ d)
    match a with
    | ⟨0, _⟩ => exact absurd rfl ha
    | ⟨1, _⟩ => rfl

/-- The reference's first result. -/
theorem p_at (k : Fin 54) (r : Fin 8192) (l : Fin 128) : val_main_v8 (F := Ideal) h w g (ix3 k r l) = inP h w g k.val r l.val := by
  unfold inP
  refine Eq.trans ?_ (Finset.sum_congr rfl fun d _ => Ideal.mul_congr rfl (w_at w g ⟨k.val * 128 + l.val, by omega⟩ d))
  pointwise [val_main_v8, val_main_v7, val_main_v6, val_main_v5, val_main_v4, val_main_v3]

/-- The reference's second result. -/
theorem o_at (r k : Fin 2048) : val_main_v11 (F := Ideal) o (ix2 r k) = o (ix3 0 r k) := by
  pointwise [val_main_v11, val_main_v10, val_main_v9]

end Cert.Proof.InProjRef

end
-- ==== Proof.InProjClaim.lean ====
/-
  The input projection's claims from its two runs.
-/
module

public import proofs.«01_k».proof.Defs
public import proofs.«01_k».proof.Proof.Gen.InProjIdeal
public import proofs.«01_k».proof.Proof.Gen.InProjRefIdeal
public import proofs.«01_k».proof.Proof.InProjKernel
public import proofs.«01_k».proof.Proof.InProjRef
public import Idealize.ShloMosaic.Lib.Quiescent

@[expose] public section

noncomputable section

namespace Cert.Proof

open Idealize.ShloMosaic Idealize.SL.Sem

/-- The reference runs on the host, leaves its arguments unchanged and declares no semaphore. -/
theorem frame_in_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The kernel and the reference compute the same projections and the same cast weights. -/
theorem in_proj : Cert.algebraic_InProjIdeal_InProjRefIdeal := fun m ρ m' ρ' _ hag =>
  ⟨fun c => fun i => Spec.inP (m ((c.tc : Thread _ _).loc Cert.InProjIdeal.main_arg0)) (m ((c.tc : Thread _ _).loc Cert.InProjIdeal.main_arg1))
      (m ((c.tc : Thread _ _).loc Cert.InProjIdeal.main_arg2)) (i 0).val (i 1) (i 2).val,
    fun c => fun i => m ((c.tc : Thread _ _).loc Cert.InProjIdeal.main_arg3) (ix3 0 (i 0) (i 1)),
    (θ_run _ _ _).mono (fun _ h c => ⟨(h c).1.trans (InProjKernel.final4 m c), (h c).2.1.trans (InProjKernel.final5 m c), (h c).2.2⟩)
      (InProjKernel.run_blocks m ρ),
    (θ_run _ _ _).mono (fun _ h c => by
      obtain ⟨h0, h1, h2, h3⟩ := hag c
      refine ⟨(h c).1.trans ?_, (h c).2.1.trans ?_, (h c).2.2⟩
      · rw [Cert.InProjRefIdeal.Read.val_main_v8_eq, h0, h1, h2]
        funext i
        rw [eq_ix3 i]
        exact InProjRef.p_at _ _ _ (i 0) (i 1) (i 2)
      · rw [Cert.InProjRefIdeal.Read.val_main_v11_eq, h3]
        funext i
        rw [eq_ix2 i]
        exact InProjRef.o_at _ (i 0) (i 1))
      (Cert.InProjRefIdeal.Value.run m' ρ')⟩

end Cert.Proof

end
-- ==== Proof.LayerNorm.lean ====
/-
  The scalar mathematics shared by the calls that end in a layer norm: the norm of a row, and the group of a row, which
  is the row of the modulation table that a row of the batch uses.
-/
module

public import Idealize.ShloMosaic.Lib.Pipeline.ValueKit
public import Idealize.ShloMosaic.Lib.Pointwise

@[expose] public section

noncomputable section

namespace Cert.Spec

open Idealize.ShloMosaic

/-- The mean of the 2048 entries of a row. -/
def mean (y : Fin 2048 → EReal) : EReal := Ideal.div (∑ k, y k) (Ideal.ofBits .f32 0x45000000#32)

/-- Entry `c` of the layer norm of the row `y`, with gain `g` and offset `b` there. -/
def layerNorm (y : Fin 2048 → EReal) (g b : EReal) (c : Fin 2048) : EReal :=
  (y c - mean y) * Ideal.rsqrt (mean (fun k => (y k - mean y) * (y k - mean y)) + Ideal.ofBits .f32 0x3727C5AC#32) * g + b

/-- The layer norm depends on the row's entries, the gain and the offset. -/
theorem layerNorm_congr {y y' : Fin 2048 → EReal} {g g' b b' : EReal} (c : Fin 2048) (h : ∀ k, y k = y' k) (hg : g = g')
    (hb : b = b') : layerNorm y g b c = layerNorm y' g' b' c := by
  rw [funext h, hg, hb]

/-- The group of row `r`: the prompts are group 0, the two samples are groups 1 and 2. -/
def group (r : Fin 8192) : Fin 8 := if r.val < 4096 then 0 else if r.val < 6144 then 1 else 2

/-- A modulation row chosen by whether the row is a prompt's, and by the sample else, is the row of its group. -/
theorem group_row (md : FVec Ideal ⟨3, ![2, 8, 12288]⟩ .f32) (q : Fin 2) (r : Fin 8192) (c : Fin 12288)
    (h : 1 + (r.val - 4096) / 2048 < 8) :
    (if _ : r.val < 4096 then md (ix3 q 0 c) else md (ix3 q ⟨1 + (r.val - 4096) / 2048, h⟩ c)) = md (ix3 q (group r) c) := by
  have hr := r.isLt
  unfold group
  split_ifs
  · rfl
  · rw [show (⟨1 + (r.val - 4096) / 2048, h⟩ : Fin 8) = 1 from Fin.ext (show 1 + (r.val - 4096) / 2048 = 1 by omega)]
  · rw [show (⟨1 + (r.val - 4096) / 2048, h⟩ : Fin 8) = 2 from Fin.ext (show 1 + (r.val - 4096) / 2048 = 2 by omega)]

end Cert.Spec

end
-- ==== Proof.ModsSpec.lean ====
/-
  The mathematics of the modulation rows: the conditions' gated rows against each layer's weight, plus its offset.
-/
module

public import proofs.«01_k».proof.Proof.LayerNorm

@[expose] public section

noncomputable section

namespace Cert.Spec

open Idealize.ShloMosaic

/-- A number times its logistic value. -/
def gated (x : EReal) : EReal := x * Ideal.div 1 (1 + Ideal.exp (-x))

/-- Entry `k` of condition `r`'s modulation row of layer `l`. -/
def modRow (x : FVec Ideal ⟨2, ![8, 2048]⟩ .f32) (w : FVec Ideal ⟨3, ![2, 2048, 12288]⟩ .f32) (b : FVec Ideal ⟨2, ![2, 12288]⟩ .f32)
    (l : Fin 2) (r : Fin 8) (k : Fin 12288) : EReal :=
  (∑ d : Fin 2048, gated (x (ix2 r d)) * w (ix3 l d k)) + b (ix2 l k)

end Cert.Spec

end
-- ==== Proof.ModsKernel.lean ====
/-
  What the kernel of the modulation rows leaves in its result, read at an index.
-/
module

public import proofs.«01_k».proof.Proof.Gen.ModsIdeal.Value
public import proofs.«01_k».proof.Proof.ModsSpec

@[expose] public section

set_option maxRecDepth 16384

noncomputable section

open Idealize.ShloMosaic Idealize.ShloMosaic.TcCoe Idealize.SL.Sem
open Idealize.ShloMosaic.Pipeline (Dat)

namespace Cert.Proof.ModsKernel

open Cert.ModsIdeal Cert.ModsIdeal.Gen Cert.Spec

/-- The stored block at an entry. -/
theorem stored (x : FVec Ideal S8x2048 .f32) (w : FVec Ideal S1x2048x1024 .f32) (b : FVec Ideal S1x1x1024 .f32) (r : Fin 8) (k : Fin 1024) :
    k0_pay1 (F := Ideal) x w b (ix3 0 r k) = (∑ d : Fin 2048, gated (x (ix2 r d)) * w (ix3 0 d k)) + b (ix3 0 0 k) := by
  unfold gated
  simp only [← zero_sub]
  pointwise [k0_pay1]

variable (m : (ℓ : Loc nD τ sig) → Buf (Elt Ideal) ℓ)

theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

variable (c : Dev nD) (t : Fin cfg0.N)

theorem in0 (r : Fin 8) (d : Fin 2048) : iblk m c 0 t (ix2 r d) = m ((c : Thread nD τ).loc main_arg0) (ix2 r d) := by
  blk_ext [iblk, V, idx t]
theorem in1 (d : Fin 2048) (k : Fin 1024) (l : Fin 2) (q : Fin 12288) (hl : l.val = t.val / 12) (hq : q.val = t.val % 12 * 1024 + k.val) :
    iblk m c 1 t (ix3 0 d k) = m ((c : Thread nD τ).loc main_arg1) (ix3 l d q) := by
  blk_ext [iblk, V, idx t]
theorem in2 (k : Fin 1024) (l : Fin 2) (q : Fin 12288) (hl : l.val = t.val / 12) (hq : q.val = t.val % 12 * 1024 + k.val) :
    iblk m c 2 t (ix3 0 0 k) = m ((c : Thread nD τ).loc main_arg2) (ix2 l q) := by
  blk_simp [iblk, idx t]
  entry_read
  pointwise
  blk_ext [iblk, V, idx t]

theorem point (y : S1x8x1024.Idx) (l : Fin 2) (q : Fin 12288) (hl : l.val = t.val / 12) (hq : q.val = t.val % 12 * 1024 + (y 2).val) :
    ((dats m 0 c).after 3 t y : EReal)
      = modRow (m ((c : Thread nD τ).loc main_arg0)) (m ((c : Thread nD τ).loc main_arg1)) (m ((c : Thread nD τ).loc main_arg2)) l (y 1) q := by
  rw [after0_3]; frame_out
  idx_vars y
  rw [Subsingleton.elim y0 0]
  refine (stored _ _ _ _ _).trans ?_
  unfold modRow
  exact Ideal.add_congr (Finset.sum_congr rfl fun d _ => Ideal.mul_congr (congrArg gated (in0 m c t _ _)) (in1 m c t _ _ l q hl hq)) (in2 m c t _ l q hl hq)

/-- The result array after the run: the modulation rows. -/
theorem final : (dats m 0 c).arrAt 3 cfg0.N = fun i => modRow (m ((c : Thread nD τ).loc main_arg0)) (m ((c : Thread nD τ).loc main_arg1))
    (m ((c : Thread nD τ).loc main_arg2)) (i 0) (i 1) (i 2) := by
  refine (dats m 0 c).arrAt_eq_of_covers 3 _ (by decide +kernel) fun t _ y => ?_
  blk_simp
  refine (point m c t y _ _ ?_ ?_).trans (congrArg (fun r => modRow _ _ _ _ r _) (Fin.ext ?_)) <;> blk_simp [idx t] <;> try omega

end Cert.Proof.ModsKernel

end
-- ==== Proof.ModsRef.lean ====
/-
  The reference of the modulation rows, read at an index.
-/
module

public import proofs.«01_k».proof.Proof.Gen.ModsRefIdeal.Read
public import proofs.«01_k».proof.Proof.ModsSpec

@[expose] public section

set_option maxRecDepth 16384

noncomputable section

open Idealize.ShloMosaic Idealize.ShloMosaic.TcCoe Idealize.SL.Sem

namespace Cert.Proof.ModsRef

open Cert.ModsRefIdeal Cert.ModsRefIdeal.Gen Cert.ModsRefIdeal.Read Cert.Spec

variable (x : FVec Ideal S8x2048 .f32) (w : FVec Ideal S2x2048x12288 .f32) (b : FVec Ideal S2x12288 .f32)

/-- The reference's gated condition. -/
theorem gated_at (r : Fin 8) (d : Fin 2048) : val_main_v0 (F := Ideal) x (ix2 r d) = gated (x (ix2 r d)) := by
  pointwise [val_main_v0, val_main_call0_v5, val_main_call0_v4, val_main_call0_v3, val_main_call0_v2, val_main_call0_v1, val_main_call0_v0,
    val_main_call0_cst, val_main_call0_cst_0, gated]

/-- The first layer's rows. -/
theorem first_at (r : Fin 8) (k : Fin 12288) : val_main_v8 (F := Ideal) x w b (ix2 r k) = modRow x w b 0 r k := by
  unfold modRow
  simp only [← gated_at]
  pointwise [val_main_v8, val_main_v7, val_main_v6, val_main_v5, val_main_v4, val_main_v3, val_main_v2, val_main_v1]

/-- The second layer's rows. -/
theorem second_at (r : Fin 8) (k : Fin 12288) : val_main_v16 (F := Ideal) x w b (ix2 r k) = modRow x w b 1 r k := by
  unfold modRow
  simp only [← gated_at]
  pointwise [val_main_v16, val_main_v15, val_main_v14, val_main_v13, val_main_v12, val_main_v11, val_main_v10, val_main_v9]

/-- The reference's result. -/
theorem rows_at (l : Fin 2) (r : Fin 8) (k : Fin 12288) : val_main_v19 (F := Ideal) x w b (ix3 l r k) = modRow x w b l r k := by
  rcases (by omega : l = 0 ∨ l = 1) with rfl | rfl
  · rw [← first_at]
    pointwise [val_main_v19, val_main_v17, val_main_v18]
  · rw [← second_at]
    pointwise [val_main_v19, val_main_v17, val_main_v18]

end Cert.Proof.ModsRef

end
-- ==== Proof.ModsClaim.lean ====
/-
  The modulation rows' claims from their two runs.
-/
module

public import proofs.«01_k».proof.Defs
public import proofs.«01_k».proof.Proof.Gen.ModsIdeal
public import proofs.«01_k».proof.Proof.Gen.ModsRefIdeal
public import proofs.«01_k».proof.Proof.ModsKernel
public import proofs.«01_k».proof.Proof.ModsRef
public import Idealize.ShloMosaic.Lib.Quiescent

@[expose] public section

noncomputable section

namespace Cert.Proof

open Idealize.ShloMosaic Idealize.SL.Sem

/-- The reference runs on the host, leaves its arguments unchanged and declares no semaphore. -/
theorem frame_mods_ref : Cert.quiescent_ModsRefIdeal := fun m ρ _ =>
  (θ_run Cert.ModsRefIdeal.defs _ _).mono (fun r h => ⟨fun c => (h c).2, sem_eq_zero_of_no_sems (by decide) r.2⟩)
    (Cert.ModsRefIdeal.Value.run (F := Ideal) m ρ)

/-- The kernel and the reference compute the same modulation rows. -/
theorem mods : Cert.algebraic_ModsIdeal_ModsRefIdeal := fun m ρ m' ρ' _ hag =>
  ⟨fun c => fun i => Spec.modRow (m ((c.tc : Thread _ _).loc Cert.ModsIdeal.main_arg0)) (m ((c.tc : Thread _ _).loc Cert.ModsIdeal.main_arg1)) (m ((c.tc : Thread _ _).loc Cert.ModsIdeal.main_arg2)) (i 0) (i 1) (i 2),
    (θ_run _ _ _).mono (fun _ h c => ⟨(h c).1.trans (ModsKernel.final m c), (h c).2⟩)
      (Cert.ModsIdeal.Value.run_blocks m ρ),
    (θ_run _ _ _).mono (fun _ h c => by
      obtain ⟨h0, h1, h2⟩ := hag c
      refine ⟨(h c).1.trans ?_, (h c).2⟩
      rw [Cert.ModsRefIdeal.Read.val_main_v19_eq, h0, h1, h2]
      funext i
      rw [eq_ix3 i]
      exact ModsRef.rows_at _ _ _ _ _ _)
      (Cert.ModsRefIdeal.Value.run m' ρ')⟩

end Cert.Proof

end
-- ==== Proof.ModulateSpec.lean ====
/-
  The mathematics of the layer's input: the prompts' rows above the samples', and each row modulated by its group's scale and shift.
-/
module

public import proofs.«01_k».proof.Proof.LayerNorm

@[expose] public section

noncomputable section

namespace Cert.Spec

open Idealize.ShloMosaic

variable (xp : FVec Ideal ⟨3, ![16, 256, 2048]⟩ .f32) (xs : FVec Ideal ⟨3, ![2, 2048, 2048]⟩ .f32) (md : FVec Ideal ⟨3, ![2, 8, 12288]⟩ .f32)

/-- Row `r` of the stream: sixteen prompts of 256 rows, then two samples of 2048. -/
def inputX (r : Fin 8192) (k : Fin 2048) : EReal :=
  if r.val < 4096 then xp (ix3 ⟨r.val / 256 % 16, Nat.mod_lt _ (by decide)⟩ ⟨r.val % 256, Nat.mod_lt _ (by decide)⟩ k)
  else xs (ix3 ⟨(r.val - 4096) / 2048 % 2, Nat.mod_lt _ (by decide)⟩ ⟨(r.val - 4096) % 2048, Nat.mod_lt _ (by decide)⟩ k)

/-- The row modulated by its group. -/
def inputH (r : Fin 8192) (k : Fin 2048) : EReal :=
  inputX xp xs r k * (1 + md (ix3 0 (group r) ⟨2048 + k.val, by omega⟩)) + md (ix3 0 (group r) ⟨k.val, by omega⟩)

/-- A row of a prompt. -/
theorem inputX_prompt (r : Fin 8192) (k : Fin 2048) (i : Fin 16) (j : Fin 256) (h : r.val = i.val * 256 + j.val) : xp (ix3 i j k) = inputX xp xs r k := by
  unfold inputX
  rw [if_pos (by omega)]
  exact congrArg₂ (fun i j => xp (ix3 i j k)) (Fin.ext (show i.val = r.val / 256 % 16 by omega)) (Fin.ext (show j.val = r.val % 256 by omega))

/-- A row of a sample. -/
theorem inputX_sample (r : Fin 8192) (k : Fin 2048) (i : Fin 2) (j : Fin 2048) (h : r.val = 4096 + (i.val * 2048 + j.val)) : xs (ix3 i j k) = inputX xp xs r k := by
  unfold inputX
  rw [if_neg (by omega)]
  exact congrArg₂ (fun i j => xs (ix3 i j k)) (Fin.ext (show i.val = (r.val - 4096) / 2048 % 2 by omega)) (Fin.ext (show j.val = (r.val - 4096) % 2048 by omega))

end Cert.Spec

end
-- ==== Proof.ModulateKernel.lean ====
/-
  What the kernel of the layer's input leaves in its two results, read at an index.
-/
module

public import proofs.«01_k».proof.Proof.Gen.ModulateIdeal.Value
public import proofs.«01_k».proof.Proof.ModulateSpec

@[expose] public section

set_option maxRecDepth 16384

noncomputable section

open Idealize.ShloMosaic Idealize.ShloMosaic.TcCoe Idealize.SL.Sem
open Idealize.ShloMosaic.Pipeline (Dat)

namespace Cert.Proof.ModulateKernel

open Cert.ModulateIdeal Cert.ModulateIdeal.Gen Cert.Spec

section stored

variable (x : FVec Ideal S512x2048 .f32) (s h : FVec Ideal S1x1x2048 .f32) (r : Fin 512) (k : Fin 2048)

/-- The stored rows of a prompt. -/
theorem prompt_x : k0_pay1 (F := Ideal) x (ix2 r k) = x (ix2 r k) := by
  pointwise [k0_pay1]
/-- The stored rows of a sample. -/
theorem sample_x : k0_pay3 (F := Ideal) x (ix2 r k) = x (ix2 r k) := by
  pointwise [k0_pay3]
/-- The stored modulated rows of a prompt. -/
theorem prompt_h : k0_pay2 (F := Ideal) x s h (ix2 r k) = x (ix2 r k) * (1 + s (ix3 0 0 k)) + h (ix3 0 0 k) := by
  pointwise [k0_pay2, k0_pay1]
/-- The stored modulated rows of a sample. -/
theorem sample_h : k0_pay4 (F := Ideal) x s h (ix2 r k) = x (ix2 r k) * (1 + s (ix3 0 0 k)) + h (ix3 0 0 k) := by
  pointwise [k0_pay4, k0_pay3]

end stored

variable (m : (ℓ : Loc nD τ sig) → Buf (Elt Ideal) ℓ)

theorem idx : ∀ t : Fin cfg0.N, win0_0.index t = ![min t.val 7, 0] ∧ win0_1.index t = ![t.val - 8, 0]
    ∧ win0_2.index t = ![0, 0, 0] ∧ win0_3.index t = ![0, 0, 1] ∧ win0_4.index t = ![t.val, 0] ∧ win0_5.index t = ![t.val, 0] :=
  (by decide +kernel : ∀ t : Fin grid0.N, _)

/-- The modulation row that point `t` reads. -/
def row (t : Fin cfg0.N) : ℕ := if t.val < 8 then 0 else if t.val < 12 then 1 else 2

theorem off1 (t : Fin cfg0.N) : k0_off1 (grid0.coords t) = ![0, row t, 0] :=
  (by decide +kernel : ∀ t : Fin grid0.N, k0_off1 (grid0.coords t) = ![0, if t.val < 8 then 0 else if t.val < 12 then 1 else 2, 0]) t
theorem off2 (t : Fin cfg0.N) : k0_off2 (grid0.coords t) = ![0, row t, 0] :=
  (by decide +kernel : ∀ t : Fin grid0.N, k0_off2 (grid0.coords t) = ![0, if t.val < 8 then 0 else if t.val < 12 then 1 else 2, 0]) t

theorem grp (t : Fin cfg0.N) (y : Fin 512) (r : Fin 8192) (h : r.val = t.val * 512 + y.val) : (group r).val = row t := by
  unfold group row
  split_ifs <;> first | rfl | omega

variable (c : Dev nD) (t : Fin cfg0.N)

theorem in0 (h : t.val < 8) (a : Fin 512) (k : Fin 2048) (r : Fin 8192) (hr : r.val = t.val * 512 + a.val) :
    iblk m c 0 t (ix2 a k) = inputX (m ((c : Thread nD τ).loc main_arg0)) (m ((c : Thread nD τ).loc main_arg1)) r k := by
  have hm : min t.val 7 = t.val := by omega
  rw [← inputX_prompt _ (m ((c : Thread nD τ).loc main_arg1)) r k ⟨r.val / 256, by omega⟩ ⟨r.val % 256, by omega⟩ (by dsimp only; omega)]
  blk_simp [iblk, idx t]
  entry_read
  pointwise
  blk_ext [iblk, V, idx t]
theorem in1 (h : ¬t.val < 8) (a : Fin 512) (k : Fin 2048) (r : Fin 8192) (hr : r.val = t.val * 512 + a.val) :
    iblk m c 1 t (ix2 a k) = inputX (m ((c : Thread nD τ).loc main_arg0)) (m ((c : Thread nD τ).loc main_arg1)) r k := by
  have hb := r.isLt
  rw [← inputX_sample (m ((c : Thread nD τ).loc main_arg0)) _ r k ⟨(r.val - 4096) / 2048, by omega⟩ ⟨(r.val - 4096) % 2048, by omega⟩ (by dsimp only; omega)]
  blk_simp [iblk, idx t]
  entry_read
  pointwise
  blk_ext [iblk, V, idx t]
theorem in2 (y : S1x8x2048.Idx) (r : Fin 8) (l : Fin 12288) (hr : r.val = (y 1).val) (hl : l.val = (y 2).val) :
    iblk m c 2 t y = m ((c : Thread nD τ).loc main_arg2) (ix3 0 r l) := by
  blk_ext [iblk, V, idx t]
theorem in3 (y : S1x8x2048.Idx) (r : Fin 8) (l : Fin 12288) (hr : r.val = (y 1).val) (hl : l.val = 2048 + (y 2).val) :
    iblk m c 3 t y = m ((c : Thread nD τ).loc main_arg2) (ix3 0 r l) := by
  blk_ext [iblk, V, idx t]

/-- The shift row that a point reads is the row of its group. -/
theorem shift (o : Fin 3 → ℕ) (ho : o = ![0, row t, 0]) (ib : ∀ a, o a + S1x1x2048.size a ≤ S1x8x2048.size a) (k : Fin 2048) (r : Fin 8192) (hg : (group r).val = row t) :
    View.ld (iblk m c 2 t) (Rect.unit (s := S1x8x2048) o S1x1x2048.size ib) (ix3 0 0 k)
      = m ((c : Thread nD τ).loc main_arg2) (ix3 0 (group r) ⟨k.val, by omega⟩) := by
  subst ho
  exact in2 m c t _ _ _ hg (show k.val = 0 + 1 * k.val by omega)
/-- The scale row that a point reads is the row of its group. -/
theorem scale (o : Fin 3 → ℕ) (ho : o = ![0, row t, 0]) (ib : ∀ a, o a + S1x1x2048.size a ≤ S1x8x2048.size a) (k : Fin 2048) (r : Fin 8192) (hg : (group r).val = row t) :
    View.ld (iblk m c 3 t) (Rect.unit (s := S1x8x2048) o S1x1x2048.size ib) (ix3 0 0 k)
      = m ((c : Thread nD τ).loc main_arg2) (ix3 0 (group r) ⟨2048 + k.val, by omega⟩) := by
  subst ho
  exact in3 m c t _ _ _ hg (show 2048 + k.val = 2048 + (0 + 1 * k.val) by omega)

theorem point4 (y : S512x2048.Idx) (r : Fin 8192) (hr : r.val = t.val * 512 + (y 0).val) :
    ((dats m 0 c).after 4 t y : EReal) = inputX (m ((c : Thread nD τ).loc main_arg0)) (m ((c : Thread nD τ).loc main_arg1)) r (y 1) := by
  rw [after0_4]
  by_cases h : t.val < 8
  · rw [outsAt0_A m c t h (by omega)]; frame_out
    idx_vars y
    exact (prompt_x _ _ _).trans (in0 m c t h _ _ r hr)
  · rw [outsAt0_B m c t h (by omega)]; frame_out
    idx_vars y
    exact (sample_x _ _ _).trans (in1 m c t h _ _ r hr)

theorem point5 (y : S512x2048.Idx) (r : Fin 8192) (hr : r.val = t.val * 512 + (y 0).val) :
    ((dats m 0 c).after 5 t y : EReal)
      = inputH (m ((c : Thread nD τ).loc main_arg0)) (m ((c : Thread nD τ).loc main_arg1)) (m ((c : Thread nD τ).loc main_arg2)) r (y 1) := by
  have hg := grp t (y 0) r hr
  rw [after0_5]
  unfold inputH
  by_cases h : t.val < 8
  · rw [outsAt0_A m c t h (by omega)]; frame_out
    idx_vars y
    exact (prompt_h _ _ _ _ _).trans (Ideal.add_congr (Ideal.mul_congr (in0 m c t h _ _ r hr) (Ideal.add_congr rfl (scale m c t _ (off1 t) _ _ r hg))) (shift m c t _ (off1 t) _ _ r hg))
  · rw [outsAt0_B m c t h (by omega)]; frame_out
    idx_vars y
    exact (sample_h _ _ _ _ _).trans (Ideal.add_congr (Ideal.mul_congr (in1 m c t h _ _ r hr) (Ideal.add_congr rfl (scale m c t _ (off2 t) _ _ r hg))) (shift m c t _ (off2 t) _ _ r hg))

/-- The first result array after the run: the stream. -/
theorem final4 : (dats m 0 c).arrAt 4 cfg0.N = fun i => inputX (m ((c : Thread nD τ).loc main_arg0)) (m ((c : Thread nD τ).loc main_arg1)) (i 0) (i 1) := by
  refine (dats m 0 c).arrAt_eq_of_covers 4 _ (by decide +kernel) fun t _ y => ?_
  blk_simp
  refine (point4 m c t y _ ?_).trans (congrArg _ (Fin.ext ?_)) <;> blk_simp [idx t] <;> try omega

/-- The second result array after the run: the modulated stream. -/
theorem final5 : (dats m 0 c).arrAt 5 cfg0.N = fun i => inputH (m ((c : Thread nD τ).loc main_arg0)) (m ((c : Thread nD τ).loc main_arg1))
    (m ((c : Thread nD τ).loc main_arg2)) (i 0) (i 1) := by
  refine (dats m 0 c).arrAt_eq_of_covers 5 _ (by decide +kernel) fun t _ y => ?_
  blk_simp
  refine (point5 m c t y _ ?_).trans (congrArg _ (Fin.ext ?_)) <;> blk_simp [idx t] <;> try omega

end Cert.Proof.ModulateKernel

end
-- ==== Proof.ModulateRef.lean ====
/-
  The reference of the layer's input, read at an index.
-/
module

public import proofs.«01_k».proof.Proof.Gen.ModulateRefIdeal.Read
public import proofs.«01_k».proof.Proof.ModulateSpec

@[expose] public section

set_option maxRecDepth 16384

noncomputable section

open Idealize.ShloMosaic Idealize.ShloMosaic.TcCoe Idealize.SL.Sem

namespace Cert.Proof.ModulateRef

open Cert.ModulateRefIdeal Cert.ModulateRefIdeal.Gen Cert.ModulateRefIdeal.Read Cert.Spec

variable (xp : FVec Ideal S16x256x2048 .f32) (xs : FVec Ideal S2x2048x2048 .f32) (md : FVec Ideal S2x8x12288 .f32)

/-- The reference's stream. -/
theorem x_at (r : Fin 8192) (k : Fin 2048) : val_main_v2 (F := Ideal) xp xs (ix2 r k) = inputX xp xs r k := by
  have hr := r.isLt
  pointwise [val_main_v2, val_main_v1, val_main_v0]
  by_cases h : r.val < 4096
  · rw [dif_pos h]
    exact inputX_prompt xp xs r k _ _ (by dsimp only; omega)
  · rw [dif_neg h]
    exact inputX_sample xp xs r k _ _ (by dsimp only; omega)

/-- The reference's scale row. -/
theorem scale_at (r : Fin 8192) (k : Fin 2048) : val_main_v13 (F := Ideal) md (ix2 r k) = md (ix3 0 (group r) ⟨2048 + k.val, by omega⟩) := by
  rw [← group_row md 0 r ⟨2048 + k.val, by omega⟩ (by omega)]
  pointwise [val_main_v13, val_main_v12, val_main_v11, val_main_v10, val_main_v9, val_main_v8, val_main_v7, val_main_v6, val_main_v5, val_main_v4, val_main_v3]

/-- The reference's shift row. -/
theorem shift_at (r : Fin 8192) (k : Fin 2048) : val_main_v27 (F := Ideal) md (ix2 r k) = md (ix3 0 (group r) ⟨k.val, by omega⟩) := by
  rw [← group_row md 0 r ⟨k.val, by omega⟩ (by omega)]
  pointwise [val_main_v27, val_main_v26, val_main_v25, val_main_v24, val_main_v23, val_main_v22, val_main_v21, val_main_v20, val_main_v19, val_main_v18, val_main_v17]

/-- The reference's modulated stream. -/
theorem h_at (r : Fin 8192) (k : Fin 2048) : val_main_v29 (F := Ideal) xp xs md (ix2 r k) = inputH xp xs md r k := by
  unfold inputH
  rw [← x_at, ← scale_at md, ← shift_at md]
  pointwise [val_main_v29, val_main_v28, val_main_v16, val_main_v15, val_main_v14, val_main_cst]

end Cert.Proof.ModulateRef

end
-- ==== Proof.ModulateClaim.lean ====
/-
  The claims of the layer's input from its two runs.
-/
module

public import proofs.«01_k».proof.Defs
public import proofs.«01_k».proof.Proof.Gen.ModulateIdeal
public import proofs.«01_k».proof.Proof.Gen.ModulateRefIdeal
public import proofs.«01_k».proof.Proof.ModulateKernel
public import proofs.«01_k».proof.Proof.ModulateRef
public import Idealize.ShloMosaic.Lib.Quiescent

@[expose] public section

noncomputable section

namespace Cert.Proof

open Idealize.ShloMosaic Idealize.SL.Sem

/-- The reference runs on the host, leaves its arguments unchanged and declares no semaphore. -/
theorem frame_modulate_ref : Cert.quiescent_ModulateRefIdeal := fun m ρ _ =>
  (θ_run Cert.ModulateRefIdeal.defs _ _).mono (fun r h => ⟨fun c => (h c).2.2, sem_eq_zero_of_no_sems (by decide) r.2⟩)
    (Cert.ModulateRefIdeal.Value.run (F := Ideal) m ρ)

/-- The kernel and the reference compute the same stream and the same modulated stream. -/
theorem modulate : Cert.algebraic_ModulateIdeal_ModulateRefIdeal := fun m ρ m' ρ' _ hag =>
  ⟨fun c => fun i => Spec.inputX (m ((c.tc : Thread _ _).loc Cert.ModulateIdeal.main_arg0)) (m ((c.tc : Thread _ _).loc Cert.ModulateIdeal.main_arg1)) (i 0) (i 1),
    fun c => fun i => Spec.inputH (m ((c.tc : Thread _ _).loc Cert.ModulateIdeal.main_arg0)) (m ((c.tc : Thread _ _).loc Cert.ModulateIdeal.main_arg1)) (m ((c.tc : Thread _ _).loc Cert.ModulateIdeal.main_arg2)) (i 0) (i 1),
    (θ_run _ _ _).mono (fun _ h c => ⟨(h c).1.trans (ModulateKernel.final4 m c), (h c).2.1.trans (ModulateKernel.final5 m c), (h c).2.2⟩)
      (Cert.ModulateIdeal.Value.run_blocks m ρ),
    (θ_run _ _ _).mono (fun _ h c => by
      obtain ⟨h0, h1, h2⟩ := hag c
      refine ⟨(h c).1.trans ?_, (h c).2.1.trans ?_, (h c).2.2⟩
      · rw [Cert.ModulateRefIdeal.Read.val_main_v2_eq, h0, h1]
        funext i
        rw [eq_ix2 i]
        exact ModulateRef.x_at _ _ _ _
      · rw [Cert.ModulateRefIdeal.Read.val_main_v29_eq, h0, h1, h2]
        funext i
        rw [eq_ix2 i]
        exact ModulateRef.h_at _ _ _ _ _)
      (Cert.ModulateRefIdeal.Value.run m' ρ')⟩

end Cert.Proof

end
-- ==== Proof.DownSpec.lean ====
/-
  The mathematics of the down projection: the residual sum, its layer norm, and the modulated norm, an entry at a time.
-/
module

public import proofs.«01_k».proof.Proof.LayerNorm

@[expose] public section

noncomputable section

namespace Cert.Spec

open Idealize.ShloMosaic

/-- The residual sum before the norm, at row `r` and column `k`. -/
def downResid (a : FVec Ideal ⟨2, ![8192, 5632]⟩ .bf16) (w : FVec Ideal ⟨2, ![5632, 2048]⟩ .bf16)
    (x : FVec Ideal ⟨2, ![8192, 2048]⟩ .f32) (md : FVec Ideal ⟨3, ![2, 8, 12288]⟩ .f32) (r : Fin 8192) (k : Fin 2048) : EReal :=
  Ideal.ofBits .f32 0x3FB504F3#32 * x (ix2 r k)
    + md (ix3 0 (group r) ⟨10240 + k.val, by omega⟩) * ∑ l : Fin 5504, a (ix2 r ⟨l.val, by omega⟩) * w (ix2 ⟨l.val, by omega⟩ k)

/-- The layer's new residual stream. -/
def downX (a : FVec Ideal ⟨2, ![8192, 5632]⟩ .bf16) (w : FVec Ideal ⟨2, ![5632, 2048]⟩ .bf16)
    (x : FVec Ideal ⟨2, ![8192, 2048]⟩ .f32) (md : FVec Ideal ⟨3, ![2, 8, 12288]⟩ .f32) (g b : FVec Ideal ⟨2, ![2, 2048]⟩ .f32)
    (r : Fin 8192) (k : Fin 2048) : EReal :=
  layerNorm (downResid a w x md r) (g (ix2 0 k)) (b (ix2 0 k)) k

/-- The new residual stream modulated for the next layer. -/
def downH (a : FVec Ideal ⟨2, ![8192, 5632]⟩ .bf16) (w : FVec Ideal ⟨2, ![5632, 2048]⟩ .bf16)
    (x : FVec Ideal ⟨2, ![8192, 2048]⟩ .f32) (md : FVec Ideal ⟨3, ![2, 8, 12288]⟩ .f32) (g b : FVec Ideal ⟨2, ![2, 2048]⟩ .f32)
    (r : Fin 8192) (k : Fin 2048) : EReal :=
  downX a w x md g b r k * (1 + md (ix3 1 (group r) ⟨2048 + k.val, by omega⟩)) + md (ix3 1 (group r) ⟨k.val, by omega⟩)

end Cert.Spec

end
-- ==== Proof.DownKernel.lean ====
/-
  What the kernel of the down projection leaves in its two results, read at an index.
-/
module

public import proofs.«01_k».proof.Proof.Gen.DownIdeal.Value
public import proofs.«01_k».proof.Proof.DownSpec

@[expose] public section

set_option maxRecDepth 16384

noncomputable section

open Idealize.ShloMosaic Idealize.ShloMosaic.TcCoe Idealize.SL.Sem
open Idealize.ShloMosaic.Pipeline (Dat)

namespace Cert.Proof.DownKernel

open Cert.DownIdeal Cert.DownIdeal.Gen Cert.Spec

/-- The stored norm, at an index: the layer norm of the row. -/
theorem pay1_at (v : FVec Ideal S256x2048 .f32) (g b : FVec Ideal S1x1x2048 .f32) (r : Fin 256) (k : Fin 2048) :
    k0_pay1 (F := Ideal) v g b (ix2 r k) = layerNorm (fun l => v (ix2 r l)) (g (ix3 0 0 k)) (b (ix3 0 0 k)) k := by
  pointwise [k0_pay1, layerNorm, mean]

/-- The stored modulated norm, at an index. -/
theorem pay2_at (v : FVec Ideal S256x2048 .f32) (g b s h : FVec Ideal S1x1x2048 .f32) (r : Fin 256) (k : Fin 2048) :
    k0_pay2 (F := Ideal) v g b s h (ix2 r k)
      = layerNorm (fun l => v (ix2 r l)) (g (ix3 0 0 k)) (b (ix3 0 0 k)) k * (1 + s (ix3 0 0 k)) + h (ix3 0 0 k) := by
  pointwise [k0_pay2, k0_pay1, layerNorm, mean]

/-- The residual sum before the norm, at an index. -/
theorem pay3_at (x : FVec Ideal S256x2048 .f32) (m : FVec Ideal S1x1x2048 .f32) (a : FVec Ideal S256x5504 .bf16)
    (w : FVec Ideal S5504x2048 .bf16) (r : Fin 256) (k : Fin 2048) :
    k0_pay3 (F := Ideal) x m a w (ix2 r k)
      = Ideal.ofBits .f32 0x3FB504F3#32 * x (ix2 r k) + m (ix3 0 0 k) * ∑ l : Fin 5504, a (ix2 r l) * w (ix2 l k) := by
  pointwise [k0_pay3]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0, 5] ∧ win0_4.index t = ![0, 0, 0] ∧ win0_5.index t = ![0, 0, 0]
    ∧ win0_6.index t = ![1, 0, 0] ∧ win0_7.index t = ![1, 0, 1] ∧ win0_8.index t = ![t.val, 0] ∧ win0_9.index t = ![t.val, 0] :=
  (by decide +kernel : ∀ t : Fin grid0.N, _)

theorem off1 (t : Fin cfg0.N) : k0_off1 (grid0.coords t) 1 = if t.val < 16 then 0 else if t.val < 24 then 1 else 2 :=
  (by decide +kernel : ∀ t : Fin grid0.N, k0_off1 (grid0.coords t) 1 = if t.val < 16 then 0 else if t.val < 24 then 1 else 2) t
theorem off2 (t : Fin cfg0.N) : k0_off1 (grid0.coords t) 2 = 0 :=
  (by decide +kernel : ∀ t : Fin grid0.N, k0_off1 (grid0.coords t) 2 = 0) t

theorem grp (t : Fin cfg0.N) (y : Fin 256) (r : Fin 8192) (h : r.val = t.val * 256 + y.val) :
    (group r).val = if t.val < 16 then 0 else if t.val < 24 then 1 else 2 := by
  unfold group
  split_ifs <;> first | rfl | omega

variable (c : Dev nD) (t : Fin cfg0.N)

theorem in0 (y : S256x5504.Idx) (r : Fin 8192) (l : Fin 5632) (hr : r.val = t.val * 256 + (y 0).val) (hl : l.val = (y 1).val) :
    X0_0 m c t y = m ((c : Thread nD τ).loc main_arg0) (ix2 r l) := by
  unfold X0_0 Pipeline.Window.fill
  rw [dif_pos (moved0_0 t y)]
  blk_ext [iblk, V, idx t]
theorem in1 (y : S5504x2048.Idx) (r : Fin 5632) (l : Fin 2048) (hr : r.val = (y 0).val) (hl : l.val = (y 1).val) :
    X0_1 m c t y = m ((c : Thread nD τ).loc main_arg1) (ix2 r l) := by
  unfold X0_1 Pipeline.Window.fill
  rw [dif_pos (moved0_1 t y)]
  blk_ext [iblk, V, idx t]

theorem in2 (y : S256x2048.Idx) (r : Fin 8192) (l : Fin 2048) (hr : r.val = t.val * 256 + (y 0).val) (hl : l.val = (y 1).val) :
    iblk m c 2 t y = m ((c : Thread nD τ).loc main_arg2) (ix2 r l) := by
  blk_ext [iblk, V, idx t]
theorem in3 (y : S1x8x2048.Idx) (r : Fin 8) (l : Fin 12288) (hr : r.val = (y 1).val) (hl : l.val = 10240 + (y 2).val) :
    iblk m c 3 t y = m ((c : Thread nD τ).loc main_arg3) (ix3 0 r l) := by
  blk_ext [iblk, V, idx t]
theorem in6 (y : S1x8x2048.Idx) (r : Fin 8) (l : Fin 12288) (hr : r.val = (y 1).val) (hl : l.val = (y 2).val) :
    iblk m c 6 t y = m ((c : Thread nD τ).loc main_arg3) (ix3 1 r l) := by
  blk_ext [iblk, V, idx t]
theorem in7 (y : S1x8x2048.Idx) (r : Fin 8) (l : Fin 12288) (hr : r.val = (y 1).val) (hl : l.val = 2048 + (y 2).val) :
    iblk m c 7 t y = m ((c : Thread nD τ).loc main_arg3) (ix3 1 r l) := by
  blk_ext [iblk, V, idx t]
theorem in4 (k : Fin 2048) : iblk m c 4 t (ix3 0 0 k) = m ((c : Thread nD τ).loc main_arg4) (ix2 0 k) := by
  blk_simp [iblk, idx t]
  entry_read
  pointwise
  blk_ext [iblk, V, idx t]
theorem in5 (k : Fin 2048) : iblk m c 5 t (ix3 0 0 k) = m ((c : Thread nD τ).loc main_arg5) (ix2 0 k) := by
  blk_simp [iblk, idx t]
  entry_read
  pointwise
  blk_ext [iblk, V, idx t]

theorem point8 (y : S256x2048.Idx) (r : Fin 8192) (hr : r.val = t.val * 256 + (y 0).val) : ((dats m 0 c).after 8 t y : EReal) =
    downX (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) r (y 1) := by
  rw [after0_8]; unfold outsAt0; frame_out
  idx_vars y
  have hg := grp t y0 r hr
  pointwise [pay1_at, pay3_at]
  unfold downX
  refine layerNorm_congr _ (fun l => ?_) (in4 m c t y1) (in5 m c t y1)
  unfold downResid
  refine Ideal.add_congr (Ideal.mul_congr rfl (in2 m c t _ r l hr rfl)) (Ideal.mul_congr (in3 m c t _ _ _ ?_ ?_) (Finset.sum_congr rfl fun k _ =>
    Ideal.mul_congr (in0 m c t _ _ _ hr rfl) (in1 m c t _ _ _ rfl rfl)))
  · exact hg.trans (off1 t).symm
  · show _ = _ + (k0_off1 (grid0.coords t) 2 + _); rw [off2 t, Nat.zero_add]

theorem point9 (y : S256x2048.Idx) (r : Fin 8192) (hr : r.val = t.val * 256 + (y 0).val) : ((dats m 0 c).after 9 t y : EReal) =
    downH (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) r (y 1) := by
  refine Eq.trans ?_ (Ideal.add_congr (Ideal.mul_congr (point8 m c t y r hr) rfl) rfl)
  rw [after0_8, after0_9]; unfold outsAt0; frame_out
  idx_vars y
  have hg := grp t y0 r hr
  pointwise [pay1_at, pay2_at, pay3_at]
  refine Ideal.add_congr (Ideal.mul_congr rfl (Ideal.add_congr rfl (in7 m c t _ _ _ ?_ ?_))) (in6 m c t _ _ _ ?_ ?_)
  · exact hg.trans (off1 t).symm
  · show _ = _ + (k0_off1 (grid0.coords t) 2 + _); rw [off2 t, Nat.zero_add]
  · exact hg.trans (off1 t).symm
  · show _ = (k0_off1 (grid0.coords t) 2 + _); rw [off2 t, Nat.zero_add]

/-- The first result array after the run: the layer's new residual stream. -/
theorem final8 : (dats m 0 c).arrAt 8 cfg0.N = fun i => downX (m ((c : Thread nD τ).loc main_arg0)) (m ((c : Thread nD τ).loc main_arg1))
     (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 8 _ (by decide +kernel) fun t _ y => ?_
  blk_simp
  refine (point8 m c t y _ ?_).trans (congrArg _ (Fin.ext ?_)) <;> blk_simp [idx t] <;> try omega

/-- The second result array after the run: the modulated stream. -/
theorem final9 : (dats m 0 c).arrAt 9 cfg0.N = fun i => downH (m ((c : Thread nD τ).loc main_arg0)) (m ((c : Thread nD τ).loc main_arg1))
     (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 9 _ (by decide +kernel) fun t _ y => ?_
  blk_simp
  refine (point9 m c t y _ ?_).trans (congrArg _ (Fin.ext ?_)) <;> blk_simp [idx t] <;> try omega

end Cert.Proof.DownKernel

end
-- ==== Proof.DownRef.lean ====
/-
  The reference of the down projection, read at an index.
-/
module

public import proofs.«01_k».proof.Proof.Gen.DownRefIdeal.Read
public import proofs.«01_k».proof.Proof.DownSpec

@[expose] public section

set_option maxRecDepth 16384

noncomputable section

open Idealize.ShloMosaic Idealize.ShloMosaic.TcCoe Idealize.SL.Sem

namespace Cert.Proof.DownRef

open Cert.DownRefIdeal Cert.DownRefIdeal.Gen Cert.DownRefIdeal.Read Cert.Spec

variable (a : FVec Ideal S8192x5632 .bf16) (w : FVec Ideal S5632x2048 .bf16) (x : FVec Ideal S8192x2048 .f32)
  (md : FVec Ideal S2x8x12288 .f32) (g b : FVec Ideal S2x2048 .f32)

/-- The reference's residual sum before the norm. -/
theorem resid_at (r : Fin 8192) (k : Fin 2048) : val_main_v19 (F := Ideal) a w x md (ix2 r k) = downResid a w x md r k := by
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, downResid]
  exact Ideal.add_congr rfl (Ideal.mul_congr (group_row md 0 r ⟨10240 + k.val, by omega⟩ (by omega)) rfl)

/-- The reference's first result. -/
theorem x_at (r : Fin 8192) (k : Fin 2048) : val_main_v47 (F := Ideal) a w x md g b (ix2 r k) = downX a w x md g b r k := by
  unfold downX
  rw [← layerNorm_congr k (fun l => resid_at a w x md r l) rfl rfl]
  pointwise [val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27, val_main_v26, val_main_v25,
    val_main_v24, val_main_v23, val_main_v22, val_main_v21, val_main_v20, val_main_cst_0, val_main_cst_1, val_main_cst_2, val_main_cst_3, val_main_cst_4, layerNorm, mean]

/-- The reference's second result. -/
theorem h_at (r : Fin 8192) (k : Fin 2048) : val_main_v74 (F := Ideal) a w x md g b (ix2 r k) = downH a w x md g b r k := by
  unfold downH
  rw [← x_at]
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_cst_5]
  exact Ideal.add_congr (Ideal.mul_congr rfl (Ideal.add_congr rfl (group_row md 1 r ⟨2048 + k.val, by omega⟩ (by omega))))
    (group_row md 1 r ⟨k.val, by omega⟩ (by omega))

end Cert.Proof.DownRef

end
-- ==== Proof.DownClaim.lean ====
/-
  The down projection's claims from its two runs.
-/
module

public import proofs.«01_k».proof.Defs
public import proofs.«01_k».proof.Proof.Gen.DownIdeal
public import proofs.«01_k».proof.Proof.Gen.DownRefIdeal
public import proofs.«01_k».proof.Proof.DownKernel
public import proofs.«01_k».proof.Proof.DownRef
public import Idealize.ShloMosaic.Lib.Quiescent

@[expose] public section

noncomputable section

namespace Cert.Proof

open Idealize.ShloMosaic Idealize.SL.Sem

/-- The reference runs on the host, leaves its arguments unchanged and declares no semaphore. -/
theorem frame_down_ref : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

/-- The kernel and the reference compute the same new stream and the same modulated stream. -/
theorem down : Cert.algebraic_DownIdeal_DownRefIdeal := fun m ρ m' ρ' _ hag =>
  ⟨fun c => fun i => Spec.downX (m ((c.tc : Thread _ _).loc Cert.DownIdeal.main_arg0)) (m ((c.tc : Thread _ _).loc Cert.DownIdeal.main_arg1))
      (m ((c.tc : Thread _ _).loc Cert.DownIdeal.main_arg2)) (m ((c.tc : Thread _ _).loc Cert.DownIdeal.main_arg3))
      (m ((c.tc : Thread _ _).loc Cert.DownIdeal.main_arg4)) (m ((c.tc : Thread _ _).loc Cert.DownIdeal.main_arg5)) (i 0) (i 1),
    fun c => fun i => Spec.downH (m ((c.tc : Thread _ _).loc Cert.DownIdeal.main_arg0)) (m ((c.tc : Thread _ _).loc Cert.DownIdeal.main_arg1))
      (m ((c.tc : Thread _ _).loc Cert.DownIdeal.main_arg2)) (m ((c.tc : Thread _ _).loc Cert.DownIdeal.main_arg3))
      (m ((c.tc : Thread _ _).loc Cert.DownIdeal.main_arg4)) (m ((c.tc : Thread _ _).loc Cert.DownIdeal.main_arg5)) (i 0) (i 1),
    (θ_run _ _ _).mono (fun _ h c => ⟨(h c).1.trans (DownKernel.final8 m c), (h c).2.1.trans (DownKernel.final9 m c), (h c).2.2⟩)
      (Cert.DownIdeal.Value.run_blocks m ρ),
    (θ_run _ _ _).mono (fun _ h c => by
      obtain ⟨h0, h1, h2, h3, h4, h5⟩ := hag c
      refine ⟨(h c).1.trans ?_, (h c).2.1.trans ?_, (h c).2.2⟩
      · rw [Cert.DownRefIdeal.Read.val_main_v47_eq, h0, h1, h2, h3, h4, h5]
        funext i
        rw [eq_ix2 i]
        exact DownRef.x_at _ _ _ _ _ _ _ _
      · rw [Cert.DownRefIdeal.Read.val_main_v74_eq, h0, h1, h2, h3, h4, h5]
        funext i
        rw [eq_ix2 i]
        exact DownRef.h_at _ _ _ _ _ _ _ _)
      (Cert.DownRefIdeal.Value.run m' ρ')⟩

end Cert.Proof

end
-- ==== Proof.LastIdealRun.lean ====
/-
  The body of the last layer's down projection (its idealization), run at one grid point: the prompt's points
  store their rows in the first result's buffer and leave the second's alone, the sample's points the other way round.
-/
module

public import proofs.«01_k».proof.Proof.Gen.LastIdeal.Frame
public import proofs.«01_k».proof.Proof.Gen.LastIdeal.Skeleton
public import proofs.«01_k».proof.Proof.Gen.LastIdeal.Points
public import Idealize.ShloMosaic.Lib.Pipeline.ReadBack
public import Idealize.ShloMosaic.Lib.Pipeline.ValueKit

@[expose] public section

set_option maxRecDepth 16384

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point's gate row, read off the staged gates. -/
def gateRow (i : grid0.Coords) (x3 : Vec F S1x8x2048 .f32) : Vec F S1x1x2048 .f32 :=
  View.ld x3 (Rect.unit (s := S1x8x2048) (k0_off1 i) S1x1x2048.size (k0_off1_inb i))

/-- The rows of one point. -/
def rows (i : grid0.Coords) (x0 : Vec F S256x5504 .bf16) (x1 : Vec F S5504x2048 .bf16) (x2 : Vec F S256x2048 .f32) (x3 : Vec F S1x8x2048 .f32)
    (x4 x5 : Vec F S1x1x2048 .f32) : Vec F S256x2048 .f32 :=
  k0_pay1 (k0_pay2 x2 (gateRow i x3) x0 x1) x4 x5

/-- The piece one point stores. -/
def rowPieces (v : Vec F S256x2048 .f32) : List (View.Piece (Elt F) S256x2048 .f32) :=
  [⟨Rect.unit (s := S256x2048) ![0, 0] S256x2048.size inb_S256x2048_S256x2048_0_0, v⟩]

theorem rowPieces_cover (v : Vec F S256x2048 .f32) (y : S256x2048.Idx) : ∃ p ∈ rowPieces v, y ∈ p.1.set :=
  View.cover_of_wholeMem (rowPieces v) (by sl_whole_mem) y

variable (c : Dev nD) (i : grid0.Coords)
  (arg1 : Memref sig .tc .vmem S256x5504 .bf16) (harg1 : arg1.IsWhole) (arg2 : Memref sig .tc .vmem S5504x2048 .bf16) (harg2 : arg2.IsWhole)
  (arg3 : Memref sig .tc .vmem S256x2048 .f32) (harg3 : arg3.IsWhole) (arg4 : Memref sig .tc .vmem S1x8x2048 .f32) (harg4 : arg4.IsWhole)
  (arg5 : Memref sig .tc .vmem S1x1x2048 .f32) (harg5 : arg5.IsWhole) (arg6 : Memref sig .tc .vmem S1x1x2048 .f32) (harg6 : arg6.IsWhole)
  (arg7 : Memref sig .tc .vmem S256x2048 .f32) (harg7 : arg7.IsWhole) (arg8 : Memref sig .tc .vmem S256x2048 .f32) (harg8 : arg8.IsWhole)
  (x0 : Vec F S256x5504 .bf16) (x1 : Vec F S5504x2048 .bf16) (x2 : Vec F S256x2048 .f32) (x3 : Vec F S1x8x2048 .f32) (x4 x5 : Vec F S1x1x2048 .f32)

/-- The buffers of one point, the two results' at `y6` and `y7`. -/
def held (y6 y7 : Vec F S256x2048 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare y6 ∗ owns (c : Thread nD τ) arg8 fullShare y7)

set_option maxHeartbeats 1000000 in
/-- A point of the prompt's rows. -/
theorem run_first (h1 : k0_cond1 i = 1#1) (h2 : ¬ k0_cond2 i = 1#1) (y6 y7 : Vec F S256x2048 .f32) (E : Set ℕ) (K : PUnit → sProp 𝕄) :
    iprop(held c arg1 arg2 arg3 arg4 arg5 arg6 arg7 arg8 x0 x1 x2 x3 x4 x5 y6 y7
        ∗ (held c arg1 arg2 arg3 arg4 arg5 arg6 arg7 arg8 x0 x1 x2 x3 x4 x5 (rows i x0 x1 x2 x3 x4 x5) y7 -∗ K ⟨⟩))
      ⊢ wp frame (wpE (defs₀ (F := F)) Variants.none c none) E
          (cc0_ffn_down i arg1 harg1 arg2 harg2 arg3 harg3 arg4 harg4 arg5 harg5 arg6 harg6 arg7 harg7 arg8 harg8) K := by
  simp only [cc0_ffn_down_eq_skeleton]; unfold cc0_ffn_down_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    frame_open
    unfold rows gateRow
    simp (disch := decide) only [View.readAt_eq_ld, Memref.IsWhole.read_unread, View.ld_unit_lit']
    exact (View.read_writes_eq_canon _ _ (rowPieces _) (rowPieces_cover _)).trans (View.canon_cons_unit_lit' _ _ _ (by decide))
  iexists _; isplitr; · ipureintro; exact harg8.read_unread _
  iexact H7

set_option maxHeartbeats 1000000 in
/-- A point of the sample's rows. -/
theorem run_second (h1 : ¬ k0_cond1 i = 1#1) (h2 : k0_cond2 i = 1#1) (y6 y7 : Vec F S256x2048 .f32) (E : Set ℕ) (K : PUnit → sProp 𝕄) :
    iprop(held c arg1 arg2 arg3 arg4 arg5 arg6 arg7 arg8 x0 x1 x2 x3 x4 x5 y6 y7
        ∗ (held c arg1 arg2 arg3 arg4 arg5 arg6 arg7 arg8 x0 x1 x2 x3 x4 x5 y6 (rows i x0 x1 x2 x3 x4 x5) -∗ K ⟨⟩))
      ⊢ wp frame (wpE (defs₀ (F := F)) Variants.none c none) E
          (cc0_ffn_down i arg1 harg1 arg2 harg2 arg3 harg3 arg4 harg4 arg5 harg5 arg6 harg6 arg7 harg7 arg8 harg8) K := by
  simp only [cc0_ffn_down_eq_skeleton]; unfold cc0_ffn_down_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact H7
  ipureintro
  frame_open
  unfold rows gateRow
  simp (disch := decide) only [View.readAt_eq_ld, Memref.IsWhole.read_unread, View.ld_unit_lit']
  exact (View.read_writes_eq_canon _ _ (rowPieces _) (rowPieces_cover _)).trans (View.canon_cons_unit_lit' _ _ _ (by decide))

end Cert.LastIdeal.Hand

end
-- ==== Proof.LastIdealFrame.lean ====
/-
  The frame of the last layer's down projection (its idealization): the first result's buffer keeps the
  prompt's last rows through the sample's points, which store nothing into it, and is written back at the end.
-/
module

public import proofs.«01_k».proof.Proof.LastIdealRun

@[expose] public section

set_option maxRecDepth 16384

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Which points store into which result, and when each is written back -/

theorem cond1_iff (t : Fin cfg0.N) : k0_cond1 (grid0.coords t) = 1#1 ↔ t.val < 16 :=
  (by decide +kernel : ∀ t : Fin grid0.N, k0_cond1 (grid0.coords t) = 1#1 ↔ t.val < 16) t
theorem cond2_iff (t : Fin cfg0.N) : k0_cond2 (grid0.coords t) = 1#1 ↔ 16 ≤ t.val :=
  (by decide +kernel : ∀ t : Fin grid0.N, k0_cond2 (grid0.coords t) = 1#1 ↔ 16 ≤ t.val) t
theorem idle6 : ∀ t : Fin cfg0.N, cfg0.idle 6 (cfg0.grid.coords t) = decide (16 ≤ t.val) := by decide +kernel
theorem idle7 : ∀ t : Fin cfg0.N, cfg0.idle 7 (cfg0.grid.coords t) = decide (t.val < 16) := by decide +kernel
theorem flush6 : ∀ t : Fin cfg0.N, (cfg0.win 6).flush t = decide (t.val < 15 ∨ t.val = 31) := by decide +kernel
theorem flush7 : ∀ t : Fin cfg0.N, (cfg0.win 7).flush t = decide (16 ≤ t.val) := by decide +kernel
theorem whole6 : ∀ t : Fin cfg0.N, ∀ a, (cfg0.win 6).xsize (cfg0.grid.coords t) a = (cfg0.win 6).size a := by decide +kernel

/-- The rows that a point computes. -/
def rowsAt (t : Fin cfg0.N) : Vec F S256x2048 .f32 :=
  rows (grid0.coords t) (X0_0 m c t) (X0_1 m c t) (iblk m c 2 t) (iblk m c 3 t) (iblk m c 4 t) (iblk m c 5 t)

/-- The prompt's point whose rows the first result's buffer holds after point `t`. -/
def promptPoint (t : Fin cfg0.N) : Fin cfg0.N := ⟨min t.val 15, lt_of_le_of_lt (Nat.min_le_left _ _) t.isLt⟩

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => rowsAt m c (promptPoint t)
    | ⟨7, _⟩ => rowsAt m c t
  Φ _ := Pipeline.ΦA spec0 c
  q _ := fullShare
  owed _ := 0

theorem A_eq (w : Fin cfg0.W) : (dats m 0 c).A w = V m c (Pipeline.arrRef spec0 w) := by dsimp only [dats]

theorem after0_0 (t : Fin cfg0.N) : (dats m 0 c).after 0 t = X0_0 m c t := by dsimp only [dats]
theorem after0_1 (t : Fin cfg0.N) : (dats m 0 c).after 1 t = X0_1 m c t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = rowsAt m c (promptPoint t) := by dsimp only [dats]
theorem after0_7 (t : Fin cfg0.N) : (dats m 0 c).after 7 t = rowsAt m c t := by dsimp only [dats]

theorem before0_0 (t : Fin cfg0.N) (d) : (dats m 0 c).before 0 t d = X0_0 m c t := before0_0_of m (dats m 0 c) (A_eq m c 0) (after0_0 m c) t d
theorem before0_1 (t : Fin cfg0.N) (d) : (dats m 0 c).before 1 t d = X0_1 m c t := before0_1_of m (dats m 0 c) (A_eq m c 1) (after0_1 m c) t d
theorem before0_2 (t : Fin cfg0.N) (d) : (dats m 0 c).before 2 t d = iblk m c 2 t := before0_2_of m (dats m 0 c) (A_eq m c 2) (after0_2 m c) t d
theorem before0_3 (t : Fin cfg0.N) (d) : (dats m 0 c).before 3 t d = iblk m c 3 t := before0_3_of m (dats m 0 c) (A_eq m c 3) (after0_3 m c) t d
theorem before0_4 (t : Fin cfg0.N) (d) : (dats m 0 c).before 4 t d = iblk m c 4 t := before0_4_of m (dats m 0 c) (A_eq m c 4) (after0_4 m c) t d
theorem before0_5 (t : Fin cfg0.N) (d) : (dats m 0 c).before 5 t d = iblk m c 5 t := before0_5_of m (dats m 0 c) (A_eq m c 5) (after0_5 m c) t d

/-- What a point leaves whole in the first result's buffer, the next finds whole. -/
theorem kept6 (t : Fin cfg0.N) (d) : (dats m 0 c).kept 6 t d = (dats m 0 c).after 6 t := by
  have e := (cfg0.win 6).fill_cut (cfg0.grid.coords t) ((dats m 0 c).after 6 t)
  refine Eq.trans ?_ e
  unfold Dat.kept
  funext y
  have hm : (cfg0.win 6).moved (cfg0.grid.coords t) y = true :=
    ((cfg0.win 6).moved_iff _ y).mpr fun a => by rw [whole6 t a]; exact (y a).isLt
  unfold Pipeline.Window.fill
  rw [dif_pos hm, dif_pos hm]

/-- Through the sample's points the first result's buffer holds the prompt's last rows. -/
theorem before0_6 (n : ℕ) : ∀ (h : n + 16 < cfg0.N) (d), (dats m 0 c).before 6 ⟨n + 16, h⟩ d = (dats m 0 c).after 6 ⟨n + 16, h⟩ := by
  induction n with
  | zero =>
    intro h d
    have h' : 15 < cfg0.N := by omega
    have et : (⟨0 + 16 - 1, Nat.lt_of_le_of_lt (Nat.sub_le _ _) h⟩ : Fin cfg0.N) = ⟨15, h'⟩ := rfl
    have ef : decide ((15 < 15) ∨ 15 = 31) = false := by decide
    have ei : decide (16 ≤ 15) = false := by decide
    have ep : promptPoint ⟨15, h'⟩ = promptPoint ⟨0 + 16, h⟩ := rfl
    rw [(dats m 0 c).before_of_pos 6 ⟨0 + 16, h⟩ (by show 0 + 16 ≠ 0; omega) rfl d]
    simp only [et]
    rw [flush6]; simp only [ef]
    unfold Dat.left
    rw [idle6]; simp only [ei]
    refine Eq.trans (if_neg Bool.false_ne_true) ((kept6 m c ⟨15, h'⟩ d).trans ?_)
    rw [after0_6, after0_6, ep]
  | succ n ih =>
    intro h d
    have hN : cfg0.N = 32 := N_0
    have h' : n + 16 < cfg0.N := by omega
    have ef : decide ((n + 16 < 15) ∨ n + 16 = 31) = false := decide_eq_false (by omega)
    have ei : decide (16 ≤ n + 16) = true := decide_eq_true (by omega)
    have ep : promptPoint ⟨n + 16, h'⟩ = promptPoint ⟨n + 1 + 16, h⟩ := Fin.ext (by show min (n + 16) 15 = min (n + 1 + 16) 15; omega)
    have et : (⟨n + 1 + 16 - 1, Nat.lt_of_le_of_lt (Nat.sub_le _ _) h⟩ : Fin cfg0.N) = ⟨n + 16, h'⟩ := Fin.ext (by show n + 1 + 16 - 1 = n + 16; omega)
    rw [(dats m 0 c).before_of_pos 6 ⟨n + 1 + 16, h⟩ (by show n + 1 + 16 ≠ 0; omega) rfl d]
    simp only [et]
    rw [flush6]; simp only [ef]
    unfold Dat.left
    rw [idle6]; simp only [ei]
    refine Eq.trans (if_neg Bool.false_ne_true) ((ih h' d).trans ?_)
    rw [after0_6, after0_6, ep]

/-! ## The body at a point -/

/-- The staging buffers at point `t`. -/
abbrev heldAt (t : Fin cfg0.N) (y6 y7 : Vec F S256x2048 .f32) : sProp 𝕄 :=
  held c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (win0_6.stage (cfg0.slots t 6)) (win0_7.stage (cfg0.slots t 7))
    (X0_0 m c t) (X0_1 m c t) (iblk m c 2 t) (iblk m c 3 t) (iblk m c 4 t) (iblk m c 5 t) y6 y7

/-- The body at a prompt's point. -/
theorem run_prompt (t : Fin cfg0.N) (h : t.val < 16) (y6 y7 : Vec F S256x2048 .f32) (K : PUnit → sProp 𝕄) :
    iprop(heldAt m c t y6 y7 ∗ (heldAt m c t (rowsAt m c t) y7 -∗ K ⟨⟩))
      ⊢ wp frame (wpE (defs₀ (F := F)) Variants.none c none) Set.univ (bodyAt0 t) K := by
  unfold bodyAt0
  exact run_first c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    (X0_0 m c t) (X0_1 m c t) (iblk m c 2 t) (iblk m c 3 t) (iblk m c 4 t) (iblk m c 5 t)
    ((cond1_iff t).mpr h) (fun b => absurd ((cond2_iff t).mp b) (by omega)) y6 y7 Set.univ K

/-- The body at a sample's point. -/
theorem run_sample (t : Fin cfg0.N) (h : 16 ≤ t.val) (y6 y7 : Vec F S256x2048 .f32) (K : PUnit → sProp 𝕄) :
    iprop(heldAt m c t y6 y7 ∗ (heldAt m c t y6 (rowsAt m c t) -∗ K ⟨⟩))
      ⊢ wp frame (wpE (defs₀ (F := F)) Variants.none c none) Set.univ (bodyAt0 t) K := by
  unfold bodyAt0
  exact run_second c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) _ (hstage0_6 ((cfg0.slots t 6).cast nbuf0_6)) _ (hstage0_7 ((cfg0.slots t 7).cast nbuf0_7))
    (X0_0 m c t) (X0_1 m c t) (iblk m c 2 t) (iblk m c 3 t) (iblk m c 4 t) (iblk m c 5 t)
    (fun b => absurd ((cond1_iff t).mp b) (by omega)) ((cond2_iff t).mpr h) y6 y7 Set.univ K

/-- What the body is given at point `t`, window by window. -/
def given (t : Fin cfg0.N) : sProp 𝕄 :=
  iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it gives back. -/
def returned (t : Fin cfg0.N) : sProp 𝕄 :=
  iprop(Pipeline.ΦA spec0 c ∗ (dats m 0 c).owesAt () t.castSucc
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

theorem gives0 (t : Fin cfg0.N) : owns (c : Thread nD τ) (win0_0.stage (cfg0.slots t 0)) fullShare (X0_0 m c t) ⊢ ((dats m 0 c).leaves 0 t : sProp 𝕄) := by
  rw [← after0_0]; exact (dats m 0 c).leaves_intro 0 t
theorem gives1 (t : Fin cfg0.N) : owns (c : Thread nD τ) (win0_1.stage (cfg0.slots t 1)) fullShare (X0_1 m c t) ⊢ ((dats m 0 c).leaves 1 t : sProp 𝕄) := by
  rw [← after0_1]; exact (dats m 0 c).leaves_intro 1 t
theorem gives2 (t : Fin cfg0.N) : owns (c : Thread nD τ) (win0_2.stage (cfg0.slots t 2)) fullShare (iblk m c 2 t) ⊢ ((dats m 0 c).leaves 2 t : sProp 𝕄) := by
  rw [← after0_2]
theorem gives3 (t : Fin cfg0.N) : owns (c : Thread nD τ) (win0_3.stage (cfg0.slots t 3)) fullShare (iblk m c 3 t) ⊢ ((dats m 0 c).leaves 3 t : sProp 𝕄) := by
  rw [← after0_3]
theorem gives4 (t : Fin cfg0.N) : owns (c : Thread nD τ) (win0_4.stage (cfg0.slots t 4)) fullShare (iblk m c 4 t) ⊢ ((dats m 0 c).leaves 4 t : sProp 𝕄) := by
  rw [← after0_4]
theorem gives5 (t : Fin cfg0.N) : owns (c : Thread nD τ) (win0_5.stage (cfg0.slots t 5)) fullShare (iblk m c 5 t) ⊢ ((dats m 0 c).leaves 5 t : sProp 𝕄) := by
  rw [← after0_5]

/-- A prompt's point leaves its rows in the first result's buffer. -/
theorem gives6_prompt (t : Fin cfg0.N) (h : t.val < 16) :
    owns (c : Thread nD τ) (win0_6.stage (cfg0.slots t 6)) fullShare (rowsAt m c t) ⊢ ((dats m 0 c).leaves 6 t : sProp 𝕄) := by
  have e : promptPoint t = t := Fin.ext (by show min t.val 15 = t.val; omega)
  have e' : (dats m 0 c).after 6 t = rowsAt m c t := (after0_6 m c t).trans (by rw [e])
  refine BIBase.Entails.trans ?_ ((dats m 0 c).leaves_intro 6 t)
  unfold Dat.leavesExact
  rw [idle6, decide_eq_false (by omega), e']

/-- A sample's point leaves what it found there. -/
theorem gives6_sample (t : Fin cfg0.N) (h : 16 ≤ t.val) (d) :
    owns (c : Thread nD τ) (win0_6.stage (cfg0.slots t 6)) fullShare ((dats m 0 c).before 6 t d) ⊢ ((dats m 0 c).leaves 6 t : sProp 𝕄) := by
  refine BIBase.Entails.trans ?_ ((dats m 0 c).leaves_intro 6 t)
  by_cases h' : t.val = 31
  · have e : (dats m 0 c).before 6 t d = (dats m 0 c).after 6 t := by
      have := before0_6 m c (t.val - 16) (by have := t.isLt; omega) d
      have et : (⟨t.val - 16 + 16, by have := t.isLt; omega⟩ : Fin cfg0.N) = t := Fin.ext (by show t.val - 16 + 16 = t.val; omega)
      rwa [et] at this
    unfold Dat.leavesExact
    rw [idle6, decide_eq_true h, flush6, decide_eq_true (.inr h'), e]
  · rw [(dats m 0 c).leavesExact_idle 6 t ((idle6 t).trans (decide_eq_true h)) ((flush6 t).trans (decide_eq_false (by omega)))]
    iintro H
    iexists d
    iexact H

/-- A prompt's point leaves what it found in the second result's buffer. -/
theorem gives7_prompt (t : Fin cfg0.N) (h : t.val < 16) (d) :
    owns (c : Thread nD τ) (win0_7.stage (cfg0.slots t 7)) fullShare ((dats m 0 c).before 7 t d) ⊢ ((dats m 0 c).leaves 7 t : sProp 𝕄) := by
  refine BIBase.Entails.trans ?_ ((dats m 0 c).leaves_intro 7 t)
  rw [(dats m 0 c).leavesExact_idle 7 t ((idle7 t).trans (decide_eq_true h)) ((flush7 t).trans (decide_eq_false (by omega)))]
  iintro H
  iexists d
  iexact H

/-- A sample's point leaves its rows there. -/
theorem gives7_sample (t : Fin cfg0.N) (h : 16 ≤ t.val) :
    owns (c : Thread nD τ) (win0_7.stage (cfg0.slots t 7)) fullShare (rowsAt m c t) ⊢ ((dats m 0 c).leaves 7 t : sProp 𝕄) := by
  refine BIBase.Entails.trans ?_ ((dats m 0 c).leaves_intro 7 t)
  unfold Dat.leavesExact
  rw [idle7, decide_eq_false (by omega), after0_7]

set_option maxHeartbeats 4000000 in
theorem body_at (t : Fin cfg0.N) :
    given m c t ⊢ wp frame (wpE (defs₀ (F := F)) Variants.none c none) Set.univ (bodyAt0 t) (fun _ => returned m c t) := by
  unfold given returned
  simp only [before0_0, before0_1, before0_2, before0_3, before0_4, before0_5]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val < 16
  · iapply (run_prompt m c t h _ _ _)
    unfold heldAt held
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro ⟨H0, H1, H2, H3, H4, H5, H6, H7⟩
    isplitl [HI]; · iexact HI
    isplitl [Ho]; · iexact Ho
    isplitl [H0]; · iapply (gives0 m c t); iexact H0
    isplitl [H1]; · iapply (gives1 m c t); iexact H1
    isplitl [H2]; · iapply (gives2 m c t); iexact H2
    isplitl [H3]; · iapply (gives3 m c t); iexact H3
    isplitl [H4]; · iapply (gives4 m c t); iexact H4
    isplitl [H5]; · iapply (gives5 m c t); iexact H5
    isplitl [H6]; · iapply (gives6_prompt m c t h); iexact H6
    iapply (gives7_prompt m c t h d7); iexact H7
  · have h' : 16 ≤ t.val := Nat.le_of_not_lt h
    iapply (run_sample m c t h' _ _ _)
    unfold heldAt held
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro ⟨H0, H1, H2, H3, H4, H5, H6, H7⟩
    isplitl [HI]; · iexact HI
    isplitl [Ho]; · iexact Ho
    isplitl [H0]; · iapply (gives0 m c t); iexact H0
    isplitl [H1]; · iapply (gives1 m c t); iexact H1
    isplitl [H2]; · iapply (gives2 m c t); iexact H2
    isplitl [H3]; · iapply (gives3 m c t); iexact H3
    isplitl [H4]; · iapply (gives4 m c t); iexact H4
    isplitl [H5]; · iapply (gives5 m c t); iexact H5
    isplitl [H6]; · iapply (gives6_sample m c t h' d6); iexact H6
    iapply (gives7_sample m c t h'); iexact H7

theorem body_row (t : Fin cfg0.N) : defs₀ (F := F) .tc cfg0.body (cfg0.bodyArgs t (cfg0.slots t)) = bodyAt0 t := by
  unfold defs₀; rw [Defs.onTc_tc]

theorem body_ok : BodyObligationLoose (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The launch: every array at what the library computes from the proof data, and no semaphore left raised. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_ok m c) (hshare := fun c => (dats m 0 c).share_full fun _ => rfl)
    (howed := fun _ _ => rfl) (V := V m) (hmain := hmain m Variants.none) (hA := A_eq m) (hin := fun _ => Entails.refl _) (hout := fun _ => Entails.refl _)

theorem run_main : θ_run defs (onTc (τ := τ) (main (F := F))) (s₀ m ρ) (Pipeline.FramePost cfgs (dats m) 0 (V m)) :=
  (θ_run defs _ _).mono (fun _ h => h.1) (run_all m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨h.1, h.2.2⟩) (θ_run_and (unchanged m ρ) (run_all m ρ))

end Cert.LastIdeal.Hand

end
-- ==== Proof.LastSpec.lean ====
/-
  The mathematics of the last layer's down projection: the residual sum and its layer norm, an entry at a time.
-/
module

public import proofs.«01_k».proof.Proof.LayerNorm

@[expose] public section

noncomputable section

namespace Cert.Spec

open Idealize.ShloMosaic

/-- The last layer's residual sum before the norm, at row `r` and column `k`. -/
def lastResid (a : FVec Ideal ⟨2, ![8192, 5632]⟩ .bf16) (w : FVec Ideal ⟨2, ![5632, 2048]⟩ .bf16)
    (x : FVec Ideal ⟨2, ![8192, 2048]⟩ .f32) (md : FVec Ideal ⟨3, ![2, 8, 12288]⟩ .f32) (r : Fin 8192) (k : Fin 2048) : EReal :=
  Ideal.ofBits .f32 0x3FB504F3#32 * x (ix2 r k)
    + md (ix3 1 (group r) ⟨10240 + k.val, by omega⟩) * ∑ l : Fin 5504, a (ix2 r ⟨l.val, by omega⟩) * w (ix2 ⟨l.val, by omega⟩ k)

/-- The model's output rows. -/
def lastX (a : FVec Ideal ⟨2, ![8192, 5632]⟩ .bf16) (w : FVec Ideal ⟨2, ![5632, 2048]⟩ .bf16)
    (x : FVec Ideal ⟨2, ![8192, 2048]⟩ .f32) (md : FVec Ideal ⟨3, ![2, 8, 12288]⟩ .f32) (g b : FVec Ideal ⟨2, ![2, 2048]⟩ .f32)
    (r : Fin 8192) (k : Fin 2048) : EReal :=
  layerNorm (lastResid a w x md r) (g (ix2 1 k)) (b (ix2 1 k)) k

end Cert.Spec

end
-- ==== Proof.LastKernel.lean ====
/-
  What the kernel of the last layer's down projection leaves in its two results, read at an index.
-/
module

public import proofs.«01_k».proof.Proof.LastIdealFrame
public import proofs.«01_k».proof.Proof.LastSpec

@[expose] public section

set_option maxRecDepth 16384

noncomputable section

open Idealize.ShloMosaic Idealize.ShloMosaic.TcCoe Idealize.SL.Sem
open Idealize.ShloMosaic.Pipeline (Dat)

namespace Cert.Proof.LastKernel

open Cert.LastIdeal Cert.LastIdeal.Gen Cert.LastIdeal.Hand Cert.Spec

/-- The stored norm, at an index: the layer norm of the row. -/
theorem pay1_at (v : FVec Ideal S256x2048 .f32) (g b : FVec Ideal S1x1x2048 .f32) (r : Fin 256) (k : Fin 2048) :
    k0_pay1 (F := Ideal) v g b (ix2 r k) = layerNorm (fun l => v (ix2 r l)) (g (ix3 0 0 k)) (b (ix3 0 0 k)) k := by
  pointwise [k0_pay1, layerNorm, mean]

/-- The residual sum before the norm, at an index. -/
theorem pay2_at (x : FVec Ideal S256x2048 .f32) (m : FVec Ideal S1x1x2048 .f32) (a : FVec Ideal S256x5504 .bf16)
    (w : FVec Ideal S5504x2048 .bf16) (r : Fin 256) (k : Fin 2048) :
    k0_pay2 (F := Ideal) x m a w (ix2 r k)
      = Ideal.ofBits .f32 0x3FB504F3#32 * x (ix2 r k) + m (ix3 0 0 k) * ∑ l : Fin 5504, a (ix2 r l) * w (ix2 l k) := by
  pointwise [k0_pay2]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![1, 0, 5] ∧ win0_4.index t = ![1, 0, 0] ∧ win0_5.index t = ![1, 0, 0]
    ∧ win0_6.index t = ![min t.val 15, 0] ∧ win0_7.index t = ![t.val - 16, 0] :=
  (by decide +kernel : ∀ t : Fin grid0.N, _)

theorem off1 (t : Fin cfg0.N) : k0_off1 (grid0.coords t) 1 = if t.val < 16 then 0 else if t.val < 24 then 1 else 2 :=
  (by decide +kernel : ∀ t : Fin grid0.N, k0_off1 (grid0.coords t) 1 = if t.val < 16 then 0 else if t.val < 24 then 1 else 2) t
theorem off2 (t : Fin cfg0.N) : k0_off1 (grid0.coords t) 2 = 0 :=
  (by decide +kernel : ∀ t : Fin grid0.N, k0_off1 (grid0.coords t) 2 = 0) t

theorem grp (t : Fin cfg0.N) (y : Fin 256) (r : Fin 8192) (h : r.val = t.val * 256 + y.val) :
    (group r).val = if t.val < 16 then 0 else if t.val < 24 then 1 else 2 := by
  unfold group
  split_ifs <;> first | rfl | omega

variable (c : Dev nD) (t : Fin cfg0.N)

theorem in0 (y : S256x5504.Idx) (r : Fin 8192) (l : Fin 5632) (hr : r.val = t.val * 256 + (y 0).val) (hl : l.val = (y 1).val) :
    X0_0 m c t y = m ((c : Thread nD τ).loc main_arg0) (ix2 r l) := by
  unfold X0_0 Pipeline.Window.fill
  rw [dif_pos (moved0_0 t y)]
  blk_ext [iblk, V, idx t]
theorem in1 (y : S5504x2048.Idx) (r : Fin 5632) (l : Fin 2048) (hr : r.val = (y 0).val) (hl : l.val = (y 1).val) :
    X0_1 m c t y = m ((c : Thread nD τ).loc main_arg1) (ix2 r l) := by
  unfold X0_1 Pipeline.Window.fill
  rw [dif_pos (moved0_1 t y)]
  blk_ext [iblk, V, idx t]
theorem in2 (y : S256x2048.Idx) (r : Fin 8192) (l : Fin 2048) (hr : r.val = t.val * 256 + (y 0).val) (hl : l.val = (y 1).val) :
    iblk m c 2 t y = m ((c : Thread nD τ).loc main_arg2) (ix2 r l) := by
  blk_ext [iblk, V, idx t]
theorem in3 (y : S1x8x2048.Idx) (r : Fin 8) (l : Fin 12288) (hr : r.val = (y 1).val) (hl : l.val = 10240 + (y 2).val) :
    iblk m c 3 t y = m ((c : Thread nD τ).loc main_arg3) (ix3 1 r l) := by
  blk_ext [iblk, V, idx t]
theorem in4 (k : Fin 2048) : iblk m c 4 t (ix3 0 0 k) = m ((c : Thread nD τ).loc main_arg4) (ix2 1 k) := by
  blk_simp [iblk, idx t]
  entry_read
  pointwise
  blk_ext [iblk, V, idx t]
theorem in5 (k : Fin 2048) : iblk m c 5 t (ix3 0 0 k) = m ((c : Thread nD τ).loc main_arg5) (ix2 1 k) := by
  blk_simp [iblk, idx t]
  entry_read
  pointwise
  blk_ext [iblk, V, idx t]

/-- The gate row a point reads is the row of its group. -/
theorem gate_at (k : Fin 2048) (r : Fin 8192) (hg : (group r).val = if t.val < 16 then 0 else if t.val < 24 then 1 else 2) :
    gateRow (F := Ideal) (grid0.coords t) (iblk m c 3 t) (ix3 0 0 k) = m ((c : Thread nD τ).loc main_arg3) (ix3 1 (group r) ⟨10240 + k.val, by omega⟩) := by
  unfold gateRow
  refine in3 m c t _ _ _ ?_ ?_
  · exact hg.trans (off1 t).symm
  · show _ = _ + (k0_off1 (grid0.coords t) 2 + 1 * _); rw [off2 t, Nat.zero_add, Nat.one_mul]; rfl

/-- The rows that a point computes. -/
theorem rows_at (y : S256x2048.Idx) (r : Fin 8192) (hr : r.val = t.val * 256 + (y 0).val) : (rowsAt (F := Ideal) m c t y : EReal) =
    lastX (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) r (y 1) := by
  idx_vars y
  have hg := grp t y0 r hr
  unfold rowsAt rows lastX
  refine (pay1_at _ _ _ _ _).trans (layerNorm_congr _ (fun l => ?_) (in4 m c t y1) (in5 m c t y1))
  unfold lastResid
  exact (pay2_at _ _ _ _ _ _).trans (Ideal.add_congr (Ideal.mul_congr rfl (in2 m c t _ r l hr rfl)) (Ideal.mul_congr (gate_at m c t l r hg)
    (Finset.sum_congr rfl fun k _ => Ideal.mul_congr (in0 m c t _ _ _ hr rfl) (in1 m c t _ _ _ rfl rfl))))

/-- The first result array after the run: the prompt's rows. -/
theorem final6 : (dats m 0 c).arrAt 6 cfg0.N = fun i => lastX (m ((c : Thread nD τ).loc main_arg0)) (m ((c : Thread nD τ).loc main_arg1))
     (m ((c : Thread nD τ).loc main_arg2)) (m ((c : Thread nD τ).loc main_arg3)) (m ((c : Thread nD τ).loc main_arg4)) (m ((c : Thread nD τ).loc main_arg5))
     ⟨(i 0).val, Nat.lt_trans (i 0).isLt (show 4096 < 8192 by decide)⟩ (i 1) := by
  refine (dats m 0 c).arrAt_eq_of_covers 6 _ (by decide +kernel) fun t _ y => ?_
  blk_simp
  refine (congrFun (after0_6 m c t) _).trans ((rows_at m c (promptPoint t) y _ ?_).trans (congrArg _ (Fin.ext ?_))) <;> blk_simp [idx t, promptPoint] <;> try omega

/-- The second result array after the run: the sample's rows. -/
theorem final7 : (dats m 0 c).arrAt 7 cfg0.N = fun i => lastX (m ((c : Thread nD τ).loc main_arg0)) (m ((c : Thread nD τ).loc main_arg1))
     (m ((c : Thread nD τ).loc main_arg2)) (m ((c : Thread nD τ).loc main_arg3)) (m ((c : Thread nD τ).loc main_arg4)) (m ((c : Thread nD τ).loc main_arg5))
     ⟨4096 + (i 0).val, Nat.add_lt_add_left (i 0).isLt 4096⟩ (i 1) := by
  refine (dats m 0 c).arrAt_eq_of_covers 7 _ (by decide +kernel) fun t hf y => ?_
  have ht : 16 ≤ t.val := of_decide_eq_true ((flush7 t).symm.trans hf)
  blk_simp
  refine (congrFun (after0_7 m c t) _).trans ((rows_at m c t y _ ?_).trans (congrArg _ (Fin.ext ?_))) <;> blk_simp [idx t]
  show 4096 + ((t.val - 16) * 256 + _) = _
  omega

/-- After the run: the two results as the pipeline computes them, the arguments unchanged. -/
theorem run_blocks (ρ) : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 6, (h.1 c).1 7, h.2 c⟩) (θ_run_and (run_main m ρ) (unchanged m ρ))

end Cert.Proof.LastKernel

end
-- ==== Proof.LastRef.lean ====
/-
  The reference of the last layer's down projection, read at an index.
-/
module

public import proofs.«01_k».proof.Proof.Gen.LastRefIdeal.Read
public import proofs.«01_k».proof.Proof.LastSpec

@[expose] public section

set_option maxRecDepth 16384

noncomputable section

open Idealize.ShloMosaic Idealize.ShloMosaic.TcCoe Idealize.SL.Sem

namespace Cert.Proof.LastRef

open Cert.LastRefIdeal Cert.LastRefIdeal.Gen Cert.LastRefIdeal.Read Cert.Spec

variable (a : FVec Ideal S8192x5632 .bf16) (w : FVec Ideal S5632x2048 .bf16) (x : FVec Ideal S8192x2048 .f32)
  (md : FVec Ideal S2x8x12288 .f32) (g b : FVec Ideal S2x2048 .f32)

/-- The reference's residual sum before the norm. -/
theorem resid_at (r : Fin 8192) (k : Fin 2048) : val_main_v19 (F := Ideal) a w x md (ix2 r k) = lastResid a w x md r k := by
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, lastResid]
  exact Ideal.add_congr rfl (Ideal.mul_congr (group_row md 1 r ⟨10240 + k.val, by omega⟩ (by omega)) rfl)

/-- The reference's rows before they are parted. -/
theorem x_at (r : Fin 8192) (k : Fin 2048) : val_main_v47 (F := Ideal) a w x md g b (ix2 r k) = lastX a w x md g b r k := by
  unfold lastX
  rw [← layerNorm_congr k (fun l => resid_at a w x md r l) rfl rfl]
  pointwise [val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27, val_main_v26, val_main_v25,
    val_main_v24, val_main_v23, val_main_v22, val_main_v21, val_main_v20, val_main_cst_0, val_main_cst_1, val_main_cst_2, val_main_cst_3, val_main_cst_4, layerNorm, mean]

/-- The reference's first result: the prompt's rows. -/
theorem prompt_at (r : Fin 4096) (k : Fin 2048) :
    val_main_v48 (F := Ideal) a w x md g b (ix2 r k) = lastX a w x md g b ⟨r.val, Nat.lt_trans r.isLt (show 4096 < 8192 by decide)⟩ k := by
  rw [← x_at]
  pointwise [val_main_v48]

/-- The reference's second result: the sample's rows. -/
theorem sample_at (r : Fin 4096) (k : Fin 2048) :
    val_main_v49 (F := Ideal) a w x md g b (ix2 r k) = lastX a w x md g b ⟨4096 + r.val, Nat.add_lt_add_left r.isLt 4096⟩ k := by
  rw [← x_at]
  pointwise [val_main_v49]

end Cert.Proof.LastRef

end
-- ==== Proof.LastClaim.lean ====
/-
  The claims of the last layer's down projection from its two runs.
-/
module

public import proofs.«01_k».proof.Defs
public import proofs.«01_k».proof.Proof.Gen.LastIdeal
public import proofs.«01_k».proof.Proof.Gen.LastRefIdeal
public import proofs.«01_k».proof.Proof.LastKernel
public import proofs.«01_k».proof.Proof.LastRef
public import Idealize.ShloMosaic.Lib.Quiescent

@[expose] public section

noncomputable section

namespace Cert.Proof

open Idealize.ShloMosaic Idealize.SL.Sem

/-- The reference runs on the host, leaves its arguments unchanged and declares no semaphore. -/
theorem frame_last_ref : Cert.quiescent_LastRefIdeal := fun m ρ _ =>
  (θ_run Cert.LastRefIdeal.defs _ _).mono (fun r h => ⟨fun c => (h c).2.2, sem_eq_zero_of_no_sems (by decide) r.2⟩)
    (Cert.LastRefIdeal.Value.run (F := Ideal) m ρ)

/-- The kernel and the reference compute the same prompt rows and the same sample rows. -/
theorem last_down : Cert.algebraic_LastIdeal_LastRefIdeal := fun m ρ m' ρ' _ hag =>
  ⟨fun c => fun i => Spec.lastX (m ((c.tc : Thread _ _).loc Cert.LastIdeal.main_arg0)) (m ((c.tc : Thread _ _).loc Cert.LastIdeal.main_arg1))
      (m ((c.tc : Thread _ _).loc Cert.LastIdeal.main_arg2)) (m ((c.tc : Thread _ _).loc Cert.LastIdeal.main_arg3))
      (m ((c.tc : Thread _ _).loc Cert.LastIdeal.main_arg4)) (m ((c.tc : Thread _ _).loc Cert.LastIdeal.main_arg5)) ⟨(i 0).val, Nat.lt_trans (i 0).isLt (show 4096 < 8192 by decide)⟩ (i 1),
    fun c => fun i => Spec.lastX (m ((c.tc : Thread _ _).loc Cert.LastIdeal.main_arg0)) (m ((c.tc : Thread _ _).loc Cert.LastIdeal.main_arg1))
      (m ((c.tc : Thread _ _).loc Cert.LastIdeal.main_arg2)) (m ((c.tc : Thread _ _).loc Cert.LastIdeal.main_arg3))
      (m ((c.tc : Thread _ _).loc Cert.LastIdeal.main_arg4)) (m ((c.tc : Thread _ _).loc Cert.LastIdeal.main_arg5)) ⟨4096 + (i 0).val, Nat.add_lt_add_left (i 0).isLt 4096⟩ (i 1),
    (θ_run _ _ _).mono (fun _ h c => ⟨(h c).1.trans (LastKernel.final6 m c), (h c).2.1.trans (LastKernel.final7 m c), (h c).2.2⟩)
      (LastKernel.run_blocks m ρ),
    (θ_run _ _ _).mono (fun _ h c => by
      obtain ⟨h0, h1, h2, h3, h4, h5⟩ := hag c
      refine ⟨(h c).1.trans ?_, (h c).2.1.trans ?_, (h c).2.2⟩
      · rw [Cert.LastRefIdeal.Read.val_main_v48_eq, h0, h1, h2, h3, h4, h5]
        funext i
        rw [eq_ix2 i]
        exact LastRef.prompt_at _ _ _ _ _ _ _ _
      · rw [Cert.LastRefIdeal.Read.val_main_v49_eq, h0, h1, h2, h3, h4, h5]
        funext i
        rw [eq_ix2 i]
        exact LastRef.sample_at _ _ _ _ _ _ _ _)
      (Cert.LastRefIdeal.Value.run m' ρ')⟩

end Cert.Proof

end
-- ==== Proof.OutSpec.lean ====
/-
  The mathematics of the out projection: the mixers' rows against the weight, the residual sum, its layer norm, and the modulated norm.
-/
module

public import proofs.«01_k».proof.Proof.LayerNorm

@[expose] public section

noncomputable section

namespace Cert.Spec

open Idealize.ShloMosaic

/-- The three mixers' rows, set side by side, against the weight. -/
def outY (ya : FVec Ideal ⟨2, ![8192, 768]⟩ .bf16) (yb yc : FVec Ideal ⟨2, ![8192, 640]⟩ .bf16) (w : FVec Ideal ⟨2, ![2048, 2048]⟩ .bf16)
    (r : Fin 8192) (k : Fin 2048) : EReal :=
  ((∑ l : Fin 768, ya (ix2 r l) * w (ix2 ⟨l.val, by omega⟩ k)) + ∑ l : Fin 640, yb (ix2 r l) * w (ix2 ⟨768 + l.val, by omega⟩ k))
    + ∑ l : Fin 640, yc (ix2 r l) * w (ix2 ⟨1408 + l.val, by omega⟩ k)

variable (ya : FVec Ideal ⟨2, ![8192, 768]⟩ .bf16) (yb yc : FVec Ideal ⟨2, ![8192, 640]⟩ .bf16) (w : FVec Ideal ⟨2, ![2048, 2048]⟩ .bf16)
  (x : FVec Ideal ⟨2, ![8192, 2048]⟩ .f32) (md : FVec Ideal ⟨3, ![2, 8, 12288]⟩ .f32) (g b : FVec Ideal ⟨2, ![2, 2048]⟩ .f32)

/-- The residual sum before the norm, at row `r` and column `k`. -/
def outResid (r : Fin 8192) (k : Fin 2048) : EReal :=
  Ideal.ofBits .f32 0x3FB504F3#32 * x (ix2 r k) + md (ix3 0 (group r) ⟨4096 + k.val, by omega⟩) * outY ya yb yc w r k

/-- The new residual stream. -/
def outX (r : Fin 8192) (k : Fin 2048) : EReal :=
  layerNorm (outResid ya yb yc w x md r) (g (ix2 0 k)) (b (ix2 0 k)) k

/-- The modulated stream that the feed-forward reads. -/
def outH (r : Fin 8192) (k : Fin 2048) : EReal :=
  outX ya yb yc w x md g b r k * (1 + md (ix3 0 (group r) ⟨8192 + k.val, by omega⟩)) + md (ix3 0 (group r) ⟨6144 + k.val, by omega⟩)

end Cert.Spec

end
-- ==== Proof.OutKernel.lean ====
/-
  What the kernel of the out projection leaves in its two results, read at an index.
-/
module

public import proofs.«01_k».proof.Proof.Gen.OutIdeal.Value
public import proofs.«01_k».proof.Proof.OutSpec

@[expose] public section

set_option maxRecDepth 16384

noncomputable section

open Idealize.ShloMosaic Idealize.ShloMosaic.TcCoe Idealize.SL.Sem
open Idealize.ShloMosaic.Pipeline (Dat)

namespace Cert.Proof.OutKernel

open Cert.OutIdeal Cert.OutIdeal.Gen Cert.Spec

section halves

variable (ya : FVec Ideal S256x768 .bf16) (wa : FVec Ideal S768x2048 .bf16) (yb : FVec Ideal S256x640 .bf16) (wb : FVec Ideal S640x2048 .bf16)
  (yc : FVec Ideal S256x640 .bf16) (wc : FVec Ideal S640x2048 .bf16) (x : FVec Ideal S256x2048 .f32) (m g b s h : FVec Ideal S1x1x2048 .f32)
  (r : Fin 256) (k : Fin 2048)

/-- The residual sum of half a block, from the pieces that the body loads. -/
def halfResid : EReal :=
  Ideal.ofBits .f32 0x3FB504F3#32 * x (ix2 r k) + m (ix3 0 0 k) * (((∑ l : Fin 768, ya (ix2 r l) * wa (ix2 l k)) + ∑ l : Fin 640, yb (ix2 r l) * wb (ix2 l k))
    + ∑ l : Fin 640, yc (ix2 r l) * wc (ix2 l k))

/-- The first half's stored norm. -/
theorem first_x : k0_pay8 (F := Ideal) (k0_pay4 g) (k0_pay5 b) (k0_pay6 (k0_pay1 ya wa yb wb) (k0_pay2 yc wc) x m)
      (k0_pay7 (k0_pay1 ya wa yb wb) (k0_pay2 yc wc) x m) (ix2 r k)
    = layerNorm (halfResid ya wa yb wb yc wc x m r) (g (ix3 0 0 k)) (b (ix3 0 0 k)) k := by
  pointwise [k0_pay8, k0_pay4, k0_pay5, k0_pay6, k0_pay7, k0_pay1, k0_pay2, layerNorm, mean, halfResid]

/-- The first half's stored modulated norm. -/
theorem first_h : k0_pay9 (F := Ideal) (k0_pay4 g) (k0_pay5 b) (k0_pay6 (k0_pay1 ya wa yb wb) (k0_pay2 yc wc) x m)
      (k0_pay7 (k0_pay1 ya wa yb wb) (k0_pay2 yc wc) x m) s h (ix2 r k)
    = layerNorm (halfResid ya wa yb wb yc wc x m r) (g (ix3 0 0 k)) (b (ix3 0 0 k)) k * (1 + s (ix3 0 0 k)) + h (ix3 0 0 k) := by
  rw [← first_x]
  pointwise [k0_pay9]

/-- The second half's residual sum. -/
theorem second_z : k0_pay10 (F := Ideal) (k0_pay3 ya wa yb wb yc wc) x m (ix2 r k) = halfResid ya wa yb wb yc wc x m r k := by
  pointwise [k0_pay10, k0_pay3, halfResid]

end halves

/-- The second half's stored norm. -/
theorem second_x (z : FVec Ideal S256x2048 .f32) (g b : FVec Ideal S1x1x2048 .f32) (r : Fin 256) (k : Fin 2048) :
    k0_pay11 (F := Ideal) z g b (ix2 r k) = layerNorm (fun l => z (ix2 r l)) (g (ix3 0 0 k)) (b (ix3 0 0 k)) k := by
  pointwise [k0_pay11, layerNorm, mean]

/-- The second half's stored modulated norm. -/
theorem second_h (z : FVec Ideal S256x2048 .f32) (g b s h : FVec Ideal S1x1x2048 .f32) (r : Fin 256) (k : Fin 2048) :
    k0_pay12 (F := Ideal) z g b s h (ix2 r k)
      = layerNorm (fun l => z (ix2 r l)) (g (ix3 0 0 k)) (b (ix3 0 0 k)) k * (1 + s (ix3 0 0 k)) + h (ix3 0 0 k) := by
  rw [← second_x]
  pointwise [k0_pay12]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0]
    ∧ win0_5.index t = ![0, 0, 2] ∧ win0_6.index t = ![0, 0, 3] ∧ win0_7.index t = ![0, 0, 4] ∧ win0_8.index t = ![0, 0, 0] ∧ win0_9.index t = ![0, 0, 0]
    ∧ win0_10.index t = ![t.val, 0] ∧ win0_11.index t = ![t.val, 0] :=
  (by decide +kernel : ∀ t : Fin grid0.N, _)

theorem off1 (t : Fin cfg0.N) : k0_off1 (grid0.coords t) 1 = if t.val < 8 then 0 else if t.val < 12 then 1 else 2 :=
  (by decide +kernel : ∀ t : Fin grid0.N, k0_off1 (grid0.coords t) 1 = if t.val < 8 then 0 else if t.val < 12 then 1 else 2) t
theorem off2 (t : Fin cfg0.N) : k0_off1 (grid0.coords t) 2 = 0 :=
  (by decide +kernel : ∀ t : Fin grid0.N, k0_off1 (grid0.coords t) 2 = 0) t

theorem grp (t : Fin cfg0.N) (y : Fin 512) (r : Fin 8192) (h : r.val = t.val * 512 + y.val) :
    (group r).val = if t.val < 8 then 0 else if t.val < 12 then 1 else 2 := by
  unfold group
  split_ifs <;> first | rfl | omega

variable (c : Dev nD) (t : Fin cfg0.N)

theorem in0 (y : S512x768.Idx) (r : Fin 8192) (l : Fin 768) (hr : r.val = t.val * 512 + (y 0).val) (hl : l.val = (y 1).val) :
    iblk m c 0 t y = m ((c : Thread nD τ).loc main_arg0) (ix2 r l) := by
  blk_ext [iblk, V, idx t]
theorem in1 (y : S512x640.Idx) (r : Fin 8192) (l : Fin 640) (hr : r.val = t.val * 512 + (y 0).val) (hl : l.val = (y 1).val) :
    iblk m c 1 t y = m ((c : Thread nD τ).loc main_arg1) (ix2 r l) := by
  blk_ext [iblk, V, idx t]
theorem in2 (y : S512x640.Idx) (r : Fin 8192) (l : Fin 640) (hr : r.val = t.val * 512 + (y 0).val) (hl : l.val = (y 1).val) :
    iblk m c 2 t y = m ((c : Thread nD τ).loc main_arg2) (ix2 r l) := by
  blk_ext [iblk, V, idx t]
theorem in3 (y : S2048x2048.Idx) (r : Fin 2048) (l : Fin 2048) (hr : r.val = (y 0).val) (hl : l.val = (y 1).val) :
    iblk m c 3 t y = m ((c : Thread nD τ).loc main_arg3) (ix2 r l) := by
  blk_ext [iblk, V, idx t]
theorem in4 (y : S512x2048.Idx) (r : Fin 8192) (l : Fin 2048) (hr : r.val = t.val * 512 + (y 0).val) (hl : l.val = (y 1).val) :
    iblk m c 4 t y = m ((c : Thread nD τ).loc main_arg4) (ix2 r l) := by
  blk_ext [iblk, V, idx t]
theorem in5 (y : S1x8x2048.Idx) (r : Fin 8) (l : Fin 12288) (hr : r.val = (y 1).val) (hl : l.val = 4096 + (y 2).val) :
    iblk m c 5 t y = m ((c : Thread nD τ).loc main_arg5) (ix3 0 r l) := by
  blk_ext [iblk, V, idx t]
theorem in6 (y : S1x8x2048.Idx) (r : Fin 8) (l : Fin 12288) (hr : r.val = (y 1).val) (hl : l.val = 6144 + (y 2).val) :
    iblk m c 6 t y = m ((c : Thread nD τ).loc main_arg5) (ix3 0 r l) := by
  blk_ext [iblk, V, idx t]
theorem in7 (y : S1x8x2048.Idx) (r : Fin 8) (l : Fin 12288) (hr : r.val = (y 1).val) (hl : l.val = 8192 + (y 2).val) :
    iblk m c 7 t y = m ((c : Thread nD τ).loc main_arg5) (ix3 0 r l) := by
  blk_ext [iblk, V, idx t]
theorem in8 (k : Fin 2048) : iblk m c 8 t (ix3 0 0 k) = m ((c : Thread nD τ).loc main_arg6) (ix2 0 k) := by
  blk_simp [iblk, idx t]
  entry_read
  pointwise
  blk_ext [iblk, V, idx t]
theorem in9 (k : Fin 2048) : iblk m c 9 t (ix3 0 0 k) = m ((c : Thread nD τ).loc main_arg7) (ix2 0 k) := by
  blk_simp [iblk, idx t]
  entry_read
  pointwise
  blk_ext [iblk, V, idx t]

/-- A gate row that a point reads is the row of its group. -/
theorem gate5 (k : Fin 2048) (r : Fin 8192) (hg : (group r).val = if t.val < 8 then 0 else if t.val < 12 then 1 else 2) :
    View.ld (iblk m c 5 t) (Rect.unit (s := S1x8x2048) (k0_off1 (grid0.coords t)) S1x1x2048.size (k0_off1_inb (grid0.coords t))) (ix3 0 0 k)
      = m ((c : Thread nD τ).loc main_arg5) (ix3 0 (group r) ⟨4096 + k.val, by omega⟩) := by
  refine in5 m c t _ _ _ (hg.trans (off1 t).symm) ?_
  show _ = _ + (k0_off1 (grid0.coords t) 2 + 1 * _); rw [off2 t, Nat.zero_add, Nat.one_mul]; rfl
theorem gate6 (k : Fin 2048) (r : Fin 8192) (hg : (group r).val = if t.val < 8 then 0 else if t.val < 12 then 1 else 2) :
    View.ld (iblk m c 6 t) (Rect.unit (s := S1x8x2048) (k0_off1 (grid0.coords t)) S1x1x2048.size (k0_off1_inb (grid0.coords t))) (ix3 0 0 k)
      = m ((c : Thread nD τ).loc main_arg5) (ix3 0 (group r) ⟨6144 + k.val, by omega⟩) := by
  refine in6 m c t _ _ _ (hg.trans (off1 t).symm) ?_
  show _ = _ + (k0_off1 (grid0.coords t) 2 + 1 * _); rw [off2 t, Nat.zero_add, Nat.one_mul]; rfl
theorem gate7 (k : Fin 2048) (r : Fin 8192) (hg : (group r).val = if t.val < 8 then 0 else if t.val < 12 then 1 else 2) :
    View.ld (iblk m c 7 t) (Rect.unit (s := S1x8x2048) (k0_off1 (grid0.coords t)) S1x1x2048.size (k0_off1_inb (grid0.coords t))) (ix3 0 0 k)
      = m ((c : Thread nD τ).loc main_arg5) (ix3 0 (group r) ⟨8192 + k.val, by omega⟩) := by
  refine in7 m c t _ _ _ (hg.trans (off1 t).symm) ?_
  show _ = _ + (k0_off1 (grid0.coords t) 2 + 1 * _); rw [off2 t, Nat.zero_add, Nat.one_mul]; rfl

/-- The residual sum from the pieces that a half loads; the half starts at row `o` of its block. -/
theorem half_resid (o : ℕ) (ia : ∀ a, (![o, 0] : Fin 2 → ℕ) a + S256x768.size a ≤ S512x768.size a) (ib : ∀ a, (![o, 0] : Fin 2 → ℕ) a + S256x640.size a ≤ S512x640.size a)
    (ix : ∀ a, (![o, 0] : Fin 2 → ℕ) a + S256x2048.size a ≤ S512x2048.size a) (a : Fin 256) (r : Fin 8192) (hr : r.val = t.val * 512 + (o + a.val))
    (hg : (group r).val = if t.val < 8 then 0 else if t.val < 12 then 1 else 2) (k : Fin 2048) :
    halfResid (View.ld (iblk m c 0 t) (Rect.unit (s := S512x768) ![o, 0] S256x768.size ia))
      (View.ld (iblk m c 3 t) (Rect.unit (s := S2048x2048) ![0, 0] S768x2048.size inb_S2048x2048_S768x2048_0_0))
      (View.ld (iblk m c 1 t) (Rect.unit (s := S512x640) ![o, 0] S256x640.size ib))
      (View.ld (iblk m c 3 t) (Rect.unit (s := S2048x2048) ![768, 0] S640x2048.size inb_S2048x2048_S640x2048_768_0))
      (View.ld (iblk m c 2 t) (Rect.unit (s := S512x640) ![o, 0] S256x640.size ib))
      (View.ld (iblk m c 3 t) (Rect.unit (s := S2048x2048) ![1408, 0] S640x2048.size inb_S2048x2048_S640x2048_1408_0))
      (View.ld (iblk m c 4 t) (Rect.unit (s := S512x2048) ![o, 0] S256x2048.size ix))
      (View.ld (iblk m c 5 t) (Rect.unit (s := S1x8x2048) (k0_off1 (grid0.coords t)) S1x1x2048.size (k0_off1_inb (grid0.coords t)))) a k
    = outResid (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5)) r k := by
  have row : ∀ q : ℕ, q = o + 1 * a.val → r.val = t.val * 512 + q := fun q hq => by omega
  have col : ∀ p q d : ℕ, q = d + 1 * p → d + p = q := fun p q d hq => by omega
  have col0 : ∀ p q : ℕ, q = 0 + 1 * p → p = q := fun p q hq => by omega
  unfold halfResid outResid outY
  refine Ideal.add_congr (Ideal.mul_congr rfl (in4 m c t _ _ _ (row _ rfl) (col0 _ _ rfl))) (Ideal.mul_congr (gate5 m c t k r hg) (Ideal.add_congr (Ideal.add_congr ?_ ?_) ?_))
  · exact Finset.sum_congr rfl fun l _ => Ideal.mul_congr (in0 m c t _ _ _ (row _ rfl) (col0 _ _ rfl)) (in3 m c t _ _ _ (col0 _ _ rfl) (col0 _ _ rfl))
  · exact Finset.sum_congr rfl fun l _ => Ideal.mul_congr (in1 m c t _ _ _ (row _ rfl) (col0 _ _ rfl)) (in3 m c t _ _ _ (col _ _ _ rfl) (col0 _ _ rfl))
  · exact Finset.sum_congr rfl fun l _ => Ideal.mul_congr (in2 m c t _ _ _ (row _ rfl) (col0 _ _ rfl)) (in3 m c t _ _ _ (col _ _ _ rfl) (col0 _ _ rfl))

theorem point10 (y : S512x2048.Idx) (r : Fin 8192) (hr : r.val = t.val * 512 + (y 0).val) : ((dats m 0 c).after 10 t y : EReal) =
    outX (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5))
     (m ((c : Thread nD τ).loc main_arg6)) (m ((c : Thread nD τ).loc main_arg7)) r (y 1) := by
  have hg := grp t (y 0) r hr
  rw [after0_10]; unfold outsAt0; frame_out
  canon_tiles x h
  all_goals
    rw [show y 1 = x 1 from Fin.ext h1]
    idx_vars x
    unfold outX
  case piece0 =>
    refine (second_x _ _ _ _ _).trans (layerNorm_congr _ (fun l => (second_z _ _ _ _ _ _ _ _ _ _).trans ?_) (in8 m c t _) (in9 m c t _))
    exact half_resid m c t 256 _ _ _ x0 r (by rw [hr, h0]) hg l
  case piece1 =>
    refine (first_x _ _ _ _ _ _ _ _ _ _ _ _).trans (layerNorm_congr _ (fun l => ?_) (in8 m c t _) (in9 m c t _))
    exact half_resid m c t 0 _ _ _ x0 r (by rw [hr, h0, Nat.zero_add]) hg l

theorem point11 (y : S512x2048.Idx) (r : Fin 8192) (hr : r.val = t.val * 512 + (y 0).val) : ((dats m 0 c).after 11 t y : EReal) =
    outH (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5))
     (m ((c : Thread nD τ).loc main_arg6)) (m ((c : Thread nD τ).loc main_arg7)) r (y 1) := by
  have hg := grp t (y 0) r hr
  rw [after0_11]; unfold outsAt0; frame_out
  canon_tiles x h
  all_goals
    rw [show y 1 = x 1 from Fin.ext h1]
    idx_vars x
    unfold outH outX
  case piece0 =>
    refine (second_h _ _ _ _ _ _ _).trans (Ideal.add_congr (Ideal.mul_congr (layerNorm_congr _ (fun l => (second_z _ _ _ _ _ _ _ _ _ _).trans ?_) (in8 m c t _) (in9 m c t _))
      (Ideal.add_congr rfl (gate7 m c t _ r hg))) (gate6 m c t _ r hg))
    exact half_resid m c t 256 _ _ _ x0 r (by rw [hr, h0]) hg l
  case piece1 =>
    refine (first_h _ _ _ _ _ _ _ _ _ _ _ _ _ _).trans (Ideal.add_congr (Ideal.mul_congr (layerNorm_congr _ (fun l => ?_) (in8 m c t _) (in9 m c t _))
      (Ideal.add_congr rfl (gate7 m c t _ r hg))) (gate6 m c t _ r hg))
    exact half_resid m c t 0 _ _ _ x0 r (by rw [hr, h0, Nat.zero_add]) hg l

/-- The first result array after the run: the new residual stream. -/
theorem final10 : (dats m 0 c).arrAt 10 cfg0.N = fun i => outX (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5))
     (m ((c : Thread nD τ).loc main_arg6)) (m ((c : Thread nD τ).loc main_arg7)) (i 0) (i 1) := by
  refine (dats m 0 c).arrAt_eq_of_covers 10 _ (by decide +kernel) fun t _ y => ?_
  blk_simp
  refine (point10 m c t y _ ?_).trans (congrArg _ (Fin.ext ?_)) <;> blk_simp [idx t] <;> try omega

/-- The second result array after the run: the modulated stream. -/
theorem final11 : (dats m 0 c).arrAt 11 cfg0.N = fun i => outH (m ((c : Thread nD τ).loc main_arg0)) (m ((c : Thread nD τ).loc main_arg1)) (m ((c : Thread nD τ).loc main_arg2))
     (m ((c : Thread nD τ).loc main_arg3)) (m ((c : Thread nD τ).loc main_arg4)) (m ((c : Thread nD τ).loc main_arg5))
     (m ((c : Thread nD τ).loc main_arg6)) (m ((c : Thread nD τ).loc main_arg7)) (i 0) (i 1) := by
  refine (dats m 0 c).arrAt_eq_of_covers 11 _ (by decide +kernel) fun t _ y => ?_
  blk_simp
  refine (point11 m c t y _ ?_).trans (congrArg _ (Fin.ext ?_)) <;> blk_simp [idx t] <;> try omega

end Cert.Proof.OutKernel

end
-- ==== Proof.OutRef.lean ====
/-
  The reference of the out projection, read at an index.
-/
module

public import proofs.«01_k».proof.Proof.Gen.OutRefIdeal.Read
public import proofs.«01_k».proof.Proof.OutSpec

@[expose] public section

set_option maxRecDepth 16384

noncomputable section

open Idealize.ShloMosaic Idealize.ShloMosaic.TcCoe Idealize.SL.Sem

namespace Cert.Proof.OutRef

open Cert.OutRefIdeal Cert.OutRefIdeal.Gen Cert.OutRefIdeal.Read Cert.Spec

variable (ya : FVec Ideal S8192x768 .bf16) (yb yc : FVec Ideal S8192x640 .bf16) (w : FVec Ideal S2048x2048 .bf16) (x : FVec Ideal S8192x2048 .f32)
  (md : FVec Ideal S2x8x12288 .f32) (g b : FVec Ideal S2x2048 .f32)

/-- The first mixer's columns of the rows set side by side. -/
theorem side_a (r : Fin 8192) (l : Fin 768) : val_main_v0 (F := Ideal) ya yb yc (ix2 r ⟨l.val, by omega⟩) = ya (ix2 r l) := by
  pointwise [val_main_v0]

/-- The second mixer's columns. -/
theorem side_b (r : Fin 8192) (l : Fin 640) : val_main_v0 (F := Ideal) ya yb yc (ix2 r ⟨768 + l.val, by omega⟩) = yb (ix2 r l) := by
  pointwise [val_main_v0]

/-- The third mixer's columns. -/
theorem side_c (r : Fin 8192) (l : Fin 640) : val_main_v0 (F := Ideal) ya yb yc (ix2 r ⟨1408 + l.val, by omega⟩) = yc (ix2 r l) := by
  pointwise [val_main_v0]
  rw [dif_neg (by omega), dif_neg (by omega)]
  exact congrArg (fun a => yc (ix2 r a)) (Fin.ext (by show 1408 + l.val - 768 - 640 = l.val; omega))

/-- The reference's product, its contraction parted at the mixers. -/
theorem y_at (r : Fin 8192) (k : Fin 2048) : val_main_v3 (F := Ideal) ya yb yc w (ix2 r k) = outY ya yb yc w r k := by
  have e : (val_main_v3 (F := Ideal) ya yb yc w (ix2 r k) : EReal) = ∑ l : Fin 2048, val_main_v0 (F := Ideal) ya yb yc (ix2 r l) * w (ix2 l k) := by
    pointwise [val_main_v3, val_main_v2, val_main_v1]
  refine e.trans ((Fin.sum_univ_two_halves 1408 640 rfl _).trans (Ideal.add_congr ((Fin.sum_univ_two_halves 768 640 rfl _).trans (Ideal.add_congr ?_ ?_)) ?_))
  · exact Finset.sum_congr rfl fun l _ => Ideal.mul_congr (side_a ya yb yc r l) rfl
  · exact Finset.sum_congr rfl fun l _ => Ideal.mul_congr (side_b ya yb yc r l) rfl
  · exact Finset.sum_congr rfl fun l _ => Ideal.mul_congr (side_c ya yb yc r l) rfl

/-- The reference's residual sum before the norm. -/
theorem resid_at (r : Fin 8192) (k : Fin 2048) : val_main_v18 (F := Ideal) ya yb yc w x md (ix2 r k) = outResid ya yb yc w x md r k := by
  unfold outResid
  rw [← y_at]
  pointwise [val_main_v18, val_main_v17, val_main_v16, val_main_v15, val_main_v14, val_main_v13, val_main_v12, val_main_v11, val_main_v10, val_main_v9, val_main_v8, val_main_v7, val_main_v6, val_main_v5, val_main_v4, val_main_cst]
  exact Ideal.add_congr rfl (Ideal.mul_congr (group_row md 0 r ⟨4096 + k.val, by omega⟩ (by omega)) rfl)

/-- The reference's first result. -/
theorem x_at (r : Fin 8192) (k : Fin 2048) : val_main_v46 (F := Ideal) ya yb yc w x md g b (ix2 r k) = outX ya yb yc w x md g b r k := by
  unfold outX
  rw [← layerNorm_congr k (fun l => resid_at ya yb yc w x md r l) rfl rfl]
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_0, val_main_cst_1, val_main_cst_2, val_main_cst_3, val_main_cst_4, layerNorm, mean]

/-- The reference's second result. -/
theorem h_at (r : Fin 8192) (k : Fin 2048) : val_main_v73 (F := Ideal) ya yb yc w x md g b (ix2 r k) = outH ya yb yc w x md g b r k := by
  unfold outH
  rw [← x_at]
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_5]
  exact Ideal.add_congr (Ideal.mul_congr rfl (Ideal.add_congr rfl (group_row md 0 r ⟨8192 + k.val, by omega⟩ (by omega))))
    (group_row md 0 r ⟨6144 + k.val, by omega⟩ (by omega))

end Cert.Proof.OutRef

end
-- ==== Proof.OutClaim.lean ====
/-
  The out projection's claims from its two runs.
-/
module

public import proofs.«01_k».proof.Defs
public import proofs.«01_k».proof.Proof.Gen.OutIdeal
public import proofs.«01_k».proof.Proof.Gen.OutRefIdeal
public import proofs.«01_k».proof.Proof.OutKernel
public import proofs.«01_k».proof.Proof.OutRef
public import Idealize.ShloMosaic.Lib.Quiescent

@[expose] public section

noncomputable section

namespace Cert.Proof

open Idealize.ShloMosaic Idealize.SL.Sem

/-- The reference runs on the host, leaves its arguments unchanged and declares no semaphore. -/
theorem frame_out_ref : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

/-- The kernel and the reference compute the same new stream and the same modulated stream. -/
theorem out_proj : Cert.algebraic_OutIdeal_OutRefIdeal := fun m ρ m' ρ' _ hag =>
  ⟨fun c => fun i => Spec.outX (m ((c.tc : Thread _ _).loc Cert.OutIdeal.main_arg0)) (m ((c.tc : Thread _ _).loc Cert.OutIdeal.main_arg1)) (m ((c.tc : Thread _ _).loc Cert.OutIdeal.main_arg2))
      (m ((c.tc : Thread _ _).loc Cert.OutIdeal.main_arg3)) (m ((c.tc : Thread _ _).loc Cert.OutIdeal.main_arg4)) (m ((c.tc : Thread _ _).loc Cert.OutIdeal.main_arg5))
      (m ((c.tc : Thread _ _).loc Cert.OutIdeal.main_arg6)) (m ((c.tc : Thread _ _).loc Cert.OutIdeal.main_arg7)) (i 0) (i 1),
    fun c => fun i => Spec.outH (m ((c.tc : Thread _ _).loc Cert.OutIdeal.main_arg0)) (m ((c.tc : Thread _ _).loc Cert.OutIdeal.main_arg1)) (m ((c.tc : Thread _ _).loc Cert.OutIdeal.main_arg2))
      (m ((c.tc : Thread _ _).loc Cert.OutIdeal.main_arg3)) (m ((c.tc : Thread _ _).loc Cert.OutIdeal.main_arg4)) (m ((c.tc : Thread _ _).loc Cert.OutIdeal.main_arg5))
      (m ((c.tc : Thread _ _).loc Cert.OutIdeal.main_arg6)) (m ((c.tc : Thread _ _).loc Cert.OutIdeal.main_arg7)) (i 0) (i 1),
    (θ_run _ _ _).mono (fun _ h c => ⟨(h c).1.trans (OutKernel.final10 m c), (h c).2.1.trans (OutKernel.final11 m c), (h c).2.2⟩)
      (Cert.OutIdeal.Value.run_blocks m ρ),
    (θ_run _ _ _).mono (fun _ h c => by
      obtain ⟨h0, h1, h2, h3, h4, h5, h6, h7⟩ := hag c
      refine ⟨(h c).1.trans ?_, (h c).2.1.trans ?_, (h c).2.2⟩
      · rw [Cert.OutRefIdeal.Read.val_main_v46_eq, h0, h1, h2, h3, h4, h5, h6, h7]
        funext i
        rw [eq_ix2 i]
        exact OutRef.x_at _ _ _ _ _ _ _ _ _ _
      · rw [Cert.OutRefIdeal.Read.val_main_v73_eq, h0, h1, h2, h3, h4, h5, h6, h7]
        funext i
        rw [eq_ix2 i]
        exact OutRef.h_at _ _ _ _ _ _ _ _ _ _)
      (Cert.OutRefIdeal.Value.run m' ρ')⟩

end Cert.Proof

end
-- ==== Proof.Softmax.lean ====
/-
  Attention of one query over its keys, on the extended reals: the weights of a softmax, and what
  dividing after the sum over the keys has to do with dividing before it.
-/
module

public import Idealize.ShloMosaic.PureOps.Ideal.Laws

@[expose] public section

noncomputable section

namespace Cert.Spec

open Idealize.ShloMosaic

/-- An extended real that is a real number. -/
def IsReal (x : EReal) : Prop := ∃ r : ℝ, x = (r : EReal)

theorem isReal_of_abs {x : EReal} (h : max x (-x) < ⊤) : IsReal x := by
  induction x with
  | bot => simp at h
  | top => simp at h
  | coe r => exact ⟨r, rfl⟩

/-- The word of minus infinity. -/
theorem ofBits_bot : Ideal.ofBits .f32 0xFF800000#32 = ⊥ := by
  simp [Ideal.ofBits, Ideal.ieee]

/-- The largest score. -/
def top {n : ℕ} (s : Fin n → EReal) : EReal := Finset.univ.fold max (Ideal.ofBits .f32 0xFF800000#32) s

/-- A key's weight before the division. -/
def weight {n : ℕ} (s : Fin n → EReal) (k : Fin n) : EReal := Ideal.exp (s k - top s)

/-- The softmax of the scores. -/
def prob {n : ℕ} (s : Fin n → EReal) (k : Fin n) : EReal := Ideal.div (weight s k) (∑ l, weight s l)

/-- The values weighted by the softmax, divided after the sum over the keys. -/
def attend {n : ℕ} (s v : Fin n → EReal) : EReal := Ideal.div (∑ k, weight s k * v k) (∑ l, weight s l)

theorem sum_mul_of_nonneg {ι : Type} (S : Finset ι) (f : ι → EReal) {c : EReal} (h : 0 ≤ c) (h' : c ≠ ⊤) :
    (∑ k ∈ S, f k) * c = ∑ k ∈ S, f k * c := by
  classical
  induction S using Finset.induction_on with
  | empty => simp
  | insert a S ha ih =>
    rw [Finset.sum_insert ha, Finset.sum_insert ha, ← ih, mul_comm, EReal.left_distrib_of_nonneg_of_ne_top h h', mul_comm c, mul_comm c]

/-- A nonnegative real factor of every left operand comes out of a sum of products. -/
theorem sum_scale {n : ℕ} (q k : Fin n → EReal) {c : EReal} (h : 0 ≤ c) (h' : c ≠ ⊤) :
    ∑ l, q l * c * k l = (∑ l, q l * k l) * c := by
  rw [sum_mul_of_nonneg _ _ h h']
  exact Finset.sum_congr rfl fun l _ => mul_right_comm _ _ _

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sum {ι : Type} (S : Finset ι) (f : ι → EReal) (h : ∀ k, IsReal (f k)) : IsReal (∑ k ∈ S, f k) := by
  choose g hg using h
  exact ⟨∑ k ∈ S, g k, by rw [coe_sum]; exact Finset.sum_congr rfl fun k _ => hg k⟩

theorem isReal_top {n : ℕ} (s : Fin (n + 1) → EReal) (h : ∀ k, IsReal (s k)) : IsReal (top s) := by
  have lo : s 0 ≤ top s := (Finset.le_fold_max (s 0)).mpr (Or.inr ⟨0, Finset.mem_univ _, le_refl _⟩)
  have hi : top s < ⊤ := (Finset.fold_max_lt _).mpr ⟨by rw [ofBits_bot]; exact bot_lt_top, fun k _ => by
    obtain ⟨r, hr⟩ := h k
    rw [hr]; exact EReal.coe_lt_top r⟩
  obtain ⟨r, hr⟩ := h 0
  induction hx : top s with
  | bot => rw [hx, hr] at lo; exact absurd (lt_of_lt_of_le (EReal.bot_lt_coe r) lo) (lt_irrefl _)
  | top => rw [hx] at hi; exact absurd hi (lt_irrefl _)
  | coe x => exact ⟨x, rfl⟩

/-- Of real scores the weights are positive reals. -/
theorem weight_real {n : ℕ} (s : Fin (n + 1) → EReal) (h : ∀ k, IsReal (s k)) : ∃ w : Fin (n + 1) → ℝ, (∀ k, 0 < w k) ∧ ∀ k, weight s k = w k := by
  obtain ⟨t, ht⟩ := isReal_top s h
  choose g hg using h
  refine ⟨fun k => Real.exp (g k - t), fun k => Real.exp_pos _, fun k => ?_⟩
  unfold weight
  rw [ht, hg k, ← EReal.coe_sub, Ideal.exp_coe]

/-- … and so is their sum. -/
theorem total_real {n : ℕ} (s : Fin (n + 1) → EReal) (h : ∀ k, IsReal (s k)) : ∃ d : ℝ, 0 < d ∧ ∑ l, weight s l = d := by
  obtain ⟨w, hw, e⟩ := weight_real s h
  exact ⟨∑ l, w l, Finset.sum_pos (fun l _ => hw l) ⟨0, Finset.mem_univ _⟩, by rw [coe_sum]; exact Finset.sum_congr rfl fun l _ => e l⟩

/-- Dividing after the sum over the keys is dividing each weight. -/
theorem attend_eq {n : ℕ} (s v : Fin (n + 1) → EReal) (h : ∀ k, IsReal (s k)) : attend s v = ∑ k, prob s k * v k := by
  obtain ⟨d, hd, e⟩ := total_real s h
  unfold attend prob
  rw [e, Ideal.div_coe hd.ne', sum_mul_of_nonneg _ _ (by exact_mod_cast (one_div_pos.mpr hd).le) (EReal.coe_ne_top _)]
  refine Finset.sum_congr rfl fun k _ => ?_
  rw [Ideal.div_coe hd.ne', mul_right_comm]

/-- The softmax of real scores is real. -/
theorem prob_real {n : ℕ} (s : Fin (n + 1) → EReal) (h : ∀ k, IsReal (s k)) (k : Fin (n + 1)) : IsReal (prob s k) := by
  obtain ⟨d, hd, e⟩ := total_real s h
  obtain ⟨w, _, hw⟩ := weight_real s h
  refine ⟨w k * (1 / d), ?_⟩
  unfold prob
  rw [e, Ideal.div_coe hd.ne', hw k, EReal.coe_mul]

/-- The difference of two attentions over the same values is one sum over the keys, when everything is real. -/
theorem attend_sub {n : ℕ} (s t v : Fin (n + 1) → EReal) (lam : EReal) (hs : ∀ k, IsReal (s k)) (ht : ∀ k, IsReal (t k)) (hv : ∀ k, IsReal (v k))
    (hl : IsReal lam) : attend s v - lam * attend t v = ∑ k, (prob s k - lam * prob t k) * v k := by
  rw [attend_eq s v hs, attend_eq t v ht]
  choose a ha using fun k => prob_real s hs k
  choose b hb using fun k => prob_real t ht k
  choose w hw using hv
  obtain ⟨l, rfl⟩ := hl
  simp only [ha, hb, hw, ← EReal.coe_mul, ← EReal.coe_sub, ← coe_sum]
  congr 1
  rw [Finset.mul_sum, ← Finset.sum_sub_distrib]
  exact Finset.sum_congr rfl fun k _ => by ring

end Cert.Spec

end
-- ==== Proof.AttnSpec.lean ====
/-
  The prompt's attention as a function of the projected tiles [tile, token, lane]: each query reads the keys and
  values of its own sequence of 256 tokens.
-/
module

public import proofs.«01_k».proof.Proof.Softmax
public import Idealize.ShloMosaic.Lib.Pipeline.ValueKit
public import Idealize.ShloMosaic.Lib.Pointwise

@[expose] public section

noncomputable section

namespace Cert.Spec

open Idealize.ShloMosaic

variable (p : FVec Ideal ⟨3, ![54, 8192, 128]⟩ .f32)

/-- Token `k` of the sequence that token `r` belongs to. -/
def seqRow (r : Fin 8192) (k : Fin 256) : Fin 8192 := ⟨r.val / 256 * 256 + k.val, by omega⟩

/-- The scaled score of query token `r` with key `k` of its sequence, of tiles `tq` and `tk`. -/
def scoreA (tq tk : Fin 54) (r : Fin 8192) (k : Fin 256) : EReal :=
  (∑ l : Fin 128, (p (ix3 tq r l) : EReal) * p (ix3 tk (seqRow r k) l)) * Ideal.ofBits .f32 0x3DB504F3#32

/-- The attention of head group A at token `r`, column `j`: head `j / 128`, lane `j % 128`. -/
def attnOut (r : Fin 8192) (j : Fin 768) : EReal :=
  attend (scoreA p ⟨j.val / 128, by omega⟩ ⟨6 + j.val / 128, by omega⟩ r)
    (fun k => p (ix3 ⟨12 + j.val / 128, by omega⟩ (seqRow r k) ⟨j.val % 128, by omega⟩))

/-- A cache with its second layer set to the tiles from `n0` on of the prompt's tokens, its first layer as it was. -/
def cacheOut {h : ℕ} (n0 : ℕ) (hn : n0 + h ≤ 54) (prev : FVec Ideal ⟨5, ![16, 2, h, 256, 128]⟩ .f32) : FVec Ideal ⟨5, ![16, 2, h, 256, 128]⟩ .f32 := fun i =>
  if (i 1).val = 1 then p (ix3 (⟨n0 + (i 2).val, by have : (i 2).val < h := (i 2).isLt; omega⟩ : Fin 54)
    (⟨(i 0).val * 256 + (i 3).val, by have : (i 0).val < 16 := (i 0).isLt; have : (i 3).val < 256 := (i 3).isLt; omega⟩ : Fin 8192) (i 4))
  else prev i

/-- The score scale is a nonnegative real. -/
theorem scale_real : ∃ r : ℝ, 0 ≤ r ∧ Ideal.ofBits .f32 0x3DB504F3#32 = (r : EReal) := by
  refine ⟨_, ?_, by simp [Ideal.ofBits, Ideal.ieee]; rfl⟩
  positivity

theorem scale_nonneg : (0 : EReal) ≤ Ideal.ofBits .f32 0x3DB504F3#32 ∧ Ideal.ofBits .f32 0x3DB504F3#32 ≠ ⊤ := by
  obtain ⟨r, hr, e⟩ := scale_real
  rw [e]
  exact ⟨by exact_mod_cast hr, EReal.coe_ne_top r⟩

/-- Scores of real queries and keys are real. -/
theorem scoreA_real (tq tk : Fin 54) (r : Fin 8192) (k : Fin 256) (hq : ∀ l, IsReal (p (ix3 tq r l))) (hk : ∀ l, IsReal (p (ix3 tk (seqRow r k) l))) :
    IsReal (scoreA p tq tk r k) := by
  refine isReal_mul (isReal_sum _ _ fun l => isReal_mul (hq l) (hk l)) ?_
  obtain ⟨x, _, e⟩ := scale_real
  exact ⟨x, e⟩

end Cert.Spec

end
-- ==== Proof.DiffSpec.lean ====
/-
  The prompt's differential attention as a function of the projected tiles [tile, token, lane]: two softmaxes, each
  over half of a head's lanes, the second subtracted with the layer's weight, and the root mean square norm.
-/
module

public import proofs.«01_k».proof.Proof.AttnSpec

@[expose] public section

noncomputable section

namespace Cert.Spec

open Idealize.ShloMosaic

/-- A lane of the first half. -/
def lo (l : Fin 64) : Fin 128 := ⟨l.val, by omega⟩

/-- A lane of the second half. -/
def hi (l : Fin 64) : Fin 128 := ⟨64 + l.val, by omega⟩

variable (p : FVec Ideal ⟨3, ![54, 8192, 128]⟩ .f32) (L : FVec Ideal ⟨2, ![4, 64]⟩ .f32)

/-- The scaled score of query token `r` with key `k` of its sequence, over one half `f` of the lanes. -/
def scoreB (f : Fin 64 → Fin 128) (tq tk : Fin 54) (r : Fin 8192) (k : Fin 256) : EReal :=
  (∑ l : Fin 64, (p (ix3 tq r (f l)) : EReal) * p (ix3 tk (seqRow r k) (f l))) * Ideal.ofBits .f32 0x3E000000#32

/-- The weight of the second softmax. -/
def lam : EReal :=
  Ideal.exp (∑ l : Fin 64, (L (ix2 0 l) : EReal) * L (ix2 1 l)) - Ideal.exp (∑ l : Fin 64, (L (ix2 2 l) : EReal) * L (ix2 3 l))
    + Ideal.ofBits .f32 0x3EB60549#32

/-- A head of group B at token `r`, lane `d`, before the norm. -/
def diffVal (h : Fin 5) (r : Fin 8192) (d : Fin 128) : EReal :=
  attend (scoreB p lo ⟨18 + h.val, by omega⟩ ⟨23 + h.val, by omega⟩ r) (fun k => p (ix3 ⟨28 + h.val, by omega⟩ (seqRow r k) d))
    - lam L * attend (scoreB p hi ⟨18 + h.val, by omega⟩ ⟨23 + h.val, by omega⟩ r) (fun k => p (ix3 ⟨28 + h.val, by omega⟩ (seqRow r k) d))

/-- The root mean square norm of a head's lanes, with the gain `g` of lane `d`. -/
def rms (x : Fin 128 → EReal) (g : EReal) (d : Fin 128) : EReal :=
  x d * Ideal.rsqrt (Ideal.div (∑ k, x k * x k) (Ideal.ofBits .f32 0x43000000#32) + Ideal.ofBits .f32 0x358637BD#32) * g * Ideal.ofBits .f32 0x3F24FD5C#32

/-- The differential attention at token `r`, column `j`: head `j / 128`, lane `j % 128`. -/
def diffOut (g : FVec Ideal ⟨1, ![128]⟩ .f32) (r : Fin 8192) (j : Fin 640) : EReal :=
  rms (diffVal p L ⟨j.val / 128, by omega⟩ r) (g (ix1 (⟨j.val % 128, by omega⟩ : Fin 128))) ⟨j.val % 128, by omega⟩

/-- The score scale is a nonnegative real. -/
theorem scaleB_real : ∃ r : ℝ, 0 ≤ r ∧ Ideal.ofBits .f32 0x3E000000#32 = (r : EReal) := by
  refine ⟨_, ?_, by simp [Ideal.ofBits, Ideal.ieee]; rfl⟩
  positivity

theorem scaleB_nonneg : (0 : EReal) ≤ Ideal.ofBits .f32 0x3E000000#32 ∧ Ideal.ofBits .f32 0x3E000000#32 ≠ ⊤ := by
  obtain ⟨r, hr, e⟩ := scaleB_real
  rw [e]
  exact ⟨by exact_mod_cast hr, EReal.coe_ne_top r⟩

/-- Scores of real queries and keys are real. -/
theorem scoreB_real (f : Fin 64 → Fin 128) (tq tk : Fin 54) (r : Fin 8192) (k : Fin 256) (hq : ∀ l, IsReal (p (ix3 tq r l)))
    (hk : ∀ l, IsReal (p (ix3 tk (seqRow r k) l))) : IsReal (scoreB p f tq tk r k) := by
  refine isReal_mul (isReal_sum _ _ fun l => isReal_mul (hq _) (hk _)) ?_
  obtain ⟨x, _, e⟩ := scaleB_real
  exact ⟨x, e⟩

/-- The mark of a lane of the first half. -/
def lowLane (l : Fin 128) : BitVec 1 := IntOp.cmpi .slt (BitVec.ofNat 32 l.val) 64#32

theorem lowLane_lo : ∀ l : Fin 64, lowLane (lo l) = 1#1 := by decide +kernel
theorem lowLane_hi : ∀ l : Fin 64, lowLane (hi l) = 0#1 := by decide +kernel

/-- A sum over all lanes that keeps the first half only. -/
theorem sum_low (f : Fin 128 → EReal) : ∑ l, Scalar.select (lowLane l) (f l) 0 = ∑ l, f (lo l) := by
  rw [Fin.sum_univ_two_halves 64 64 rfl]
  have a : ∀ l : Fin 64, Scalar.select (lowLane (lo l)) (f (lo l)) 0 = f (lo l) := fun l => by rw [lowLane_lo]; rfl
  have b : ∀ l : Fin 64, Scalar.select (lowLane (hi l)) (f (hi l)) 0 = 0 := fun l => by rw [lowLane_hi]; rfl
  exact (congrArg₂ _ (Finset.sum_congr rfl fun l _ => a l) ((Finset.sum_congr rfl fun l _ => b l).trans Finset.sum_const_zero)).trans (add_zero _)

/-- … the second half only. -/
theorem sum_high (f : Fin 128 → EReal) : ∑ l, Scalar.select (IntOp.xori (lowLane l) 1#1) (f l) 0 = ∑ l, f (hi l) := by
  rw [Fin.sum_univ_two_halves 64 64 rfl]
  have a : ∀ l : Fin 64, Scalar.select (IntOp.xori (lowLane (lo l)) 1#1) (f (lo l)) 0 = 0 := fun l => by rw [lowLane_lo]; rfl
  have b : ∀ l : Fin 64, Scalar.select (IntOp.xori (lowLane (hi l)) 1#1) (f (hi l)) 0 = f (hi l) := fun l => by rw [lowLane_hi]; rfl
  exact (congrArg₂ _ ((Finset.sum_congr rfl fun l _ => a l).trans Finset.sum_const_zero) (Finset.sum_congr rfl fun l _ => b l)).trans (zero_add _)

end Cert.Spec

end
-- ==== Proof.DiffKernel.lean ====
/-
  What the kernel of the prompt's differential attention leaves in its results, read at an index.
-/
module

public import proofs.«01_k».proof.Proof.Gen.DiffIdeal.Value
public import proofs.«01_k».proof.Proof.DiffSpec

@[expose] public section

set_option maxRecDepth 16384

noncomputable section

open Idealize.ShloMosaic Idealize.ShloMosaic.TcCoe Idealize.SL.Sem
open Idealize.ShloMosaic.Pipeline (Dat)

namespace Cert.Proof.DiffKernel

open Cert.DiffIdeal Cert.DiffIdeal.Gen Cert.Spec

section
variable (q k v : FVec Ideal S1x256x128 .f32) (L : FVec Ideal S4x64 .f32) (g : FVec Ideal S1x128 .f32)

/-- A query's score with a key of its block over the lanes of the first half, the others set to zero. -/
def scoreLo (r a : Fin 256) : EReal :=
  ∑ l : Fin 128, Scalar.select (lowLane l) ((q (ix3 0 r l) : EReal) * Ideal.ofBits .f32 0x3E000000#32) 0 * k (ix3 0 a l)

/-- … of the second half. -/
def scoreHi (r a : Fin 256) : EReal :=
  ∑ l : Fin 128, Scalar.select (IntOp.xori (lowLane l) 1#1) ((q (ix3 0 r l) : EReal) * Ideal.ofBits .f32 0x3E000000#32) 0 * k (ix3 0 a l)

/-- A head over a block of queries, keys and values, before the norm. -/
def headVal (r : Fin 256) (d : Fin 128) : EReal :=
  attend (scoreLo q k r) (fun a => v (ix3 0 a d)) - lam L * attend (scoreHi q k r) (fun a => v (ix3 0 a d))

theorem head4 (r : Fin 256) (d : Fin 128) :
    (k0_pay1 (F := Ideal) (k0_pay50 k0_pay47 (k0_pay48 L) (k0_pay49 q) v k) (k0_pay51 k0_pay47 (k0_pay48 L) (k0_pay49 q) v k) g (ix2 r d) : EReal)
      = rms (headVal q k v L r) (g (ix2 0 d)) d := by
  pointwise [k0_pay1, k0_pay47, k0_pay48, k0_pay49, k0_pay50, k0_pay51, rms, headVal, scoreLo, scoreHi, lowLane, lam, attend, weight, top]

theorem head3 (r : Fin 256) (d : Fin 128) :
    (k0_pay44 (F := Ideal) (k0_pay37 L) (k0_pay38 q) (k0_pay39 v) (k0_pay40 k) (k0_pay41 k0_pay36) (k0_pay42 k0_pay36 q k) (k0_pay43 k0_pay36 q v k) g (ix2 r d) : EReal)
      = rms (headVal q k v L r) (g (ix2 0 d)) d := by
  pointwise [k0_pay36, k0_pay37, k0_pay38, k0_pay39, k0_pay40, k0_pay41, k0_pay42, k0_pay43, k0_pay44, rms, headVal, scoreLo, scoreHi, lowLane, lam, attend, weight, top]

theorem head2 (r : Fin 256) (d : Fin 128) :
    (k0_pay33 (F := Ideal) (k0_pay31 k0_pay26 (k0_pay28 q) v k) (k0_pay32 k0_pay26 (k0_pay27 L) (k0_pay28 q) v k) g (ix2 r d) : EReal)
      = rms (headVal q k v L r) (g (ix2 0 d)) d := by
  pointwise [k0_pay26, k0_pay27, k0_pay28, k0_pay29, k0_pay30, k0_pay31, k0_pay32, k0_pay33, rms, headVal, scoreLo, scoreHi, lowLane, lam, attend, weight, top]

theorem head1 (r : Fin 256) (d : Fin 128) :
    (k0_pay23 (F := Ideal) (k0_pay16 L) (k0_pay17 q) (k0_pay18 v) (k0_pay19 k) (k0_pay20 (iota Kind.tc S1x128 32 [1] iota_S1x128_d1_w32) 64#32)
      (k0_pay21 (iota Kind.tc S1x128 32 [1] iota_S1x128_d1_w32) 64#32 q k) (k0_pay22 (iota Kind.tc S1x128 32 [1] iota_S1x128_d1_w32) 64#32 q k) g (ix2 r d) : EReal)
      = rms (headVal q k v L r) (g (ix2 0 d)) d := by
  pointwise [k0_pay15, k0_pay16, k0_pay17, k0_pay18, k0_pay19, k0_pay20, k0_pay21, k0_pay22, k0_pay23, rms, headVal, scoreLo, scoreHi, lowLane, lam, attend, weight, top]

theorem head0 (r : Fin 256) (d : Fin 128) :
    (k0_pay12 (F := Ideal) (k0_pay5 L) (k0_pay10 k0_pay4 (k0_pay6 q) (FloatOps.ofBits FTy.f32 1040187392#32) v k)
      (k0_pay11 k0_pay4 (k0_pay6 q) (FloatOps.ofBits FTy.f32 1040187392#32) v k) g (ix2 r d) : EReal)
      = rms (headVal q k v L r) (g (ix2 0 d)) d := by
  pointwise [k0_pay4, k0_pay5, k0_pay6, k0_pay7, k0_pay8, k0_pay9, k0_pay10, k0_pay11, k0_pay12, rms, headVal, scoreLo, scoreHi, lowLane, lam, attend, weight, top]
end

variable (m : (ℓ : Loc nD τ sig) → Buf (Elt Ideal) ℓ) (c : Dev nD) (t : Fin cfg0.N)

theorem idx : ∀ t : Fin cfg0.N, win0_0.index t = ![18, t.val, 0] ∧ win0_1.index t = ![19, t.val, 0] ∧ win0_2.index t = ![20, t.val, 0]
    ∧ win0_3.index t = ![21, t.val, 0] ∧ win0_4.index t = ![22, t.val, 0] ∧ win0_5.index t = ![23, t.val, 0] ∧ win0_6.index t = ![24, t.val, 0]
    ∧ win0_7.index t = ![25, t.val, 0] ∧ win0_8.index t = ![26, t.val, 0] ∧ win0_9.index t = ![27, t.val, 0] ∧ win0_10.index t = ![28, t.val, 0]
    ∧ win0_11.index t = ![29, t.val, 0] ∧ win0_12.index t = ![30, t.val, 0] ∧ win0_13.index t = ![31, t.val, 0] ∧ win0_14.index t = ![32, t.val, 0]
    ∧ win0_15.index t = ![0, 0] ∧ win0_16.index t = ![0, 0]
    ∧ win0_17.index t = ![t.val, 0] ∧ win0_18.index t = ![t.val, 1, 0, 0, 0] ∧ win0_19.index t = ![t.val, 1, 0, 0, 0] :=
  (by decide +kernel : ∀ t : Fin grid0.N, _)

/-- The block of queries of a head. -/
def qBlk (h : Fin 5) : FVec Ideal S1x256x128 .f32 := ![iblk m c 0 t, iblk m c 1 t, iblk m c 2 t, iblk m c 3 t, iblk m c 4 t] h
/-- The block of keys of a head. -/
def kBlk (h : Fin 5) : FVec Ideal S1x256x128 .f32 := ![iblk m c 5 t, iblk m c 6 t, iblk m c 7 t, iblk m c 8 t, iblk m c 9 t] h
/-- The block of values of a head. -/
def vBlk (h : Fin 5) : FVec Ideal S1x256x128 .f32 := ![iblk m c 10 t, iblk m c 11 t, iblk m c 12 t, iblk m c 13 t, iblk m c 14 t] h

/-- A head's column `d` after the norm, over its blocks. -/
def headAt (h : Fin 5) (r : Fin 256) (d : Fin 128) : EReal :=
  rms (headVal (qBlk m c t h) (kBlk m c t h) (vBlk m c t h) (iblk m c 15 t) r) ((iblk m c 16 t : FVec Ideal S1x128 .f32) (ix2 0 d)) d

theorem point17 (y : S256x640.Idx) : ((dats m 0 c).after 17 t y : EReal) =
    headAt m c t ⟨(y 1).val / 128, by have := (y 1).isLt; simp at this; omega⟩ (y 0) ⟨(y 1).val % 128, by omega⟩ := by
  rw [after0_17]; unfold outsAt0; frame_out
  have key : ∀ (h : Fin 5) (x : S256x128.Idx), (y 0).val = (x 0).val → (y 1).val = h.val * 128 + (x 1).val →
      headAt m c t ⟨(y 1).val / 128, by have := (y 1).isLt; simp at this; omega⟩ (y 0) ⟨(y 1).val % 128, by omega⟩ = headAt m c t h (x 0) (x 1) := fun h x h0 h1 => by
    have x1 : (x 1).val < 128 := (x 1).isLt
    congr 1
    · exact Fin.ext (by show (y 1).val / 128 = h.val; omega)
    · exact Fin.ext h0
    · exact Fin.ext (by show (y 1).val % 128 = (x 1).val; omega)
  canon_tiles x h
  case piece0 => rw [key 4 x h0 h1, eq_ix2 x]; exact head4 _ _ _ _ _ _ _
  case piece1 => rw [key 3 x h0 h1, eq_ix2 x]; exact head3 _ _ _ _ _ _ _
  case piece2 => rw [key 2 x h0 h1, eq_ix2 x]; exact head2 _ _ _ _ _ _ _
  case piece3 => rw [key 1 x h0 h1, eq_ix2 x]; exact head1 _ _ _ _ _ _ _
  case piece4 => rw [key 0 x h0 (by omega), eq_ix2 x]; exact head0 _ _ _ _ _ _ _

/-- An element of a head's block, by the head and the block's own index. -/
theorem head_at (B : Fin 5 → FVec Ideal S1x256x128 .f32) (h : Fin 5) (x : S1x1x1x256x128.Idx) (y : S1x1x5x256x128.Idx) (h2 : (y 2).val = h.val + (x 2).val)
    (h3 : (y 3).val = (x 3).val) (h4 : (y 4).val = (x 4).val) : (B h (ix3 0 (x 3) (x 4)) : EReal) = B (y 2) (ix3 0 (y 3) (y 4)) := by
  have x2 : (x 2).val < 1 := (x 2).isLt
  obtain rfl : h = y 2 := Fin.ext (by omega)
  exact congrArg₂ (fun u w => B (y 2) (ix3 0 u w)) (Fin.ext h3.symm) (Fin.ext h4.symm)

theorem point18 (y : S1x1x5x256x128.Idx) : ((dats m 0 c).after 18 t y : EReal) = kBlk m c t (y 2) (ix3 0 (y 3) (y 4)) := by
  rw [after0_18]; unfold outsAt0; frame_out
  canon_tiles x h
  case piece0 => refine Eq.trans ?_ (head_at (kBlk m c t) 4 x y h2 h3 h4); simp only [kBlk]; idx_vars x; pointwise [k0_pay45]
  case piece1 => refine Eq.trans ?_ (head_at (kBlk m c t) 3 x y h2 h3 h4); simp only [kBlk]; idx_vars x; pointwise [k0_pay34]
  case piece2 => refine Eq.trans ?_ (head_at (kBlk m c t) 2 x y h2 h3 h4); simp only [kBlk]; idx_vars x; pointwise [k0_pay24]
  case piece3 => refine Eq.trans ?_ (head_at (kBlk m c t) 1 x y h2 h3 h4); simp only [kBlk]; idx_vars x; pointwise [k0_pay13]
  case piece4 => refine Eq.trans ?_ (head_at (kBlk m c t) 0 x y (h2.trans (Nat.zero_add _).symm) h3 h4); simp only [kBlk]; idx_vars x; pointwise [k0_pay2]

theorem point19 (y : S1x1x5x256x128.Idx) : ((dats m 0 c).after 19 t y : EReal) = vBlk m c t (y 2) (ix3 0 (y 3) (y 4)) := by
  rw [after0_19]; unfold outsAt0; frame_out
  canon_tiles x h
  case piece0 => refine Eq.trans ?_ (head_at (vBlk m c t) 4 x y h2 h3 h4); simp only [vBlk]; idx_vars x; pointwise [k0_pay46]
  case piece1 => refine Eq.trans ?_ (head_at (vBlk m c t) 3 x y h2 h3 h4); simp only [vBlk]; idx_vars x; pointwise [k0_pay35]
  case piece2 => refine Eq.trans ?_ (head_at (vBlk m c t) 2 x y h2 h3 h4); simp only [vBlk]; idx_vars x; pointwise [k0_pay25]
  case piece3 => refine Eq.trans ?_ (head_at (vBlk m c t) 1 x y h2 h3 h4); simp only [vBlk]; idx_vars x; pointwise [k0_pay14]
  case piece4 => refine Eq.trans ?_ (head_at (vBlk m c t) 0 x y (h2.trans (Nat.zero_add _).symm) h3 h4); simp only [vBlk]; idx_vars x; pointwise [k0_pay3]

theorem in_q (h : Fin 5) (a : Fin 256) (l : Fin 128) (r : Fin 8192) (hr : r.val = t.val * 256 + a.val) (n : Fin 54) (hn : n.val = 18 + h.val) :
    qBlk m c t h (ix3 0 a l) = m ((c : Thread nD τ).loc main_arg0) (ix3 n r l) := by
  fin_cases h <;> (simp at hn; simp only [qBlk]; blk_ext [iblk, V, idx t])
theorem in_k (h : Fin 5) (a : Fin 256) (l : Fin 128) (r : Fin 8192) (hr : r.val = t.val * 256 + a.val) (n : Fin 54) (hn : n.val = 23 + h.val) :
    kBlk m c t h (ix3 0 a l) = m ((c : Thread nD τ).loc main_arg0) (ix3 n r l) := by
  fin_cases h <;> (simp at hn; simp only [kBlk]; blk_ext [iblk, V, idx t])
theorem in_v (h : Fin 5) (a : Fin 256) (l : Fin 128) (r : Fin 8192) (hr : r.val = t.val * 256 + a.val) (n : Fin 54) (hn : n.val = 28 + h.val) :
    vBlk m c t h (ix3 0 a l) = m ((c : Thread nD τ).loc main_arg0) (ix3 n r l) := by
  fin_cases h <;> (simp at hn; simp only [vBlk]; blk_ext [iblk, V, idx t])

theorem in_lam : iblk m c 15 t = m ((c : Thread nD τ).loc main_arg1) := by
  funext y
  idx_vars y
  blk_ext [iblk, V, idx t]

theorem in_gain (d : Fin 128) : (iblk m c 16 t : FVec Ideal S1x128 .f32) (ix2 0 d) = m ((c : Thread nD τ).loc main_arg2) (ix1 d) := by
  blk_simp [iblk, idx t]
  entry_read
  pointwise
  blk_ext [iblk, V, idx t]

theorem select_mul (b : BitVec 1) (x z : EReal) : Scalar.select b x 0 * z = Scalar.select b (x * z) 0 := by
  unfold Scalar.select
  split <;> simp

/-- A block's scores over half the lanes are the tokens' scores. -/
theorem scoreLo_eq (h : Fin 5) (a k : Fin 256) (r : Fin 8192) (hr : r.val = t.val * 256 + a.val) :
    scoreLo (qBlk m c t h) (kBlk m c t h) a k = scoreB (m ((c : Thread nD τ).loc main_arg0)) lo ⟨18 + h.val, by omega⟩ ⟨23 + h.val, by omega⟩ r k := by
  unfold scoreLo scoreB
  simp only [select_mul]
  rw [sum_low, sum_scale _ _ scaleB_nonneg.1 scaleB_nonneg.2]
  refine Ideal.mul_congr (Finset.sum_congr rfl fun l _ => Ideal.mul_congr ?_ ?_) rfl
  · exact in_q m c t _ _ _ _ hr _ rfl
  · exact in_k m c t _ _ _ _ (by simp only [seqRow]; omega) _ rfl

theorem scoreHi_eq (h : Fin 5) (a k : Fin 256) (r : Fin 8192) (hr : r.val = t.val * 256 + a.val) :
    scoreHi (qBlk m c t h) (kBlk m c t h) a k = scoreB (m ((c : Thread nD τ).loc main_arg0)) hi ⟨18 + h.val, by omega⟩ ⟨23 + h.val, by omega⟩ r k := by
  unfold scoreHi scoreB
  simp only [select_mul]
  rw [sum_high, sum_scale _ _ scaleB_nonneg.1 scaleB_nonneg.2]
  refine Ideal.mul_congr (Finset.sum_congr rfl fun l _ => Ideal.mul_congr ?_ ?_) rfl
  · exact in_q m c t _ _ _ _ hr _ rfl
  · exact in_k m c t _ _ _ _ (by simp only [seqRow]; omega) _ rfl

/-- A head of a block is the tokens' head. -/
theorem headVal_eq (h : Fin 5) (a : Fin 256) (d : Fin 128) (r : Fin 8192) (hr : r.val = t.val * 256 + a.val) :
    headVal (qBlk m c t h) (kBlk m c t h) (vBlk m c t h) (iblk m c 15 t) a d = diffVal (m ((c : Thread nD τ).loc main_arg0)) (m ((c : Thread nD τ).loc main_arg1)) h r d := by
  unfold headVal diffVal
  have hv : ∀ k, (vBlk m c t h (ix3 0 k d) : EReal) = m ((c : Thread nD τ).loc main_arg0) (ix3 (⟨28 + h.val, by omega⟩ : Fin 54) (seqRow r k) d) := fun k =>
    in_v m c t _ _ _ _ (by simp only [seqRow]; omega) _ rfl
  rw [in_lam, show scoreLo (qBlk m c t h) (kBlk m c t h) a = _ from funext fun k => scoreLo_eq m c t h a k r hr,
    show scoreHi (qBlk m c t h) (kBlk m c t h) a = _ from funext fun k => scoreHi_eq m c t h a k r hr,
    show (fun k => (vBlk m c t h (ix3 0 k d) : EReal)) = _ from funext hv]

/-- What point `t` leaves at a row of the first result. -/
theorem rows (y : S256x640.Idx) (r : Fin 8192) (j : Fin 640) (hr : r.val = t.val * 256 + (y 0).val) (hj : j.val = (y 1).val) :
    ((dats m 0 c).after 17 t y : EReal) =
      diffOut (m ((c : Thread nD τ).loc main_arg0)) (m ((c : Thread nD τ).loc main_arg1)) (m ((c : Thread nD τ).loc main_arg2)) r j := by
  obtain rfl : j = y 1 := Fin.ext hj
  rw [point17]
  unfold headAt diffOut
  rw [in_gain, show headVal _ _ _ _ _ = _ from funext fun d => headVal_eq m c t _ (y 0) d r hr]

/-- The first result after the run, at the prompt's rows. -/
theorem final17 : (dats m 0 c).arrAt 17 cfg0.N = fun i => if (i 0).val < 4096 then
      diffOut (m ((c : Thread nD τ).loc main_arg0)) (m ((c : Thread nD τ).loc main_arg1)) (m ((c : Thread nD τ).loc main_arg2)) (i 0) (i 1)
    else V m c main_v1_0 i := by
  refine (dats m 0 c).arrAt_eq_of_coversWhere 17 _ (fun β => β 0 < 16) (by decide +kernel) (fun t hf y => ?_)
    (fun j => by blk_simp [Pipeline.Window.cell_apply]; omega)
  blk_simp
  refine rows m c t y _ _ ?_ ?_ <;> blk_simp [idx t] <;> try omega

theorem V_main_v1_1 : V m c main_v1_1 = m ((c : Thread nD τ).loc main_arg3) := by
  unfold V; after_results; try rfl
theorem V_main_v1_2 : V m c main_v1_2 = m ((c : Thread nD τ).loc main_arg4) := by
  unfold V; after_results; try rfl

/-- The cache of keys after the run. -/
theorem final18 : (dats m 0 c).arrAt 18 cfg0.N = cacheOut (h := 5) (m ((c : Thread nD τ).loc main_arg0)) 23 (by omega) (V m c main_v1_1) := by
  unfold cacheOut
  refine (dats m 0 c).arrAt_eq_of_coversWhere 18 _ (fun β => β 1 = 1) (by decide +kernel) (fun t hf y => ?_)
    (fun j => by blk_simp [Pipeline.Window.cell_apply]; omega)
  blk_simp
  rw [point18]
  have l : (win0_18.blk t).view.emb y 4 = y 4 := Fin.ext (by blk_simp [idx t])
  rw [l]
  refine in_k m c t _ _ _ _ ?_ _ ?_ <;> blk_simp [idx t] <;> try omega

/-- The cache of values after the run. -/
theorem final19 : (dats m 0 c).arrAt 19 cfg0.N = cacheOut (h := 5) (m ((c : Thread nD τ).loc main_arg0)) 28 (by omega) (V m c main_v1_2) := by
  unfold cacheOut
  refine (dats m 0 c).arrAt_eq_of_coversWhere 19 _ (fun β => β 1 = 1) (by decide +kernel) (fun t hf y => ?_)
    (fun j => by blk_simp [Pipeline.Window.cell_apply]; omega)
  blk_simp
  rw [point19]
  have l : (win0_19.blk t).view.emb y 4 = y 4 := Fin.ext (by blk_simp [idx t])
  rw [l]
  refine in_v m c t _ _ _ _ ?_ _ ?_ <;> blk_simp [idx t] <;> try omega

end Cert.Proof.DiffKernel

end
-- ==== Proof.DiffRef.lean ====
/-
  The reference of the prompt's differential attention, read at an index.
-/
module

public import proofs.«01_k».proof.Proof.Gen.DiffRefIdeal.Read
public import proofs.«01_k».proof.Proof.DiffSpec

@[expose] public section

set_option maxRecDepth 16384

noncomputable section

open Idealize.ShloMosaic Idealize.ShloMosaic.TcCoe Idealize.SL.Sem

namespace Cert.Proof.DiffRef

open Cert.DiffRefIdeal Cert.DiffRefIdeal.Gen Cert.DiffRefIdeal.Read Cert.Spec

variable (p : FVec Ideal S54x8192x128 .f32) (L : FVec Ideal S4x64 .f32) (g : FVec Ideal S128 .f32) (prev : FVec Ideal S16x2x5x256x128 .f32)

/-- A head before the norm. -/
theorem val_at (h : Fin 5) (b : Fin 16) (a : Fin 256) (d : Fin 128) (r : Fin 8192) (hr : r.val = b.val * 256 + a.val)
    (hp : ∀ (n : Fin 54) (r : Fin 8192) (l : Fin 128), 18 ≤ n.val → n.val < 33 → r.val < 4096 → IsReal (p (ix3 n r l))) (hl : IsReal (lam L)) :
    val_main_v53 (F := Ideal) p L (ix4 h b a d) = diffVal p L h r d := by
  have hs : ∀ k, (seqRow r k).val < 4096 := fun k => by simp only [seqRow]; omega
  have hq : ∀ l, IsReal (p (ix3 (⟨18 + h.val, by omega⟩ : Fin 54) r l)) := fun l => hp _ _ l (by simp) (by simp; omega) (by omega)
  have hk : ∀ k l, IsReal (p (ix3 (⟨23 + h.val, by omega⟩ : Fin 54) (seqRow r k) l)) := fun k l => hp _ _ l (by simp; omega) (by simp; omega) (hs k)
  unfold diffVal
  rw [attend_sub _ _ _ _ (fun k => scoreB_real p _ _ _ r k hq (hk k)) (fun k => scoreB_real p _ _ _ r k hq (hk k))
    (fun k => hp _ _ d (by simp; omega) (by simp; omega) (hs k)) hl]
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, prob, weight, top, scoreB, lam]
  have e : ∀ w, (⟨b.val * 256 + a.val, w⟩ : Fin 8192) = r := fun w => Fin.ext hr.symm
  have e' : ∀ (k : Fin 256) (w), (⟨b.val * 256 + k.val, w⟩ : Fin 8192) = seqRow r k := fun k w => Fin.ext (by simp only [seqRow]; omega)
  simp only [e, e']
  rfl

theorem y_at (r : Fin 8192) (j : Fin 640) (hr : r.val < 4096)
    (hp : ∀ (n : Fin 54) (r : Fin 8192) (l : Fin 128), 18 ≤ n.val → n.val < 33 → r.val < 4096 → IsReal (p (ix3 n r l))) (hl : IsReal (lam L)) :
    val_main_v73 (F := Ideal) p L g (ix2 r j) = diffOut p L g r j := by
  have e : ∀ d, val_main_v53 (F := Ideal) p L (ix4 (⟨j.val / 128, by omega⟩ : Fin 5) (⟨r.val / 256, by omega⟩ : Fin 16) (⟨r.val % 256, by omega⟩ : Fin 256) d)
      = diffVal p L ⟨j.val / 128, by omega⟩ r d := fun d => val_at p L _ _ _ d r (by show r.val = r.val / 256 * 256 + r.val % 256; omega) hp hl
  unfold diffOut rms
  simp only [← e]
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_cst_8, val_main_cst_9, val_main_cst_10, val_main_cst_11, val_main_cst_12]
  rw [dif_pos hr]

theorem k_at (i : S16x2x5x256x128.Idx) : val_main_v77 (F := Ideal) p prev i = cacheOut p 23 (by omega) prev i := by
  idx_vars i
  pointwise [val_main_v77, val_main_v76, val_main_v75, val_main_v74, val_main_v3, val_main_v2, cacheOut]
  split <;> split <;> first | rfl | omega

theorem v_at (i : S16x2x5x256x128.Idx) : val_main_v81 (F := Ideal) p prev i = cacheOut p 28 (by omega) prev i := by
  idx_vars i
  pointwise [val_main_v81, val_main_v80, val_main_v79, val_main_v78, val_main_v5, val_main_v4, cacheOut]
  split <;> split <;> first | rfl | omega

end Cert.Proof.DiffRef

end
-- ==== Proof.Marks.lean ====
/-
  Reading the marks of a result's elements and of a finite array, as the statements' conditions write them.
-/
module

public import proofs.«01_k».proof.Proof.Softmax
public import Idealize.ShloMosaic.Lib.Pointwise

@[expose] public section

noncomputable section

namespace Cert.Spec

open Idealize.ShloMosaic

/-- A row number below 2³¹ compares as the natural number it is. -/
theorem lt_of_mark {r n : ℕ} (hr : r < 2 ^ 31) (hn : n < 2 ^ 31) (h : IntOp.cmpi .slt (BitVec.ofNat 32 r) (BitVec.ofNat 32 n) = 1#1) : r < n := by
  by_contra hc
  have : ¬ (BitVec.ofNat 32 r).slt (BitVec.ofNat 32 n) = true := by
    rw [BitVec.slt_iff_toInt_lt, BitVec.toInt_eq_toNat_of_lt (by simp; omega), BitVec.toInt_eq_toNat_of_lt (by simp; omega)]
    simp
    omega
  simp [IntOp.cmpi, this] at h

/-- An element whose absolute value is marked below infinity is real. -/
theorem real_of_mark {x : EReal} (h : FloatOps.cmpf (F := Ideal) (φ := .f32) .olt (max x (-x)) (Ideal.ofBits .f32 0x7F800000#32) = 1#1) : IsReal x := by
  refine isReal_of_abs ?_
  have e : Ideal.ofBits .f32 0x7F800000#32 = ⊤ := by simp [Ideal.ofBits, Ideal.ieee]
  rw [e] at h
  by_contra hc
  simp [FloatOps.cmpf, Ideal.cmp, hc] at h

end Cert.Spec

end
-- ==== Proof.DiffClaim.lean ====
/-
  The prompt's differential attention: the claims from its two runs.
-/
module

public import proofs.«01_k».proof.Defs
public import proofs.«01_k».proof.Proof.Gen.DiffIdeal
public import proofs.«01_k».proof.Proof.Gen.DiffRefIdeal
public import proofs.«01_k».proof.Proof.Gen.Pre_tiles_finite_b
public import proofs.«01_k».proof.Proof.Gen.On_prompt_rows_b
public import proofs.«01_k».proof.Proof.DiffKernel
public import proofs.«01_k».proof.Proof.DiffRef
public import proofs.«01_k».proof.Proof.Marks
public import Idealize.ShloMosaic.Lib.Quiescent

@[expose] public section

noncomputable section

namespace Cert.Proof

open Idealize.ShloMosaic Idealize.SL.Sem

/-- The reference runs on the host, leaves its arguments unchanged and declares no semaphore. -/
theorem frame_diff_ref : Cert.quiescent_DiffRefIdeal := fun m ρ _ =>
  (θ_run Cert.DiffRefIdeal.defs _ _).mono (fun r h => ⟨fun c => (h c).2.2.2, sem_eq_zero_of_no_sems (by decide) r.2⟩)
    (Cert.DiffRefIdeal.Value.run (F := Ideal) m ρ)

section
variable (p : FVec Ideal Cert.DiffIdeal.S54x8192x128 .f32) (L : FVec Ideal Cert.DiffIdeal.S4x64 .f32) (g : FVec Ideal Cert.DiffIdeal.S128 .f32) (k v : FVec Ideal Cert.DiffIdeal.S16x2x5x256x128 .f32)

/-- The marked rows are the prompt's. -/
theorem mark_b (i : Cert.DiffIdeal.S8192x640.Idx) (h : (Cert.On_prompt_rows_b.fn (F := Ideal) p L g k v).1 i = 1#1) : (i 0).val < 4096 :=
  Spec.lt_of_mark (by have : (i 0).val < 8192 := (i 0).isLt; omega) (by norm_num) h

/-- Under the precondition the queries, the keys and the values are real. -/
theorem finite_b (h : (Cert.Pre_tiles_finite_b.fn (F := Ideal) p L g k v).1 = fun _ => 1#1) (n : Fin 54) (r : Fin 8192) (l : Fin 128) (h0 : 18 ≤ n.val) (hn : n.val < 33)
    (hr : r.val < 4096) : Spec.IsReal (p (ix3 n r l)) := by
  have e := congrFun h (ix3 (⟨n.val - 18, by omega⟩ : Fin 15) (⟨r.val, hr⟩ : Fin 4096) l)
  have i : ix3 n r l = ix3 (⟨18 + (n.val - 18), by omega⟩ : Fin 54) (⟨r.val, by omega⟩ : Fin 8192) l := by
    congr 1
    exact Fin.ext (by show n.val = 18 + (n.val - 18); omega)
  rw [i]
  refine Spec.real_of_mark (Eq.trans ?_ e)
  pointwise [Cert.Pre_tiles_finite_b.fn, Cert.Pre_tiles_finite_b.fn_part1]
  rfl

/-- … and so is the second softmax's weight. -/
theorem finite_lam (h : (Cert.Pre_tiles_finite_b.fn (F := Ideal) p L g k v).2 = fun _ => 1#1) : Spec.IsReal (Spec.lam L) := by
  have e := congrFun h ix0
  refine Spec.real_of_mark (Eq.trans ?_ e)
  pointwise [Cert.Pre_tiles_finite_b.fn, Cert.Pre_tiles_finite_b.fn_part1, Spec.lam]
  rfl
end

/-- The kernel and the reference compute the same differential attention of the prompt's tokens and the same caches. -/
theorem diff : Cert.algebraic_DiffIdeal_DiffRefIdeal_on_prompt_rows_b_pre_tiles_finite_b := fun m ρ m' ρ' hpre hag =>
  ⟨fun c => fun i => Spec.diffOut (m ((c.tc : Thread _ _).loc Cert.DiffIdeal.main_arg0)) (m ((c.tc : Thread _ _).loc Cert.DiffIdeal.main_arg1)) (m ((c.tc : Thread _ _).loc Cert.DiffIdeal.main_arg2)) (i 0) (i 1),
    fun c => Spec.cacheOut (m ((c.tc : Thread _ _).loc Cert.DiffIdeal.main_arg0)) 23 (by omega) (m ((c.tc : Thread _ _).loc Cert.DiffIdeal.main_arg3)),
    fun c => Spec.cacheOut (m ((c.tc : Thread _ _).loc Cert.DiffIdeal.main_arg0)) 28 (by omega) (m ((c.tc : Thread _ _).loc Cert.DiffIdeal.main_arg4)),
    (θ_run _ _ _).mono (fun _ h c =>
      ⟨fun i hi => (congrFun ((h c).1.trans (DiffKernel.final17 m c)) i).trans (if_pos (mark_b _ _ _ _ _ i hi)),
        fun i _ => congrFun ((h c).2.1.trans ((DiffKernel.final18 m c).trans (by rw [DiffKernel.V_main_v1_1]))) i,
        fun i _ => congrFun ((h c).2.2.1.trans ((DiffKernel.final19 m c).trans (by rw [DiffKernel.V_main_v1_2]))) i, (h c).2.2.2⟩)
      (Cert.DiffIdeal.Value.run_blocks m ρ),
    (θ_run _ _ _).mono (fun _ h c => by
      obtain ⟨h0, h1, h2, h3, h4⟩ := hag c
      refine ⟨fun i hi => (congrFun (h c).1 i).trans ?_, fun i _ => (congrFun (h c).2.1 i).trans ?_, fun i _ => (congrFun (h c).2.2.1 i).trans ?_, (h c).2.2.2⟩
      · rw [Cert.DiffRefIdeal.Read.val_main_v73_eq, h0, h1, h2, eq_ix2 i]
        exact DiffRef.y_at _ _ _ _ _ (mark_b _ _ _ _ _ i hi) (finite_b _ _ _ _ _ (hpre c).1) (finite_lam _ _ _ _ _ (hpre c).2)
      · rw [Cert.DiffRefIdeal.Read.val_main_v77_eq, h0, h3]
        exact DiffRef.k_at _ _ _
      · rw [Cert.DiffRefIdeal.Read.val_main_v81_eq, h0, h4]
        exact DiffRef.v_at _ _ _)
      (Cert.DiffRefIdeal.Value.run m' ρ')⟩

end Cert.Proof

end
-- ==== Proof.AttnKernel.lean ====
/-
  What the kernel of the prompt's attention leaves in its results, read at an index.
-/
module

public import proofs.«01_k».proof.Proof.Gen.AttnIdeal.Value
public import proofs.«01_k».proof.Proof.AttnSpec

@[expose] public section

set_option maxRecDepth 16384

noncomputable section

open Idealize.ShloMosaic Idealize.ShloMosaic.TcCoe Idealize.SL.Sem
open Idealize.ShloMosaic.Pipeline (Dat)

namespace Cert.Proof.AttnKernel

open Cert.AttnIdeal Cert.AttnIdeal.Gen Cert.Spec

variable (m : (ℓ : Loc nD τ sig) → Buf (Elt Ideal) ℓ)

theorem idx : ∀ t : Fin cfg0.N, win0_0.index t = ![0, t.val, 0] ∧ win0_1.index t = ![1, t.val, 0] ∧ win0_2.index t = ![2, t.val, 0]
    ∧ win0_3.index t = ![t.val, 0] ∧ win0_4.index t = ![t.val, 1, 0, 0, 0] ∧ win0_5.index t = ![t.val, 1, 0, 0, 0] :=
  (by decide +kernel : ∀ t : Fin grid0.N, _)

theorem six : ∀ h : Fin 6, h = 0 ∨ h = 1 ∨ h = 2 ∨ h = 3 ∨ h = 4 ∨ h = 5 := by decide

/-- The attention of one head over a block of queries, keys and values. -/
def headOut (q k v : FVec Ideal S6x256x128 .f32) (h : Fin 6) (r : Fin 256) (d : Fin 128) : EReal :=
  attend (fun a : Fin 256 => ∑ l : Fin 128, (q (ix3 h r l) : EReal) * Ideal.ofBits .f32 0x3DB504F3#32 * k (ix3 h a l)) (fun a => v (ix3 h a d))

variable (c : Dev nD) (t : Fin cfg0.N)

theorem point3 (y : S256x768.Idx) : ((dats m 0 c).after 3 t y : EReal) =
    headOut (iblk m c 0 t) (iblk m c 1 t) (iblk m c 2 t) ⟨(y 1).val / 128, by have := (y 1).isLt; simp at this; omega⟩ (y 0) ⟨(y 1).val % 128, by omega⟩ := by
  rw [after0_3]; unfold outsAt0; frame_out
  obtain_idx i : (⟨2, ![6, 128]⟩ : Shape) := [(y 1 : ℕ) / 128, (y 1 : ℕ) % 128] with hi
  have e : headOut (iblk m c 0 t) (iblk m c 1 t) (iblk m c 2 t) ⟨(y 1).val / 128, by have := (y 1).isLt; simp at this; omega⟩ (y 0) ⟨(y 1).val % 128, by omega⟩
    = headOut (iblk m c 0 t) (iblk m c 1 t) (iblk m c 2 t) (i 0) (y 0) (i 1) := by
    congr 1 <;> exact Fin.ext (by first | exact hi0.symm | exact hi1.symm)
  rw [e]
  canon_tiles x h
  all_goals
    have a1 : i 1 = x 1 := Fin.ext (by rw [hi1]; omega)
    have a2 : y 0 = x 0 := Fin.ext h0
    rw [a1, a2]
    idx_vars x
    rcases six (i 0) with a | a | a | a | a | a <;> first
      | (exfalso; have b := congrArg Fin.val a; rw [hi0, h1] at b; simp at b <;> omega)
      | (rw [a]; pointwise [k0_pay1, k0_pay2, k0_pay3, k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, headOut, attend, weight, top])

theorem point4 (y : S1x1x6x256x128.Idx) : ((dats m 0 c).after 4 t y : EReal) = iblk m c 1 t (ix3 (y 2) (y 3) (y 4)) := by
  rw [after0_4]; unfold outsAt0; frame_out
  idx_vars y
  pointwise [k0_pay6]

theorem point5 (y : S1x1x6x256x128.Idx) : ((dats m 0 c).after 5 t y : EReal) = iblk m c 2 t (ix3 (y 2) (y 3) (y 4)) := by
  rw [after0_5]; unfold outsAt0; frame_out
  idx_vars y
  pointwise [k0_pay7]

theorem in0 (h : Fin 6) (a : Fin 256) (l : Fin 128) (r : Fin 8192) (hr : r.val = t.val * 256 + a.val) (n : Fin 54) (hn : n.val = h.val) :
    iblk m c 0 t (ix3 h a l) = m ((c : Thread nD τ).loc main_arg0) (ix3 n r l) := by
  blk_ext [iblk, V, idx t]
theorem in1 (h : Fin 6) (a : Fin 256) (l : Fin 128) (r : Fin 8192) (hr : r.val = t.val * 256 + a.val) (n : Fin 54) (hn : n.val = 6 + h.val) :
    iblk m c 1 t (ix3 h a l) = m ((c : Thread nD τ).loc main_arg0) (ix3 n r l) := by
  blk_ext [iblk, V, idx t]
theorem in2 (h : Fin 6) (a : Fin 256) (l : Fin 128) (r : Fin 8192) (hr : r.val = t.val * 256 + a.val) (n : Fin 54) (hn : n.val = 12 + h.val) :
    iblk m c 2 t (ix3 h a l) = m ((c : Thread nD τ).loc main_arg0) (ix3 n r l) := by
  blk_ext [iblk, V, idx t]

/-- What point `t` leaves at a row of the first result. -/
theorem rows (y : S256x768.Idx) (r : Fin 8192) (j : Fin 768) (hr : r.val = t.val * 256 + (y 0).val) (hj : j.val = (y 1).val) :
    ((dats m 0 c).after 3 t y : EReal) = attnOut (m ((c : Thread nD τ).loc main_arg0)) r j := by
  rw [point3]
  unfold headOut attnOut
  have y0 : (y 0).val < 256 := (y 0).isLt
  refine congrArg₂ attend (funext fun k => ?_) (funext fun k => ?_)
  · rw [sum_scale _ _ scale_nonneg.1 scale_nonneg.2]
    unfold scoreA
    refine Ideal.mul_congr (Finset.sum_congr rfl fun l _ => Ideal.mul_congr ?_ ?_) rfl
    · exact in0 m c t _ _ _ _ hr _ (by simp [hj])
    · exact in1 m c t _ _ _ _ (by simp only [seqRow]; omega) _ (by simp [hj])
  · refine (in2 m c t _ _ _ (seqRow r k) (by simp only [seqRow]; omega) ⟨12 + j.val / 128, by omega⟩ (by simp [hj])).trans ?_
    congr 2
    exact Fin.ext (by simp [hj])

/-- The first result after the run, at the prompt's rows. -/
theorem final3 : (dats m 0 c).arrAt 3 cfg0.N = fun i => if (i 0).val < 4096 then attnOut (m ((c : Thread nD τ).loc main_arg0)) (i 0) (i 1)
    else V m c main_v0_0 i := by
  refine (dats m 0 c).arrAt_eq_of_coversWhere 3 _ (fun β => β 0 < 16) (by decide +kernel) (fun t hf y => ?_)
    (fun j => by blk_simp [Pipeline.Window.cell_apply]; omega)
  blk_simp
  refine rows m c t y _ _ ?_ ?_ <;> blk_simp [idx t] <;> try omega

theorem V_main_v0_1 : V m c main_v0_1 = m ((c : Thread nD τ).loc main_arg1) := by
  unfold V; after_results; try rfl
theorem V_main_v0_2 : V m c main_v0_2 = m ((c : Thread nD τ).loc main_arg2) := by
  unfold V; after_results; try rfl

/-- The cache of keys after the run. -/
theorem final4 : (dats m 0 c).arrAt 4 cfg0.N = cacheOut (h := 6) (m ((c : Thread nD τ).loc main_arg0)) 6 (by omega) (V m c main_v0_1) := by
  unfold cacheOut
  refine (dats m 0 c).arrAt_eq_of_coversWhere 4 _ (fun β => β 1 = 1) (by decide +kernel) (fun t hf y => ?_)
    (fun j => by blk_simp [Pipeline.Window.cell_apply]; omega)
  blk_simp
  rw [point4]
  have l : (win0_4.blk t).view.emb y 4 = y 4 := Fin.ext (by blk_simp [idx t])
  rw [l]
  refine in1 m c t _ _ _ _ ?_ _ ?_ <;> blk_simp [idx t] <;> try omega

/-- The cache of values after the run. -/
theorem final5 : (dats m 0 c).arrAt 5 cfg0.N = cacheOut (h := 6) (m ((c : Thread nD τ).loc main_arg0)) 12 (by omega) (V m c main_v0_2) := by
  unfold cacheOut
  refine (dats m 0 c).arrAt_eq_of_coversWhere 5 _ (fun β => β 1 = 1) (by decide +kernel) (fun t hf y => ?_)
    (fun j => by blk_simp [Pipeline.Window.cell_apply]; omega)
  blk_simp
  rw [point5]
  have l : (win0_5.blk t).view.emb y 4 = y 4 := Fin.ext (by blk_simp [idx t])
  rw [l]
  refine in2 m c t _ _ _ _ ?_ _ ?_ <;> blk_simp [idx t] <;> try omega

end Cert.Proof.AttnKernel

end
-- ==== Proof.AttnRef.lean ====
/-
  The reference of the prompt's attention, read at an index.
-/
module

public import proofs.«01_k».proof.Proof.Gen.AttnRefIdeal.Read
public import proofs.«01_k».proof.Proof.AttnSpec

@[expose] public section

set_option maxRecDepth 16384

noncomputable section

open Idealize.ShloMosaic Idealize.ShloMosaic.TcCoe Idealize.SL.Sem

namespace Cert.Proof.AttnRef

open Cert.AttnRefIdeal Cert.AttnRefIdeal.Gen Cert.AttnRefIdeal.Read Cert.Spec

variable (p : FVec Ideal S54x8192x128 .f32) (prev : FVec Ideal S16x2x6x256x128 .f32)

theorem y_at (r : Fin 8192) (j : Fin 768) (hr : r.val < 4096) (hq : ∀ (n : Fin 54) (r : Fin 8192) (l : Fin 128), n.val < 12 → r.val < 4096 → IsReal (p (ix3 n r l))) :
    val_main_v23 (F := Ideal) p (ix2 r j) = attnOut p r j := by
  unfold attnOut
  rw [attend_eq _ _ fun k => scoreA_real p _ _ r k (fun l => hq _ _ l (by show j.val / 128 < 12; omega) hr)
    (fun l => hq _ _ l (by show 6 + j.val / 128 < 12; omega) (by simp only [seqRow]; omega))]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, prob, weight, top, scoreA]
  have e : ∀ h, (⟨r.val / 256 * 256 + r.val % 256, h⟩ : Fin 8192) = r := fun h => Fin.ext (by show r.val / 256 * 256 + r.val % 256 = r.val; omega)
  rw [dif_pos hr]
  simp only [e, seqRow]

theorem k_at (i : S16x2x6x256x128.Idx) : val_main_v27 (F := Ideal) p prev i = cacheOut p 6 (by omega) prev i := by
  idx_vars i
  pointwise [val_main_v27, val_main_v26, val_main_v25, val_main_v24, val_main_v3, val_main_v2, cacheOut]
  split <;> split <;> first | rfl | omega

theorem v_at (i : S16x2x6x256x128.Idx) : val_main_v31 (F := Ideal) p prev i = cacheOut p 12 (by omega) prev i := by
  idx_vars i
  pointwise [val_main_v31, val_main_v30, val_main_v29, val_main_v28, val_main_v5, val_main_v4, cacheOut]
  split <;> split <;> first | rfl | omega

end Cert.Proof.AttnRef

end
-- ==== Proof.AttnClaim.lean ====
/-
  The prompt attention's claims from its two runs.
-/
module

public import proofs.«01_k».proof.Defs
public import proofs.«01_k».proof.Proof.Gen.AttnIdeal
public import proofs.«01_k».proof.Proof.Gen.AttnRefIdeal
public import proofs.«01_k».proof.Proof.Gen.Pre_tiles_finite_a
public import proofs.«01_k».proof.Proof.Gen.On_prompt_rows_a
public import proofs.«01_k».proof.Proof.AttnKernel
public import proofs.«01_k».proof.Proof.AttnRef
public import proofs.«01_k».proof.Proof.Marks
public import Idealize.ShloMosaic.Lib.Quiescent

@[expose] public section

noncomputable section

namespace Cert.Proof

open Idealize.ShloMosaic Idealize.SL.Sem

/-- The reference runs on the host, leaves its arguments unchanged and declares no semaphore. -/
theorem frame_attn_ref : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

section
variable (p : FVec Ideal Cert.AttnIdeal.S54x8192x128 .f32) (k v : FVec Ideal Cert.AttnIdeal.S16x2x6x256x128 .f32)

/-- The marked rows are the prompt's. -/
theorem mark_a (i : Cert.AttnIdeal.S8192x768.Idx) (h : (Cert.On_prompt_rows_a.fn (F := Ideal) p k v).1 i = 1#1) : (i 0).val < 4096 :=
  Spec.lt_of_mark (by have : (i 0).val < 8192 := (i 0).isLt; omega) (by norm_num) h

/-- Under the precondition the queries and the keys are real. -/
theorem finite_a (h : Cert.Pre_tiles_finite_a.fn (F := Ideal) p k v = fun _ => 1#1) (n : Fin 54) (r : Fin 8192) (l : Fin 128) (hn : n.val < 12) (hr : r.val < 4096) :
    Spec.IsReal (p (ix3 n r l)) := by
  have e := congrFun h (ix3 (⟨n.val, hn⟩ : Fin 12) (⟨r.val, hr⟩ : Fin 4096) l)
  refine Spec.real_of_mark (Eq.trans ?_ e)
  pointwise [Cert.Pre_tiles_finite_a.fn]
  rfl
end

/-- The kernel and the reference compute the same attention of the prompt's tokens and the same caches. -/
theorem attn : Cert.algebraic_AttnIdeal_AttnRefIdeal_on_prompt_rows_a_pre_tiles_finite_a := fun m ρ m' ρ' hpre hag =>
  ⟨fun c => fun i => Spec.attnOut (m ((c.tc : Thread _ _).loc Cert.AttnIdeal.main_arg0)) (i 0) (i 1),
    fun c => Spec.cacheOut (m ((c.tc : Thread _ _).loc Cert.AttnIdeal.main_arg0)) 6 (by omega) (m ((c.tc : Thread _ _).loc Cert.AttnIdeal.main_arg1)),
    fun c => Spec.cacheOut (m ((c.tc : Thread _ _).loc Cert.AttnIdeal.main_arg0)) 12 (by omega) (m ((c.tc : Thread _ _).loc Cert.AttnIdeal.main_arg2)),
    (θ_run _ _ _).mono (fun _ h c =>
      ⟨fun i hi => (congrFun ((h c).1.trans (AttnKernel.final3 m c)) i).trans (if_pos (mark_a _ _ _ i hi)),
        fun i _ => congrFun ((h c).2.1.trans ((AttnKernel.final4 m c).trans (by rw [AttnKernel.V_main_v0_1]))) i,
        fun i _ => congrFun ((h c).2.2.1.trans ((AttnKernel.final5 m c).trans (by rw [AttnKernel.V_main_v0_2]))) i, (h c).2.2.2⟩)
      (Cert.AttnIdeal.Value.run_blocks m ρ),
    (θ_run _ _ _).mono (fun _ h c => by
      obtain ⟨h0, h1, h2⟩ := hag c
      refine ⟨fun i hi => (congrFun (h c).1 i).trans ?_, fun i _ => (congrFun (h c).2.1 i).trans ?_, fun i _ => (congrFun (h c).2.2.1 i).trans ?_, (h c).2.2.2⟩
      · rw [Cert.AttnRefIdeal.Read.val_main_v23_eq, h0, eq_ix2 i]
        exact AttnRef.y_at _ _ _ (mark_a _ _ _ i hi) (finite_a _ _ _ (hpre c))
      · rw [Cert.AttnRefIdeal.Read.val_main_v27_eq, h0, h1]
        exact AttnRef.k_at _ _ _
      · rw [Cert.AttnRefIdeal.Read.val_main_v31_eq, h0, h2]
        exact AttnRef.v_at _ _ _)
      (Cert.AttnRefIdeal.Value.run m' ρ')⟩

end Cert.Proof

end
-- ==== Proof.UpSpec.lean ====
/-
  The mathematics of the up projection with its gated convolution: what the two results hold, in terms of
  the five arguments.
-/
module

public import Idealize.ShloMosaic.Lib.Pipeline.ValueKit
public import Idealize.ShloMosaic.Lib.Pointwise

@[expose] public section

set_option maxRecDepth 16384

noncomputable section

open Idealize.ShloMosaic Idealize.SL.Sem

namespace Cert.Spec

/-- The position of row `r` in its own sequence: prompts of 256 rows first, then samples of 2048 rows. -/
def pos (r : ℕ) : ℕ := if r < 4096 then r % 256 else (r - 4096) % 2048

/-- Row `r` has a row before it in its sequence. -/
def hasPrev (r : ℕ) : Prop := pos r ≠ 0

/-- Row `r` has a row after it in its sequence. -/
def hasNext (r : ℕ) : Prop := pos r ≠ if r < 4096 then 255 else 2047

instance (r : ℕ) : Decidable (hasPrev r) := inferInstanceAs (Decidable (_ ≠ _))
instance (r : ℕ) : Decidable (hasNext r) := inferInstanceAs (Decidable (_ ≠ _))

/-- Three taps over a row and its neighbours, and a bias. -/
def taps (p n : Prop) [Decidable p] [Decidable n] (u0 u1 u2 c0 c1 c2 b : EReal) : EReal :=
  (if p then u0 * c0 else 0) + u1 * c1 + (if n then u2 * c2 else 0) + b

/-- The gate through `z/2 + z/2 · tanh (z/2)`, times the value. -/
def gateTanh (z a : EReal) : EReal :=
  let h := Ideal.ofBits FTy.f32 1056964608#32 * z
  (h + h * Ideal.tanh h) * a

variable (h2 : FVec Ideal ⟨2, ![8192, 2048]⟩ .bf16) (w : FVec Ideal ⟨3, ![2, 2048, 11008]⟩ .f32)
  (cw : FVec Ideal ⟨3, ![2, 3, 11008]⟩ .f32) (cb : FVec Ideal ⟨2, ![2, 11008]⟩ .f32)

/-- Entry `(k, col)` of one half of the up weights (`base` 0: values, `base` 5504: gates), zero past its columns. -/
def upW (base : ℕ) (hb : base ≤ 5504) (k : Fin 2048) (col : ℕ) : EReal :=
  if h : col < 5504 then w (ix3 0 k ⟨base + col, by omega⟩) else 0

/-- The projected entry of row `r` (taken around the end) and column `col` of one half. -/
def upAt (base : ℕ) (hb : base ≤ 5504) (r col : ℕ) : EReal :=
  ∑ k : Fin 2048, h2 (ix2 ⟨r % 8192, Nat.mod_lt _ (by decide)⟩ k) * upW w base hb k col

/-- The tap `e` of the convolution at column `col` of one half, zero past its columns. -/
def cwAt (base : ℕ) (hb : base ≤ 5504) (e : Fin 3) (col : ℕ) : EReal :=
  if h : col < 5504 then cw (ix3 0 e ⟨base + col, by omega⟩) else 0

/-- The bias of the convolution at column `col` of one half, zero past its columns. -/
def cbAt (base : ℕ) (hb : base ≤ 5504) (col : ℕ) : EReal :=
  if h : col < 5504 then cb (ix2 0 ⟨base + col, by omega⟩) else 0

/-- The convolved projection. -/
def convAt (base : ℕ) (hb : base ≤ 5504) (r col : ℕ) : EReal :=
  taps (hasPrev r) (hasNext r) (upAt h2 w base hb (r - 1) col) (upAt h2 w base hb r col) (upAt h2 w base hb (r + 1) col)
    (cwAt cw base hb 0 col) (cwAt cw base hb 1 col) (cwAt cw base hb 2 col) (cbAt cb base hb col)

/-- What the kernel leaves in the activation: the gate by `tanh`, times the value. -/
def actAt (r col : ℕ) : EReal :=
  gateTanh (convAt h2 w cw cb 5504 le_rfl r col) (convAt h2 w cw cb 0 (by decide) r col)

end Cert.Spec

end
-- ==== Proof.UpPieces.lean ====
/-
  The four quarters of the up projection's activation block, each at an index.
-/
module

public import proofs.«01_k».proof.Proof.Gen.UpIdeal.Frame
public import proofs.«01_k».proof.Proof.UpSpec

@[expose] public section

set_option maxRecDepth 16384

noncomputable section

open Idealize.ShloMosaic Idealize.SL.Sem

namespace Cert.Proof.UpKernel

open Cert.UpIdeal Cert.UpIdeal.Gen

/-- The position word of a row word in its own sequence, as the kernel computes it. -/
def posWord (w : BitVec 32) : BitVec 32 :=
  Scalar.select (IntOp.cmpi .slt w 4096#32) (IntOp.remsi .vector w 256#32)
    (IntOp.remsi .vector (IntOp.subi w 4096#32) 2048#32)

/-- The kernel's test for a row before. -/
def prevBit (w : BitVec 32) : BitVec 1 := IntOp.cmpi .ne (posWord w) 0#32

/-- The kernel's test for a row after. -/
def nextBit (w : BitVec 32) : BitVec 1 :=
  IntOp.cmpi .ne (posWord w) (Scalar.select (IntOp.cmpi .slt w 4096#32) 255#32 2047#32)

/-- The word of row `x` of the half that starts at `o` of block `i`. -/
def rowWord (i o : BitVec 32) (x : ℕ) : BitVec 32 :=
  IntOp.addi (Scalar.addi (Scalar.muli i 1024#32) o) (BitVec.ofNat 32 x)

/-- The convolution of one half's columns at row `r`, column `q` of a quarter, from the loaded rows. -/
def convTile (b : BitVec 32) (X : FVec Ideal S544x2048 .bf16) (W : FVec Ideal S2048x256 .bf16)
    (cw : FVec Ideal S3x256 .f32) (cb : FVec Ideal S1x256 .f32) (r : Fin 512) (q : Fin 256) : EReal :=
  Spec.taps (prevBit b = 1#1) (nextBit b = 1#1)
    (∑ k : Fin 2048, (X (ix2 ⟨15 + r.val, by omega⟩ k) : EReal) * W (ix2 k q))
    (∑ k : Fin 2048, (X (ix2 ⟨16 + r.val, by omega⟩ k) : EReal) * W (ix2 k q))
    (∑ k : Fin 2048, (X (ix2 ⟨17 + r.val, by omega⟩ k) : EReal) * W (ix2 k q))
    (cw (ix2 0 q)) (cw (ix2 1 q)) (cw (ix2 2 q)) (cb (ix2 0 q))

/-- One quarter at row `r`, column `q`. -/
def quarter (b : BitVec 32) (X : FVec Ideal S544x2048 .bf16) (A G : FVec Ideal S2048x256 .bf16)
    (ca cg : FVec Ideal S3x256 .f32) (ba bg : FVec Ideal S1x256 .f32) (r : Fin 512) (q : Fin 256) : EReal :=
  Spec.gateTanh (convTile b X G cg bg r q) (convTile b X A ca ba r q)

variable (X : FVec Ideal S544x2048 .bf16) (A G : FVec Ideal S2048x256 .bf16) (i : BitVec 32)
  (ca cg : FVec Ideal S3x256 .f32) (ba bg : FVec Ideal S1x256 .f32)

/-- The quarter of the first rows and first columns. -/
theorem pay00 (x : S512x256.Idx) :
    ((k0_pay30 (F := Ideal) (k0_pay14 X A) (k0_pay26 (k0_pay12 X G) (k0_pay21 i) (k0_pay22 i) (k0_pay23 i) 2047#32 k0_pay24 cg bg)
      (k0_pay27 (k0_pay14 X A) (k0_pay22 i)) (k0_pay28 (k0_pay14 X A)) (FloatOps.ofBits FTy.f32 0#32)
      (k0_pay29 (k0_pay21 i) (k0_pay23 i) 2047#32 k0_pay24) ca ba
      : FVec Ideal S512x256 .bf16) x : EReal) = quarter (rowWord i 0#32 (x 0).val) X A G ca cg ba bg (x 0) (x 1) := by
  idx_vars x
  pointwise [k0_pay12, k0_pay14, k0_pay20, k0_pay21, k0_pay22, k0_pay23, k0_pay24, k0_pay25, k0_pay26, k0_pay27, k0_pay28, k0_pay29, k0_pay30, quarter, convTile, Spec.gateTanh, Spec.taps,
    rowWord, prevBit, nextBit, posWord]
  have u : (16 + x0.val + 544 - 1) % 544 = 15 + x0.val := by omega
  have v : (16 + x0.val + 544 - 543) % 544 = 17 + x0.val := by omega
  simp only [u, v]
  rfl

/-- The quarter of the first rows and last columns. -/
theorem pay01 (x : S512x256.Idx) :
    ((k0_pay35 (F := Ideal) (k0_pay15 X A) (k0_pay22 i) (k0_pay25 (k0_pay21 i) (k0_pay23 i) 2047#32 k0_pay24)
      (k0_pay31 (k0_pay13 X G (constant S544x256 FTy.f32 0#32)) (k0_pay25 (k0_pay21 i) (k0_pay23 i) 2047#32 k0_pay24))
      (k0_pay33 (k0_pay13 X G (constant S544x256 FTy.f32 0#32)) (k0_pay22 i) cg) (k0_pay34 cg) bg ca ba
      : FVec Ideal S512x256 .bf16) x : EReal) = quarter (rowWord i 0#32 (x 0).val) X A G ca cg ba bg (x 0) (x 1) := by
  idx_vars x
  pointwise [k0_pay13, k0_pay15, k0_pay20, k0_pay21, k0_pay22, k0_pay23, k0_pay24, k0_pay25, k0_pay31, k0_pay32, k0_pay33, k0_pay34, k0_pay35, quarter, convTile, Spec.gateTanh, Spec.taps,
    rowWord, prevBit, nextBit, posWord]
  have u : (16 + x0.val + 544 - 1) % 544 = 15 + x0.val := by omega
  have v : (16 + x0.val + 544 - 543) % 544 = 17 + x0.val := by omega
  simp only [u, v]
  rfl

/-- The quarter of the last rows and first columns. -/
theorem pay10 (x : S512x256.Idx) :
    ((k0_pay44 (F := Ideal) (k0_pay18 X A) (k0_pay38 i 1024#32) (k0_pay39 i 1024#32) (k0_pay40 i (k0_pay16 X G) 1024#32)
      (k0_pay42 i (k0_pay16 X G) 1024#32 cg) (k0_pay43 cg) bg ca ba
      : FVec Ideal S512x256 .bf16) x : EReal) = quarter (rowWord i 512#32 (x 0).val) X A G ca cg ba bg (x 0) (x 1) := by
  idx_vars x
  pointwise [k0_pay16, k0_pay18, k0_pay36, k0_pay37, k0_pay38, k0_pay39, k0_pay40, k0_pay41, k0_pay42, k0_pay43, k0_pay44, quarter, convTile, Spec.gateTanh, Spec.taps,
    rowWord, prevBit, nextBit, posWord]
  have u : (16 + x0.val + 544 - 1) % 544 = 15 + x0.val := by omega
  have v : (16 + x0.val + 544 - 543) % 544 = 17 + x0.val := by omega
  simp only [u, v]
  rfl

/-- The quarter of the last rows and last columns. -/
theorem pay11 (x : S512x256.Idx) :
    ((k0_pay1 (F := Ideal) (k0_pay19 X A) (k0_pay45 (k0_pay17 X G) (k0_pay38 i 1024#32) (k0_pay39 i 1024#32) 1#32 cg bg)
      (k0_pay46 (k0_pay19 X A) (k0_pay38 i 1024#32)) (k0_pay47 (k0_pay19 X A) (k0_pay39 i 1024#32)) ca ba
      : FVec Ideal S512x256 .bf16) x : EReal) = quarter (rowWord i 512#32 (x 0).val) X A G ca cg ba bg (x 0) (x 1) := by
  idx_vars x
  pointwise [k0_pay17, k0_pay19, k0_pay36, k0_pay37, k0_pay38, k0_pay39, k0_pay1, k0_pay45, k0_pay46, k0_pay47, quarter, convTile, Spec.gateTanh, Spec.taps,
    rowWord, prevBit, nextBit, posWord]
  have u : (16 + x0.val + 544 - 1) % 544 = 15 + x0.val := by omega
  have v : (16 + x0.val + 544 - 543) % 544 = 17 + x0.val := by omega
  simp only [u, v]
  rfl

/-- The kernel's tests say what the sequences' bounds say. -/
theorem prev_iff : ∀ r : Fin 8192, prevBit (BitVec.ofNat 32 r.val) = 1#1 ↔ Spec.hasPrev r.val := by decide +kernel
theorem next_iff : ∀ r : Fin 8192, nextBit (BitVec.ofNat 32 r.val) = 1#1 ↔ Spec.hasNext r.val := by decide +kernel

theorem rowWord_eq (i o x : ℕ) : rowWord (BitVec.ofNat 32 i) (BitVec.ofNat 32 o) x = BitVec.ofNat 32 (i * 1024 + o + x) := by
  unfold rowWord IntOp.addi Scalar.addi Scalar.muli
  apply BitVec.eq_of_toNat_eq
  simp [IntOp.addi, IntOp.muli]

end Cert.Proof.UpKernel

end
-- ==== Proof.UpKernel.lean ====
/-
  The up projection's kernel: what each point computes and what the two results hold after the run.
-/
module

public import Idealize.ShloMosaic.Lib.Pipeline.ReadBack
public import proofs.«01_k».proof.Proof.UpPieces

@[expose] public section

set_option maxRecDepth 16384

noncomputable section

open Idealize.ShloMosaic Idealize.ShloMosaic.TcCoe Idealize.SL.Sem

namespace Cert.Proof.UpKernel

open Cert.UpIdeal Cert.UpIdeal.Gen Cert.Spec

theorem readCov_ld {Val : EltTy → Type} [∀ e, Nonempty (Val e)] {sg : RefSig} {κ} {sp} {s : Shape} {e : EltTy}
    (v : View sg κ sp s e) (L : List (View.Piece Val s e)) (r : Rect s) :
    v.readCov L r.toLoadRect = View.ld (View.canon L) r := View.readCov_eq_canon' v L r

theorem select_iff {b : BitVec 1} {p : Prop} [Decidable p] (h : b = 1#1 ↔ p) (x z : EReal) :
    Scalar.select b x z = if p then x else z := by
  by_cases q : p
  · rw [if_pos q, h.mpr q]; rfl
  · rw [if_neg q]; exact if_neg (fun e => q (h.mp e))

theorem valueBit : ∀ (j : Fin 11) (q : Fin 512), IntOp.cmpi .slt (IntOp.addi (Scalar.muli (BitVec.ofNat 32 j.val) 512#32)
    (BitVec.ofNat 32 q.val)) 5504#32 = 1#1 ↔ j.val * 512 + q.val < 5504 := by decide +kernel

theorem gateBit : ∀ (j : Fin 11) (q : Fin 4), Scalar.cmpi .slt (Scalar.addi (Scalar.muli (BitVec.ofNat 32 j.val) 4#32)
    (BitVec.ofNat 32 q.val)) 43#32 = 1#1 ↔ j.val * 4 + q.val < 43 := by decide +kernel

variable (m : (ℓ : Loc nD τ sig) → Buf (Elt Ideal) ℓ)

theorem idx : ∀ t : Fin cfg0.N, win0_0.index t = ![t.val % 8 * 64 - 1, 0] ∧ win0_1.index t = ![t.val % 8, 0]
    ∧ win0_2.index t = ![min ((t.val % 8 + 1) * 64) 511, 0] ∧ win0_3.index t = ![0, 0, t.val / 8]
    ∧ win0_4.index t = ![0, 0, min (43 + t.val / 8 * 4) 85] ∧ win0_5.index t = ![0, 0, min (44 + t.val / 8 * 4) 85]
    ∧ win0_6.index t = ![0, 0, min (45 + t.val / 8 * 4) 85] ∧ win0_7.index t = ![0, 0, min (46 + t.val / 8 * 4) 85]
    ∧ win0_8.index t = ![0, t.val / 8] ∧ win0_9.index t = ![0, t.val / 8] ∧ win0_10.index t = ![0, t.val / 8]
    ∧ win0_11.index t = ![0, t.val / 8] ∧ win0_12.index t = ![0, min t.val 85, 0]
    ∧ win0_13.index t = ![t.val % 8, t.val / 8] ∧ win0_14.index t = ![t.val, 0]
    ∧ (grid0.coords t 0 = t.val / 8) ∧ (grid0.coords t 1 = t.val % 8) :=
  (by decide +kernel : ∀ t : Fin grid0.N, _)

variable (c : Dev nD) (t : Fin cfg0.N)

theorem tlt : t.val < 88 := t.isLt

theorem in0 (a : Fin 16) (k : Fin 2048) (r : Fin 8192) (hr : r.val = (t.val % 8 * 64 - 1) * 16 + a.val) :
    iblk m c 0 t (ix2 a k) = m ((c : Thread nD τ).loc main_arg0) (ix2 r k) := by
  blk_ext [iblk, V, idx t]
theorem in1 (a : Fin 1024) (k : Fin 2048) (r : Fin 8192) (hr : r.val = t.val % 8 * 1024 + a.val) :
    iblk m c 1 t (ix2 a k) = m ((c : Thread nD τ).loc main_arg0) (ix2 r k) := by
  blk_ext [iblk, V, idx t]
theorem in2 (a : Fin 16) (k : Fin 2048) (r : Fin 8192) (hr : r.val = (min ((t.val % 8 + 1) * 64) 511) * 16 + a.val) :
    iblk m c 2 t (ix2 a k) = m ((c : Thread nD τ).loc main_arg0) (ix2 r k) := by
  blk_ext [iblk, V, idx t]
theorem in3 (k : Fin 2048) (a : Fin 512) (q : Fin 11008) (hq : q.val = t.val / 8 * 512 + a.val) :
    X0_3 m c t (ix3 0 k a) = m ((c : Thread nD τ).loc main_arg1) (ix3 0 k q) := by
  unfold X0_3 Pipeline.Window.fill; rw [dif_pos (moved0_3 t (ix3 0 k a))]; blk_ext [iblk, V, idx t]
theorem in4 (k : Fin 2048) (a : Fin 128) (r : Fin 2048) (q : Fin 11008) (hr : r = k) (hq : q.val = min (43 + t.val / 8 * 4) 85 * 128 + a.val) :
    iblk m c 4 t (ix3 0 k a) = m ((c : Thread nD τ).loc main_arg1) (ix3 0 r q) := by
  subst hr
  blk_ext [iblk, V, idx t]
theorem in5 (k : Fin 2048) (a : Fin 128) (r : Fin 2048) (q : Fin 11008) (hr : r = k) (hq : q.val = min (44 + t.val / 8 * 4) 85 * 128 + a.val) :
    iblk m c 5 t (ix3 0 k a) = m ((c : Thread nD τ).loc main_arg1) (ix3 0 r q) := by
  subst hr
  blk_ext [iblk, V, idx t]
theorem in6 (k : Fin 2048) (a : Fin 128) (r : Fin 2048) (q : Fin 11008) (hr : r = k) (hq : q.val = min (45 + t.val / 8 * 4) 85 * 128 + a.val) :
    iblk m c 6 t (ix3 0 k a) = m ((c : Thread nD τ).loc main_arg1) (ix3 0 r q) := by
  subst hr
  blk_ext [iblk, V, idx t]
theorem in7 (k : Fin 2048) (a : Fin 128) (r : Fin 2048) (q : Fin 11008) (hr : r = k) (hq : q.val = min (46 + t.val / 8 * 4) 85 * 128 + a.val) :
    iblk m c 7 t (ix3 0 k a) = m ((c : Thread nD τ).loc main_arg1) (ix3 0 r q) := by
  subst hr
  blk_ext [iblk, V, idx t]
theorem in12 (a : Fin 64) (k : Fin 2048) (r : Fin 5504) (hr : r.val = (min t.val 85) * 64 + a.val) :
    iblk m c 12 t (ix3 0 a k) = m ((c : Thread nD τ).loc main_arg4) (ix3 0 r k) := by
  blk_ext [iblk, V, idx t]
theorem sitofp_zero : (FloatOps.sitofp (F := Ideal) FTy.f32 0#32 : EReal) = 0 := by
  simp [FloatOps.sitofp]
theorem if_congr_zero {p : Prop} [Decidable p] (f : p → EReal) (z : EReal) (h : z = 0) :
    (if h : p then f h else z) = if h : p then f h else 0 := by rw [h]

theorem V3 (y : S3x5632.Idx) : V m c main_v3 y = cwAt (m ((c : Thread nD τ).loc main_arg2)) 0 (by decide) (y 0) (y 1).val := by
  unfold V
  simp only [List.flatten_cons, List.flatten_nil, List.cons_append, List.nil_append, List.append_nil, StableHlo.TRef.unary,
    StableHlo.TRef.binary]
  after_results
  simp -implicitDefEqProofs only [StableHlo.TRef.toBuf, StableHlo.TRef.ofBuf, cast_cast, cast_eq]
  idx_vars y
  pointwise [cwAt, cbAt]
  exact if_congr_zero _ _ sitofp_zero
theorem V7 (y : S3x5632.Idx) : V m c main_v7 y = cwAt (m ((c : Thread nD τ).loc main_arg2)) 5504 le_rfl (y 0) (y 1).val := by
  unfold V
  simp only [List.flatten_cons, List.flatten_nil, List.cons_append, List.nil_append, List.append_nil, StableHlo.TRef.unary,
    StableHlo.TRef.binary]
  after_results
  simp -implicitDefEqProofs only [StableHlo.TRef.toBuf, StableHlo.TRef.ofBuf, cast_cast, cast_eq]
  idx_vars y
  pointwise [cwAt, cbAt]
  exact if_congr_zero _ _ sitofp_zero
theorem V12 (y : S1x5632.Idx) : V m c main_v12 y = cbAt (m ((c : Thread nD τ).loc main_arg3)) 0 (by decide) (y 1).val := by
  unfold V
  simp only [List.flatten_cons, List.flatten_nil, List.cons_append, List.nil_append, List.append_nil, StableHlo.TRef.unary,
    StableHlo.TRef.binary]
  after_results
  simp -implicitDefEqProofs only [StableHlo.TRef.toBuf, StableHlo.TRef.ofBuf, cast_cast, cast_eq]
  idx_vars y
  pointwise [cwAt, cbAt]
  exact if_congr_zero _ _ sitofp_zero
theorem V17 (y : S1x5632.Idx) : V m c main_v17 y = cbAt (m ((c : Thread nD τ).loc main_arg3)) 5504 le_rfl (y 1).val := by
  unfold V
  simp only [List.flatten_cons, List.flatten_nil, List.cons_append, List.nil_append, List.append_nil, StableHlo.TRef.unary,
    StableHlo.TRef.binary]
  after_results
  simp -implicitDefEqProofs only [StableHlo.TRef.toBuf, StableHlo.TRef.ofBuf, cast_cast, cast_eq]
  idx_vars y
  pointwise [cwAt, cbAt]
  exact if_congr_zero _ _ sitofp_zero

theorem coord0 : ((grid0.coords t 0 : Fin _) : ℕ) = t.val / 8 := (idx t).2.2.2.2.2.2.2.2.2.2.2.2.2.2.2.1
theorem coord1 : ((grid0.coords t 1 : Fin _) : ℕ) = t.val % 8 := (idx t).2.2.2.2.2.2.2.2.2.2.2.2.2.2.2.2

/-- The value weights the first point of a column block stores. -/
theorem s1A (h0 : t.val % 8 = 0) (k : Fin 2048) (q : Fin 512) : ((outsAt0 m c t.val t.isLt).2.2.1 (ix2 k q) : EReal)
    = upW (m ((c : Thread nD τ).loc main_arg1)) 0 (by decide) k (t.val / 8 * 512 + q.val) := by
  have tl := tlt t
  rw [outsAt0_A m c t h0]
  frame_out
  pointwise [k0_pay2, upW]
  rw [coord0, select_iff (valueBit ⟨t.val / 8, by omega⟩ q)]
  split_ifs with a
  · refine (in3 m c t k q ⟨0 + (t.val / 8 * 512 + q.val), by omega⟩ (by simp)).trans ?_
    congr 3
    simp
  · rfl

/-- One piece of the stored gate weights: its block where the piece lies before the end, zero past it. -/
theorem gate_piece (w : FVec Ideal ⟨3, ![2, 2048, 11008]⟩ .f32) (j n : ℕ) (hn : n < 4) (b : BitVec 1) (hb : b = 1#1 ↔ j * 4 + n < 43) (v : EReal)
    (r : Fin 2048) (a : Fin 128) (col : ℕ) (hcol : col = j * 512 + (n * 128 + a.val))
    (hv : ∀ q : Fin 11008, q.val = 5504 + col → col < 5504 → v = w (ix3 0 r q)) : Scalar.select b v 0 = upW w 5504 le_rfl r col := by
  rw [select_iff hb]
  unfold upW
  by_cases h : col < 5504
  · rw [if_pos (by omega), dif_pos h]; exact hv _ rfl h
  · rw [if_neg (by omega), dif_neg h]

/-- The gate weights the first point of a column block stores. -/
theorem s2A (h0 : t.val % 8 = 0) (y : S2048x512.Idx) : ((outsAt0 m c t.val t.isLt).2.2.2 y : EReal)
    = upW (m ((c : Thread nD τ).loc main_arg1)) 5504 le_rfl (y 0) (t.val / 8 * 512 + (y 1).val) := by
  have tl := tlt t
  rw [outsAt0_A m c t h0]
  frame_out
  canon_tiles x h
  all_goals
    idx_vars x
    pointwise [k0_pay3, k0_pay4, k0_pay5, k0_pay6, k0_pay7, k0_pay8]
    rw [coord0]
  case' piece0 => refine gate_piece _ (t.val / 8) 3 (by omega) _ (gateBit ⟨t.val / 8, by omega⟩ 3) _ _ x1 _ (by rw [h1]) fun q hq hc => in7 m c t _ _ _ _ (Fin.ext h0) (by omega)
  case' piece1 => refine gate_piece _ (t.val / 8) 2 (by omega) _ (gateBit ⟨t.val / 8, by omega⟩ 2) _ _ x1 _ (by rw [h1]) fun q hq hc => in6 m c t _ _ _ _ (Fin.ext h0) (by omega)
  case' piece2 => refine gate_piece _ (t.val / 8) 1 (by omega) _ (gateBit ⟨t.val / 8, by omega⟩ 1) _ _ x1 _ (by rw [h1]) fun q hq hc => in5 m c t _ _ _ _ (Fin.ext h0) (by omega)
  case' piece3 => refine gate_piece _ (t.val / 8) 0 (by omega) _ (gateBit ⟨t.val / 8, by omega⟩ 0) _ _ x1 _ (by rw [h1]; omega) fun q hq hc => in4 m c t _ _ _ _ (Fin.ext h0) (by omega)

theorem s1B (h0 : ¬ t.val % 8 = 0) (k : Fin 2048) (q : Fin 512) :
    (outsAt0 m c t.val t.isLt).2.2.1 (ix2 k q) = (outsAt0 m c (t.val - 1) (by have := t.isLt; omega)).2.2.1 (ix2 k q) := by
  rw [outsAt0_B m c t h0]
  frame_out
  unfold sout0_B_1
  rfl

theorem s2B (h0 : ¬ t.val % 8 = 0) (k : Fin 2048) (q : Fin 512) :
    (outsAt0 m c t.val t.isLt).2.2.2 (ix2 k q) = (outsAt0 m c (t.val - 1) (by have := t.isLt; omega)).2.2.2 (ix2 k q) := by
  rw [outsAt0_B m c t h0]
  frame_out
  unfold sout0_B_2
  rfl

/-- The stored value weights at every point: those of its column block. -/
theorem s1 (n : ℕ) (hn : n < cfg0.N) (k : Fin 2048) (q : Fin 512) : ((outsAt0 m c n hn).2.2.1 (ix2 k q) : EReal)
    = upW (m ((c : Thread nD τ).loc main_arg1)) 0 (by decide) k (n / 8 * 512 + q.val) := by
  induction n with
  | zero => exact s1A m c ⟨0, hn⟩ rfl k q
  | succ n ih =>
    by_cases h0 : (n + 1) % 8 = 0
    · exact s1A m c ⟨n + 1, hn⟩ h0 k q
    · rw [s1B m c ⟨n + 1, hn⟩ h0]
      refine (ih (by omega)).trans ?_
      rw [show n / 8 = (n + 1) / 8 by omega]

/-- The stored gate weights at every point: those of its column block. -/
theorem s2 (n : ℕ) (hn : n < cfg0.N) (k : Fin 2048) (q : Fin 512) : ((outsAt0 m c n hn).2.2.2 (ix2 k q) : EReal)
    = upW (m ((c : Thread nD τ).loc main_arg1)) 5504 le_rfl k (n / 8 * 512 + q.val) := by
  induction n with
  | zero => exact s2A m c ⟨0, hn⟩ rfl (ix2 k q)
  | succ n ih =>
    by_cases h0 : (n + 1) % 8 = 0
    · exact s2A m c ⟨n + 1, hn⟩ h0 (ix2 k q)
    · rw [s2B m c ⟨n + 1, hn⟩ h0]
      refine (ih (by omega)).trans ?_
      rw [show n / 8 = (n + 1) / 8 by omega]

theorem point14 (a : Fin 64) (k : Fin 2048) : ((dats m 0 c).after 14 t (ix2 a k) : EReal) = iblk m c 12 t (ix3 0 a k) := by
  rw [after0_14]
  by_cases h0 : t.val % 8 = 0
  · rw [outsAt0_A m c t h0]; frame_out; pointwise [k0_pay5]
  · rw [outsAt0_B m c t h0]; frame_out; pointwise [k0_pay5]

theorem rowsCover (p q : FVec Ideal S16x2048 .bf16) (r : FVec Ideal S1024x2048 .bf16) (y : S1056x2048.Idx) :
    ∃ s ∈ ([⟨Rect.unit ![1040, 0] ![16, 2048] inb_S1056x2048_S16x2048_1040_0, p⟩,
      ⟨Rect.unit ![16, 0] ![1024, 2048] inb_S1056x2048_S1024x2048_16_0, r⟩,
      ⟨Rect.unit ![0, 0] ![16, 2048] inb_S1056x2048_S16x2048_0_0, q⟩] : List (View.Piece (Elt Ideal) S1056x2048 .bf16)), y ∈ s.1.set := by
  have y0 : (y 0).val < 1056 := (y 0).isLt
  have y1 : (y 1).val < 2048 := (y 1).isLt
  simp only [List.mem_cons, List.not_mem_nil, or_false, exists_eq_or_imp, exists_eq_left, Rect.mem_set_unit, Fin.forall_fin_two]
  simp
  omega

/-- The row of the hidden states that row `e` of the staged rows holds. -/
def stagedRow (i e : ℕ) : ℕ :=
  if e < 16 then (i * 64 - 1) * 16 + e else if e < 1040 then i * 1024 + (e - 16) else min ((i + 1) * 64) 511 * 16 + (e - 1040)

section Quarter

variable (h2 : FVec Ideal ⟨2, ![8192, 2048]⟩ .bf16) (w : FVec Ideal ⟨3, ![2, 2048, 11008]⟩ .f32)
  (cw : FVec Ideal ⟨3, ![2, 3, 11008]⟩ .f32) (cb : FVec Ideal ⟨2, ![2, 11008]⟩ .f32)

theorem sum_at (X : FVec Ideal S544x2048 .bf16) (W : FVec Ideal S2048x256 .bf16) (base : ℕ) (hb : base ≤ 5504) (i o col e0 : ℕ)
    (e : Fin 544) (q : Fin 256) (r : ℕ)
    (hX : ∀ (e : Fin 544) k, (X (ix2 e k) : EReal) = h2 (ix2 ⟨stagedRow i (o + e.val) % 8192, Nat.mod_lt _ (by decide)⟩ k))
    (hW : ∀ k (q : Fin 256), (W (ix2 k q) : EReal) = upW w base hb k (col + q.val)) (hr : stagedRow i (o + e.val) = r) :
    ∑ k : Fin 2048, (X (ix2 e k) : EReal) * W (ix2 k q) = upAt h2 w base hb r (col + q.val) := by
  subst hr
  exact Finset.sum_congr rfl fun k _ => Ideal.mul_congr (hX e k) (hW k q)

/-- A quarter's convolution from the staged rows is the convolution of the hidden states' rows. -/
theorem conv_at (X : FVec Ideal S544x2048 .bf16) (W : FVec Ideal S2048x256 .bf16) (kw : FVec Ideal S3x256 .f32)
    (kb : FVec Ideal S1x256 .f32) (base : ℕ) (hb : base ≤ 5504) (i o col : ℕ) (hi : i < 8) (ho : o ≤ 512)
    (hX : ∀ (e : Fin 544) k, (X (ix2 e k) : EReal) = h2 (ix2 ⟨stagedRow i (o + e.val) % 8192, Nat.mod_lt _ (by decide)⟩ k))
    (hW : ∀ k (q : Fin 256), (W (ix2 k q) : EReal) = upW w base hb k (col + q.val))
    (hkw : ∀ (e : Fin 3) (q : Fin 256), (kw (ix2 e q) : EReal) = cwAt cw base hb e (col + q.val))
    (hkb : ∀ (q : Fin 256), (kb (ix2 0 q) : EReal) = cbAt cb base hb (col + q.val)) (r : Fin 512) (q : Fin 256) :
    convTile (rowWord (BitVec.ofNat 32 i) (BitVec.ofNat 32 o) r.val) X W kw kb r q
      = convAt h2 w cw cb base hb (i * 1024 + o + r.val) (col + q.val) := by
  have p := prev_iff ⟨i * 1024 + o + r.val, by omega⟩
  have n := next_iff ⟨i * 1024 + o + r.val, by omega⟩
  unfold convTile convAt taps
  rw [rowWord_eq, hkw, hkw, hkw, hkb,
    sum_at h2 w X W base hb i o col 0 ⟨16 + r.val, by omega⟩ q (i * 1024 + o + r.val) hX hW (by
      simp only [stagedRow]; split_ifs <;> omega)]
  refine congrArg₂ (· + ·) (congrArg₂ (· + ·) (congrArg₂ (· + ·) ?_ rfl) ?_) rfl
  · by_cases a : hasPrev (i * 1024 + o + r.val)
    · rw [if_pos a, if_pos (p.mpr a), sum_at h2 w X W base hb i o col 0 ⟨15 + r.val, by omega⟩ q (i * 1024 + o + r.val - 1) hX hW ?_]
      have b : i * 1024 + o + r.val ≠ 0 := fun z => a (by rw [z]; rfl)
      simp only [stagedRow]; split_ifs <;> omega
    · rw [if_neg a, if_neg (fun z => a (p.mp z))]
  · by_cases a : hasNext (i * 1024 + o + r.val)
    · rw [if_pos a, if_pos (n.mpr a), sum_at h2 w X W base hb i o col 0 ⟨17 + r.val, by omega⟩ q (i * 1024 + o + r.val + 1) hX hW ?_]
      have b : i * 1024 + o + r.val ≠ 8191 := fun z => a (by rw [z]; rfl)
      simp only [stagedRow]; split_ifs <;> omega
    · rw [if_neg a, if_neg (fun z => a (n.mp z))]

end Quarter

/-- A block row and column read through the staged windows. -/
theorem tapA (e : Fin 3) (q : Fin 512) (col : ℕ) (hc : col = t.val / 8 * 512 + q.val) :
    (iblk m c 8 t (ix2 e q) : EReal) = cwAt (m ((c : Thread nD τ).loc main_arg2)) 0 (by decide) e col := by
  have tl := tlt t
  subst hc
  refine Eq.trans ?_ (V3 m c (ix2 e ⟨t.val / 8 * 512 + q.val, by omega⟩))
  blk_ext [iblk, idx t]
theorem tapG (e : Fin 3) (q : Fin 512) (col : ℕ) (hc : col = t.val / 8 * 512 + q.val) :
    (iblk m c 9 t (ix2 e q) : EReal) = cwAt (m ((c : Thread nD τ).loc main_arg2)) 5504 le_rfl e col := by
  have tl := tlt t
  subst hc
  refine Eq.trans ?_ (V7 m c (ix2 e ⟨t.val / 8 * 512 + q.val, by omega⟩))
  blk_ext [iblk, idx t]
theorem biasA (q : Fin 512) (col : ℕ) (hc : col = t.val / 8 * 512 + q.val) :
    (iblk m c 10 t (ix2 0 q) : EReal) = cbAt (m ((c : Thread nD τ).loc main_arg3)) 0 (by decide) col := by
  have tl := tlt t
  subst hc
  refine Eq.trans ?_ (V12 m c (ix2 0 ⟨t.val / 8 * 512 + q.val, by omega⟩))
  blk_ext [iblk, idx t]
theorem biasG (q : Fin 512) (col : ℕ) (hc : col = t.val / 8 * 512 + q.val) :
    (iblk m c 11 t (ix2 0 q) : EReal) = cbAt (m ((c : Thread nD τ).loc main_arg3)) 5504 le_rfl col := by
  have tl := tlt t
  subst hc
  refine Eq.trans ?_ (V17 m c (ix2 0 ⟨t.val / 8 * 512 + q.val, by omega⟩))
  blk_ext [iblk, idx t]

/-- The staged rows, at an index. -/
theorem staged_at (y : S1056x2048.Idx) :
    (View.canon (Val := Elt Ideal) (s := S1056x2048) (e := .bf16)
      [⟨Rect.unit ![1040, 0] ![16, 2048] inb_S1056x2048_S16x2048_1040_0, k0_pay11 (iblk m c 2 t)⟩,
        ⟨Rect.unit ![16, 0] ![1024, 2048] inb_S1056x2048_S1024x2048_16_0, k0_pay10 (iblk m c 1 t)⟩,
        ⟨Rect.unit ![0, 0] ![16, 2048] inb_S1056x2048_S16x2048_0_0, k0_pay9 (iblk m c 0 t)⟩] y : EReal)
      = m ((c : Thread nD τ).loc main_arg0) (ix2 ⟨stagedRow (t.val % 8) (y 0).val % 8192, Nat.mod_lt _ (by decide)⟩ (y 1)) := by
  have tl := tlt t
  canon_tiles z g using rowsCover _ _ _ _
  all_goals
    have l : y 1 = z 1 := Fin.ext g1
    rw [l]
    idx_vars z
    pointwise [k0_pay9, k0_pay10, k0_pay11]
  case piece0 => exact in2 m c t _ _ _ (by simp only [stagedRow, g0]; split_ifs <;> omega)
  case piece1 => exact in1 m c t _ _ _ (by simp only [stagedRow, g0]; split_ifs <;> omega)
  case piece2 => exact in0 m c t _ _ _ (by simp only [stagedRow, g0]; split_ifs <;> omega)

/-- A quarter whose loads hold the staged rows, the stored weights, the taps and the biases is the gated value. -/
theorem quarter_at (X : FVec Ideal S544x2048 .bf16) (A G : FVec Ideal S2048x256 .bf16)
    (ca cg : FVec Ideal S3x256 .f32) (ba bg : FVec Ideal S1x256 .f32) (o oc : ℕ) (ho : o ≤ 512) (hoc : oc ≤ 256) (r : Fin 512) (q : Fin 256)
    (y0 y1 : ℕ) (hy0 : y0 = o + r.val) (hy1 : y1 = oc + q.val)
    (hX : ∀ (e : Fin 544) k, (X (ix2 e k) : EReal) = m ((c : Thread nD τ).loc main_arg0) (ix2 ⟨stagedRow (t.val % 8) (o + e.val) % 8192, Nat.mod_lt _ (by decide)⟩ k))
    (hA : ∀ k (q : Fin 256), (A (ix2 k q) : EReal) = upW (m ((c : Thread nD τ).loc main_arg1)) 0 (by decide) k (t.val / 8 * 512 + (oc + q.val)))
    (hG : ∀ k (q : Fin 256), (G (ix2 k q) : EReal) = upW (m ((c : Thread nD τ).loc main_arg1)) 5504 le_rfl k (t.val / 8 * 512 + (oc + q.val)))
    (hca : ∀ (e : Fin 3) (q : Fin 256), ca (ix2 e q) = iblk m c 8 t (ix2 e ⟨oc + q.val, by omega⟩))
    (hcg : ∀ (e : Fin 3) (q : Fin 256), cg (ix2 e q) = iblk m c 9 t (ix2 e ⟨oc + q.val, by omega⟩))
    (hba : ∀ (q : Fin 256), ba (ix2 0 q) = iblk m c 10 t (ix2 0 ⟨oc + q.val, by omega⟩))
    (hbg : ∀ (q : Fin 256), bg (ix2 0 q) = iblk m c 11 t (ix2 0 ⟨oc + q.val, by omega⟩)) :
    quarter (rowWord (BitVec.ofNat 32 (t.val % 8)) (BitVec.ofNat 32 o) r.val) X A G ca cg ba bg r q
      = actAt (m ((c : Thread nD τ).loc main_arg0)) (m ((c : Thread nD τ).loc main_arg1)) (m ((c : Thread nD τ).loc main_arg2))
      (m ((c : Thread nD τ).loc main_arg3)) (t.val % 8 * 1024 + y0) (t.val / 8 * 512 + y1) := by
  have tl := tlt t
  subst hy0 hy1
  unfold quarter actAt
  rw [conv_at _ _ (m ((c : Thread nD τ).loc main_arg2)) (m ((c : Thread nD τ).loc main_arg3)) X G cg bg 5504 le_rfl (t.val % 8) o (t.val / 8 * 512 + oc) (by omega) ho hX
      (fun k q => (hG k q).trans (by rw [Nat.add_assoc])) (fun e q => (hcg e q).trans (tapG m c t _ _ _ (by simp only; omega)))
      (fun q => (hbg q).trans (biasG m c t _ _ (by simp only; omega))),
    conv_at _ _ (m ((c : Thread nD τ).loc main_arg2)) (m ((c : Thread nD τ).loc main_arg3)) X A ca ba 0 (by decide) (t.val % 8) o (t.val / 8 * 512 + oc) (by omega) ho hX
      (fun k q => (hA k q).trans (by rw [Nat.add_assoc])) (fun e q => (hca e q).trans (tapA m c t _ _ _ (by simp only; omega)))
      (fun q => (hba q).trans (biasA m c t _ _ (by simp only; omega)))]
  simp only [Nat.add_assoc]

/-- The same over loads of the whole buffers. -/
theorem quarter_ld (XS : FVec Ideal S1056x2048 .bf16) (WA WG : FVec Ideal S2048x512 .bf16) (o oc : ℕ) (ho : o ≤ 512) (hoc : oc ≤ 256)
    (hx : ∀ a, ![o, 0] a + ![544, 2048] a ≤ Shape.size S1056x2048 a) (hw : ∀ a, ![0, oc] a + ![2048, 256] a ≤ Shape.size S2048x512 a)
    (h3 : ∀ a, ![0, oc] a + ![3, 256] a ≤ Shape.size S3x512 a) (h1 : ∀ a, ![0, oc] a + ![1, 256] a ≤ Shape.size S1x512 a) (r : Fin 512) (q : Fin 256) (y0 y1 : ℕ) (hy0 : y0 = o + r.val) (hy1 : y1 = oc + q.val)
    (hX : ∀ y : S1056x2048.Idx, (XS y : EReal) = m ((c : Thread nD τ).loc main_arg0) (ix2 ⟨stagedRow (t.val % 8) (y 0).val % 8192, Nat.mod_lt _ (by decide)⟩ (y 1)))
    (hA : ∀ k (q : Fin 512), (WA (ix2 k q) : EReal) = upW (m ((c : Thread nD τ).loc main_arg1)) 0 (by decide) k (t.val / 8 * 512 + q.val))
    (hG : ∀ k (q : Fin 512), (WG (ix2 k q) : EReal) = upW (m ((c : Thread nD τ).loc main_arg1)) 5504 le_rfl k (t.val / 8 * 512 + q.val)) :
    quarter (rowWord (BitVec.ofNat 32 (t.val % 8)) (BitVec.ofNat 32 o) r.val)
      (View.ld (Val := Elt Ideal) (S := S1056x2048) (e' := .bf16) XS (Rect.unit ![o, 0] ![544, 2048] hx))
      (View.ld (Val := Elt Ideal) (S := S2048x512) (e' := .bf16) WA (Rect.unit ![0, oc] ![2048, 256] hw))
      (View.ld (Val := Elt Ideal) (S := S2048x512) (e' := .bf16) WG (Rect.unit ![0, oc] ![2048, 256] hw))
      (View.ld (Val := Elt Ideal) (S := S3x512) (e' := .f32) (iblk m c 8 t) (Rect.unit ![0, oc] ![3, 256] h3))
      (View.ld (Val := Elt Ideal) (S := S3x512) (e' := .f32) (iblk m c 9 t) (Rect.unit ![0, oc] ![3, 256] h3))
      (View.ld (Val := Elt Ideal) (S := S1x512) (e' := .f32) (iblk m c 10 t) (Rect.unit ![0, oc] ![1, 256] h1))
      (View.ld (Val := Elt Ideal) (S := S1x512) (e' := .f32) (iblk m c 11 t) (Rect.unit ![0, oc] ![1, 256] h1)) r q
      = actAt (m ((c : Thread nD τ).loc main_arg0)) (m ((c : Thread nD τ).loc main_arg1)) (m ((c : Thread nD τ).loc main_arg2))
      (m ((c : Thread nD τ).loc main_arg3)) (t.val % 8 * 1024 + y0) (t.val / 8 * 512 + y1) := by
  refine quarter_at m c t _ _ _ _ _ _ _ o oc ho hoc r q y0 y1 hy0 hy1 ?_ ?_ ?_ ?_ ?_ ?_ ?_
  · intro e k; pointwise []; exact hX _
  · intro e k; pointwise []; exact hA _ _
  · intro e k; pointwise []; exact hG _ _
  · intro e k; pointwise []
  · intro e k; pointwise []
  · intro e; pointwise []
  · intro e; pointwise []

theorem point13B (h0 : ¬ t.val % 8 = 0) (y : S1024x512.Idx) : ((outsAt0 m c t.val t.isLt).1 y : EReal)
    = actAt (m ((c : Thread nD τ).loc main_arg0)) (m ((c : Thread nD τ).loc main_arg1)) (m ((c : Thread nD τ).loc main_arg2))
      (m ((c : Thread nD τ).loc main_arg3)) (t.val % 8 * 1024 + (y 0).val) (t.val / 8 * 512 + (y 1).val) := by
  have tl := tlt t
  have b : t.val / 8 = (t.val - 1) / 8 := by omega
  have wa := s1 m c (t.val - 1) (by omega)
  have wg := s2 m c (t.val - 1) (by omega)
  rw [← b] at wa wg
  rw [outsAt0_B m c t h0]
  frame_out
  simp only [readCov_ld, read_unread_whole]
  canon_tiles x h
  case' piece0 => refine (pay11 _ _ _ _ _ _ _ _ x).trans ?_
  case' piece1 => refine (pay10 _ _ _ _ _ _ _ _ x).trans ?_
  case' piece2 => refine (pay01 _ _ _ _ _ _ _ _ x).trans ?_
  case' piece3 => refine (pay00 _ _ _ _ _ _ _ _ x).trans ?_
  all_goals rw [coord1]
  case piece0 => exact quarter_ld m c t _ _ _ 512 256 le_rfl le_rfl _ _ _ _ (x 0) (x 1) _ _ h0 h1 (staged_at m c t) wa wg
  case piece1 => exact quarter_ld m c t _ _ _ 512 0 le_rfl (by decide) _ _ _ _ (x 0) (x 1) _ _ h0 (h1.trans (Nat.zero_add _).symm) (staged_at m c t) wa wg
  case piece2 => exact quarter_ld m c t _ _ _ 0 256 (by decide) le_rfl _ _ _ _ (x 0) (x 1) _ _ (h0.trans (Nat.zero_add _).symm) h1 (staged_at m c t) wa wg
  case piece3 => exact quarter_ld m c t _ _ _ 0 0 (by decide) (by decide) _ _ _ _ (x 0) (x 1) _ _ (h0.trans (Nat.zero_add _).symm) (h1.trans (Nat.zero_add _).symm) (staged_at m c t) wa wg

theorem point13A (h0 : t.val % 8 = 0) (y : S1024x512.Idx) : ((outsAt0 m c t.val t.isLt).1 y : EReal)
    = actAt (m ((c : Thread nD τ).loc main_arg0)) (m ((c : Thread nD τ).loc main_arg1)) (m ((c : Thread nD τ).loc main_arg2))
      (m ((c : Thread nD τ).loc main_arg3)) (t.val % 8 * 1024 + (y 0).val) (t.val / 8 * 512 + (y 1).val) := by
  have wa := s1A m c t h0
  have wg := fun k q => s2A m c t h0 (ix2 k q)
  rw [outsAt0_A m c t h0] at wa wg ⊢
  frame_out
  simp only [readCov_ld]
  canon_tiles x h
  case' piece0 => refine (pay11 _ _ _ _ _ _ _ _ x).trans ?_
  case' piece1 => refine (pay10 _ _ _ _ _ _ _ _ x).trans ?_
  case' piece2 => refine (pay01 _ _ _ _ _ _ _ _ x).trans ?_
  case' piece3 => refine (pay00 _ _ _ _ _ _ _ _ x).trans ?_
  all_goals rw [coord1]
  case' piece0 => refine quarter_ld m c t _ _ _ 512 256 le_rfl le_rfl _ _ _ _ (x 0) (x 1) _ _ h0 h1 (staged_at m c t) (fun k q => Eq.trans ?_ (wa k q)) (fun k q => Eq.trans ?_ (wg k q))
  case' piece1 => refine quarter_ld m c t _ _ _ 512 0 le_rfl (by decide) _ _ _ _ (x 0) (x 1) _ _ h0 (h1.trans (Nat.zero_add _).symm) (staged_at m c t) (fun k q => Eq.trans ?_ (wa k q)) (fun k q => Eq.trans ?_ (wg k q))
  case' piece2 => refine quarter_ld m c t _ _ _ 0 256 (by decide) le_rfl _ _ _ _ (x 0) (x 1) _ _ (h0.trans (Nat.zero_add _).symm) h1 (staged_at m c t) (fun k q => Eq.trans ?_ (wa k q)) (fun k q => Eq.trans ?_ (wg k q))
  case' piece3 => refine quarter_ld m c t _ _ _ 0 0 (by decide) (by decide) _ _ _ _ (x 0) (x 1) _ _ (h0.trans (Nat.zero_add _).symm) (h1.trans (Nat.zero_add _).symm) (staged_at m c t) (fun k q => Eq.trans ?_ (wa k q)) (fun k q => Eq.trans ?_ (wg k q))
  all_goals frame_out

/-- The gated activation that a point leaves. -/
theorem point13 (y : S1024x512.Idx) : ((dats m 0 c).after 13 t y : EReal)
    = actAt (m ((c : Thread nD τ).loc main_arg0)) (m ((c : Thread nD τ).loc main_arg1)) (m ((c : Thread nD τ).loc main_arg2))
      (m ((c : Thread nD τ).loc main_arg3)) (t.val % 8 * 1024 + (y 0).val) (t.val / 8 * 512 + (y 1).val) := by
  refine (congrFun (after0_13 m c t) y).trans ?_
  by_cases h0 : t.val % 8 = 0
  · exact point13A m c t h0 y
  · exact point13B m c t h0 y

/-- The first result array after the run: the gated activation. -/
theorem final13 : (dats m 0 c).arrAt 13 cfg0.N = fun i => actAt (m ((c : Thread nD τ).loc main_arg0)) (m ((c : Thread nD τ).loc main_arg1))
     (m ((c : Thread nD τ).loc main_arg2)) (m ((c : Thread nD τ).loc main_arg3)) (i 0).val (i 1).val := by
  refine (dats m 0 c).arrAt_eq_of_covers 13 _ (by decide +kernel) fun t _ y => ?_
  refine (point13 m c t y).trans (congrArg₂ (actAt _ _ _ _) ?_ ?_) <;> blk_simp [idx t] <;> try omega

/-- The second result array after the run: the next call's weights, its last rows repeating the last block. -/
theorem final14 : (dats m 0 c).arrAt 14 cfg0.N = fun i => m ((c : Thread nD τ).loc main_arg4) (ix3 0
    ⟨min ((i 0).val / 64) 85 * 64 + (i 0).val % 64, by omega⟩ (i 1)) := by
  refine (dats m 0 c).arrAt_eq_of_covers 14 _ (by decide +kernel) fun t _ y => ?_
  have y0 : (y 0).val < 64 := (y 0).isLt
  refine ((congrArg _ (eq_ix2 y)).trans (point14 m c t (y 0) (y 1))).trans ?_
  refine (in12 m c t _ _ ⟨_, by omega⟩ rfl).trans (congrArg₂ (fun a b => m ((c : Thread nD τ).loc main_arg4) (ix3 0 a b)) (Fin.ext ?_) (Fin.ext ?_)) <;> blk_simp [idx t]
  · show min t.val 85 * 64 + (y 0).val = min ((t.val * 64 + (y 0).val) / 64) 85 * 64 + (t.val * 64 + (y 0).val) % 64
    omega
  all_goals try omega

/-- After the run: the two results as the pipeline computes them, the arguments unchanged. -/
theorem run_blocks (ρ) : θ_run defs (onTc (τ := τ) (main (F := Ideal))) ⟨m, fun _ => 0, ρ⟩ fun r => ∀ c : Dev nD,
      r.2.mem ((c : Thread nD τ).loc main_v18_0) = (dats m 0 c).arrAt 13 cfg0.N
      ∧ r.2.mem ((c : Thread nD τ).loc main_v18_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 13, (h.1 c).1 14, h.2 c⟩) (θ_run_and (run_main m ρ) (unchanged m ρ))

end Cert.Proof.UpKernel

end
-- ==== Proof.UpRef.lean ====
/-
  The reference of the up projection, read at an index.
-/
module

public import proofs.«01_k».proof.Proof.Gen.UpRefIdeal.Read
public import proofs.«01_k».proof.Proof.UpSpec
public import proofs.«01_k».proof.Proof.Softmax

@[expose] public section

set_option maxRecDepth 16384

noncomputable section

open Idealize.ShloMosaic Idealize.ShloMosaic.TcCoe Idealize.SL.Sem

namespace Cert.Proof.UpRef

open Cert.UpRefIdeal Cert.UpRefIdeal.Gen Cert.UpRefIdeal.Read Cert.Spec

variable (x : FVec Ideal S8192x2048 .bf16) (w : FVec Ideal S2x2048x11008 .f32) (cw : FVec Ideal S2x3x11008 .f32) (cb : FVec Ideal S2x11008 .f32)

/-- The projected entry of row `r` (taken around the end) and column `col`. -/
def proj (r : ℕ) (col : Fin 11008) : EReal := ∑ k : Fin 2048, x (ix2 ⟨r % 8192, Nat.mod_lt _ (by decide)⟩ k) * w (ix3 0 k col)

theorem proj_at (r : Fin 8192) (col : Fin 11008) : val_main_v3 (F := Ideal) x w (ix2 r col) = proj x w r.val col := by
  have e : ∀ h, (⟨r.val % 8192, h⟩ : Fin 8192) = r := fun h => Fin.ext (Nat.mod_eq_of_lt r.isLt)
  unfold proj
  simp only [e]
  pointwise [val_main_v3, val_main_v2, val_main_v1, val_main_v0]

/-- The convolution over rows with a zero row at each end of every sequence. -/
theorem prompts_at (b : Fin 16) (s : Fin 256) (col : Fin 11008) : val_main_v34 (F := Ideal) x w cw cb (ix3 b s col)
    = taps (s.val ≠ 0) (s.val ≠ 255) (proj x w (b.val * 256 + s.val - 1) col) (proj x w (b.val * 256 + s.val) col) (proj x w (b.val * 256 + s.val + 1) col)
      (cw (ix3 0 0 col)) (cw (ix3 0 1 col)) (cw (ix3 0 2 col)) (cb (ix2 0 col)) := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, taps, proj_at]
  refine Ideal.add_congr (Ideal.add_congr (Ideal.add_congr ?_ rfl) ?_) rfl
  · split_ifs <;> first | omega | exact zero_mul _ | (rw [Nat.add_sub_assoc (by omega)])
  · split_ifs <;> first | omega | exact zero_mul _ | (rw [show b.val * 256 + (2 + s.val - 1) = b.val * 256 + s.val + 1 by omega])

theorem samples_at (b : Fin 2) (s : Fin 2048) (col : Fin 11008) : val_main_v62 (F := Ideal) x w cw cb (ix3 b s col)
    = taps (s.val ≠ 0) (s.val ≠ 2047) (proj x w (4096 + (b.val * 2048 + s.val) - 1) col) (proj x w (4096 + (b.val * 2048 + s.val)) col) (proj x w (4096 + (b.val * 2048 + s.val) + 1) col)
      (cw (ix3 0 0 col)) (cw (ix3 0 1 col)) (cw (ix3 0 2 col)) (cb (ix2 0 col)) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v7, val_main_v6, val_main_v5, val_main_v4, val_main_cst_0, taps, proj_at]
  refine Ideal.add_congr (Ideal.add_congr (Ideal.add_congr ?_ rfl) ?_) rfl
  · split_ifs <;> first | omega | exact zero_mul _ | (rw [show 4096 + (b.val * 2048 + (s.val - 1)) = 4096 + (b.val * 2048 + s.val) - 1 by omega])
  · split_ifs <;> first | omega | exact zero_mul _ | (rw [show 4096 + (b.val * 2048 + (2 + s.val - 1)) = 4096 + (b.val * 2048 + s.val) + 1 by omega])

/-- The convolved projection of a row, a prompt's or a sample's. -/
theorem conv_at (r : Fin 8192) (col : Fin 11008) : val_main_v64 (F := Ideal) x w cw cb (ix2 r col)
    = taps (hasPrev r.val) (hasNext r.val) (proj x w (r.val - 1) col) (proj x w r.val col) (proj x w (r.val + 1) col)
      (cw (ix3 0 0 col)) (cw (ix3 0 1 col)) (cw (ix3 0 2 col)) (cb (ix2 0 col)) := by
  pointwise [val_main_v64, val_main_v63, val_main_v35, prompts_at, samples_at]
  have q : r.val < 4096 → r.val / 256 * 256 + r.val % 256 = r.val := fun _ => by omega
  have q' : ¬ r.val < 4096 → 4096 + ((r.val - 4096) / 2048 * 2048 + (r.val - 4096) % 2048) = r.val := fun _ => by omega
  by_cases h : r.val < 4096
  · rw [dif_pos h]
    unfold taps hasPrev hasNext pos
    simp only [if_pos h, q h]
  · rw [dif_neg h]
    unfold taps hasPrev hasNext pos
    simp only [if_neg h, q' h]

/-- A half of the convolved projection, as the specification names it. -/
theorem half_at (base : ℕ) (hb : base ≤ 5504) (r : Fin 8192) (col : Fin 5504) : convAt x w cw cb base hb r.val col.val
    = val_main_v64 (F := Ideal) x w cw cb (ix2 r ⟨base + col.val, by omega⟩) := by
  rw [conv_at]
  simp only [convAt, upAt, upW, cwAt, cbAt, proj, dif_pos col.isLt]

/-- The gate by `tanh` is the gate by the logistic function. -/
theorem gate_eq {z : EReal} (hz : IsReal z) (a : EReal) : gateTanh z a = z * Ideal.div 1 (1 + Ideal.exp (-z)) * a := by
  obtain ⟨x, rfl⟩ := hz
  have e : Ideal.ofBits FTy.f32 1056964608#32 = ((1 / 2 : ℝ) : EReal) := by
    simp [Ideal.ofBits, Ideal.ieee, -EReal.coe_mul]; norm_num
  have p : 0 < 1 + Real.exp (-x) := by positivity
  unfold gateTanh
  have d : Ideal.div 1 (1 + Ideal.exp (-(x : EReal))) = ((1 / (1 + Real.exp (-x)) : ℝ) : EReal) := by
    rw [← EReal.coe_neg, Ideal.exp_coe, ← EReal.coe_one, ← EReal.coe_add, Ideal.div_coe (h := p.ne'), ← EReal.coe_mul, one_mul]
  simp only [e, d, ← EReal.coe_mul, Ideal.tanh_coe, ← EReal.coe_add]
  congr 2
  have hx : x = 1 / 2 * x + 1 / 2 * x := by ring
  rw [Real.tanh_eq_sinh_div_cosh, Real.sinh_eq, Real.cosh_eq]
  generalize hy : 1 / 2 * x = y at *
  rw [hx, neg_add, Real.exp_add, Real.exp_neg]
  have := Real.exp_pos y
  field_simp
  ring

/-- The reference's activation is the kernel's where the gate's operands are real. -/
theorem act_at (hx : ∀ i, IsReal (x i)) (hw : ∀ k (q : Fin 5504), IsReal (w (ix3 0 k ⟨5504 + q.val, by omega⟩)))
    (hc : ∀ e (q : Fin 5504), IsReal (cw (ix3 0 e ⟨5504 + q.val, by omega⟩))) (hb : ∀ (q : Fin 5504), IsReal (cb (ix2 0 ⟨5504 + q.val, by omega⟩)))
    (r : Fin 8192) (j : Fin 5632) : val_main_v76 (F := Ideal) x w cw cb (ix2 r j) = actAt x w cw cb r.val j.val := by
  have hp : ∀ n q, IsReal (proj x w n ⟨5504 + (q : Fin 5504).val, by omega⟩) := fun n q => isReal_sum _ _ fun k => isReal_mul (hx _) (hw k q)
  have h0 : IsReal 0 := ⟨0, rfl⟩
  unfold actAt
  by_cases h : j.val < 5504
  · have hz : IsReal (convAt x w cw cb 5504 le_rfl r.val j.val) := by
      rw [half_at x w cw cb 5504 le_rfl r ⟨j.val, h⟩, conv_at]
      unfold taps
      refine isReal_add (isReal_add (isReal_add ?_ (isReal_mul (hp _ ⟨_, h⟩) (hc _ ⟨_, h⟩))) ?_) (hb ⟨_, h⟩)
      all_goals
        split_ifs
        · exact isReal_mul (hp _ ⟨_, h⟩) (hc _ ⟨_, h⟩)
        · exact h0
    rw [gate_eq hz, half_at x w cw cb 5504 le_rfl r ⟨j.val, h⟩, half_at x w cw cb 0 (by decide) r ⟨j.val, h⟩]
    pointwise [val_main_v76, val_main_v75, val_main_v74, val_main_v73, val_main_v72, val_main_v71, val_main_v70, val_main_v69, val_main_v68, val_main_v67, val_main_v66, val_main_v65, val_main_cst_1, val_main_cst_2, val_main_call0_v0, val_main_c]
    rw [dif_pos h]
  · unfold convAt upAt upW cwAt cbAt
    simp only [dif_neg h]
    pointwise [val_main_v76, val_main_v75, val_main_call0_v0, val_main_c]
    rw [dif_neg h]
    simp [taps, gateTanh, FloatOps.sitofp]

/-- The reference's second result on the weights' own rows. -/
theorem down_at (wd : FVec Ideal S2x5504x2048 .f32) (r : Fin 5632) (k : Fin 2048) (h : r.val < 5504) :
    val_main_v80 (F := Ideal) wd (ix2 r k) = wd (ix3 0 ⟨r.val, h⟩ k) := by
  pointwise [val_main_v80, val_main_v79, val_main_v78, val_main_v77]
  rw [dif_pos h]

end Cert.Proof.UpRef

end
-- ==== Proof.UpClaim.lean ====
/-
  The up projection's claims from its two runs.
-/
module

public import proofs.«01_k».proof.Defs
public import proofs.«01_k».proof.Proof.Gen.UpRefIdeal
public import proofs.«01_k».proof.Proof.Gen.Pre_gate_finite
public import proofs.«01_k».proof.Proof.Gen.On_real_rows
public import proofs.«01_k».proof.Proof.UpKernel
public import proofs.«01_k».proof.Proof.UpRef
public import proofs.«01_k».proof.Proof.Marks
public import Idealize.ShloMosaic.Lib.Quiescent

@[expose] public section

noncomputable section

namespace Cert.Proof

open Idealize.ShloMosaic Idealize.SL.Sem

/-- The reference runs on the host, leaves its arguments unchanged and declares no semaphore. -/
theorem frame_up_ref : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

section
variable (x : FVec Ideal Cert.UpIdeal.S8192x2048 .bf16) (w : FVec Ideal Cert.UpIdeal.S2x2048x11008 .f32) (cw : FVec Ideal Cert.UpIdeal.S2x3x11008 .f32)
  (cb : FVec Ideal Cert.UpIdeal.S2x11008 .f32) (wd : FVec Ideal Cert.UpIdeal.S2x5504x2048 .f32)

/-- The marked rows of the copied weights are their own. -/
theorem mark_up (i : Cert.UpIdeal.S5632x2048.Idx) (h : (Cert.On_real_rows.fn (F := Ideal) x w cw cb wd).2 i = 1#1) : (i 0).val < 5504 :=
  Spec.lt_of_mark (by have : (i 0).val < 5632 := (i 0).isLt; omega) (by norm_num) h

theorem finite_x (h : (Cert.Pre_gate_finite.fn (F := Ideal) x w cw cb wd).1 = fun _ => 1#1) (i : Cert.UpIdeal.S8192x2048.Idx) : Spec.IsReal (x i) := by
  have e := congrFun h i
  refine Spec.isReal_of_abs ?_
  have e' : FloatOps.cmpf (F := Ideal) (φ := .bf16) .olt (max (x i) (-(x i))) (Ideal.ofBits .bf16 0x7F80#16) = 1#1 := e
  have t : Ideal.ofBits .bf16 0x7F80#16 = ⊤ := by simp [Ideal.ofBits, Ideal.ieee]
  rw [t] at e'
  by_contra hc
  simp [FloatOps.cmpf, Ideal.cmp, hc] at e'

theorem finite_w (h : (Cert.Pre_gate_finite.fn (F := Ideal) x w cw cb wd).2.1 = fun _ => 1#1) (k : Fin 2048) (q : Fin 5504) :
    Spec.IsReal (w (ix3 0 k ⟨5504 + q.val, by omega⟩)) := by
  have e := congrFun h (ix2 k q)
  refine Spec.real_of_mark (Eq.trans ?_ e)
  pointwise [Cert.Pre_gate_finite.fn, Cert.Pre_gate_finite.fn_part1]
  rfl

theorem finite_cw (h : (Cert.Pre_gate_finite.fn (F := Ideal) x w cw cb wd).2.2.1 = fun _ => 1#1) (k : Fin 3) (q : Fin 5504) :
    Spec.IsReal (cw (ix3 0 k ⟨5504 + q.val, by omega⟩)) := by
  have e := congrFun h (ix2 k q)
  refine Spec.real_of_mark (Eq.trans ?_ e)
  pointwise [Cert.Pre_gate_finite.fn, Cert.Pre_gate_finite.fn_part1]
  rfl

theorem finite_cb (h : (Cert.Pre_gate_finite.fn (F := Ideal) x w cw cb wd).2.2.2 = fun _ => 1#1) (q : Fin 5504) :
    Spec.IsReal (cb (ix2 0 ⟨5504 + q.val, by omega⟩)) := by
  have e := congrFun h (ix1 q)
  refine Spec.real_of_mark (Eq.trans ?_ e)
  pointwise [Cert.Pre_gate_finite.fn, Cert.Pre_gate_finite.fn_part1]
  rfl
end

/-- The kernel and the reference compute the same gated activation, and the same copy of the next weights on its own rows. -/
theorem up : Cert.algebraic_UpIdeal_UpRefIdeal_on_real_rows_pre_gate_finite := fun m ρ m' ρ' hpre hag =>
  ⟨fun c => fun i => Spec.actAt (m ((c.tc : Thread _ _).loc Cert.UpIdeal.main_arg0)) (m ((c.tc : Thread _ _).loc Cert.UpIdeal.main_arg1))
      (m ((c.tc : Thread _ _).loc Cert.UpIdeal.main_arg2)) (m ((c.tc : Thread _ _).loc Cert.UpIdeal.main_arg3)) (i 0).val (i 1).val,
    fun c => fun i => m ((c.tc : Thread _ _).loc Cert.UpIdeal.main_arg4) (ix3 0 ⟨min ((i 0).val / 64) 85 * 64 + (i 0).val % 64, by omega⟩ (i 1)),
    (θ_run _ _ _).mono (fun _ h c =>
      ⟨fun i _ => congrFun ((h c).1.trans (UpKernel.final13 m c)) i, fun i _ => congrFun ((h c).2.1.trans (UpKernel.final14 m c)) i, (h c).2.2⟩)
      (UpKernel.run_blocks m ρ),
    (θ_run _ _ _).mono (fun _ h c => by
      obtain ⟨h0, h1, h2, h3, h4⟩ := hag c
      obtain ⟨p0, p1, p2, p3⟩ := hpre c
      refine ⟨fun i hi => (congrFun (h c).1 i).trans ?_, fun i hi => (congrFun (h c).2.1 i).trans ?_, (h c).2.2⟩
      · rw [Cert.UpRefIdeal.Read.val_main_v76_eq, h0, h1, h2, h3, eq_ix2 i]
        exact UpRef.act_at _ _ _ _ (finite_x _ _ _ _ _ p0) (finite_w _ _ _ _ _ p1) (finite_cw _ _ _ _ _ p2) (finite_cb _ _ _ _ _ p3) _ _
      · have b := mark_up _ _ _ _ _ i hi
        rw [Cert.UpRefIdeal.Read.val_main_v80_eq, h4, eq_ix2 i]
        refine (UpRef.down_at _ _ _ b).trans (congrArg (fun r => m ((c.tc : Thread _ _).loc Cert.UpIdeal.main_arg4) (ix3 0 r (i 1))) (Fin.ext ?_))
        show (i 0).val = min ((i 0).val / 64) 85 * 64 + (i 0).val % 64
        omega)
      (Cert.UpRefIdeal.Value.run m' ρ')⟩

end Cert.Proof

end
-- ==== Proof.lean ====
/- The proof of the claims: each call's two programs run without fault, leave their arguments unchanged, and compute the same results. -/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_tiles_finite_a
public import proofs.«01_k».proof.Proof.Gen.Pre_gate_finite
public import proofs.«01_k».proof.Proof.Gen.On_prompt_rows_a
public import proofs.«01_k».proof.Proof.Gen.On_real_rows
public import proofs.«01_k».proof.Proof.Gen.InProj
public import proofs.«01_k».proof.Proof.Gen.InProj.Launch
public import proofs.«01_k».proof.Proof.Gen.InProj.Frame
public import proofs.«01_k».proof.Proof.Gen.InProj.Points
public import proofs.«01_k».proof.Proof.Gen.InProj.Skeleton
public import proofs.«01_k».proof.Proof.Gen.InProjIdeal
public import proofs.«01_k».proof.Proof.Gen.InProjIdeal.Launch
public import proofs.«01_k».proof.Proof.Gen.InProjIdeal.Frame
public import proofs.«01_k».proof.Proof.Gen.InProjIdeal.Points
public import proofs.«01_k».proof.Proof.Gen.InProjIdeal.Skeleton
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Pre_tiles_finite_b
public import proofs.«01_k».proof.Proof.Gen.On_prompt_rows_b
public import proofs.«01_k».proof.Proof.Gen.Out
public import proofs.«01_k».proof.Proof.Gen.Out.Launch
public import proofs.«01_k».proof.Proof.Gen.Out.Frame
public import proofs.«01_k».proof.Proof.Gen.Out.Points
public import proofs.«01_k».proof.Proof.Gen.Out.Skeleton
public import proofs.«01_k».proof.Proof.Gen.OutIdeal
public import proofs.«01_k».proof.Proof.Gen.OutIdeal.Launch
public import proofs.«01_k».proof.Proof.Gen.OutIdeal.Frame
public import proofs.«01_k».proof.Proof.Gen.OutIdeal.Points
public import proofs.«01_k».proof.Proof.Gen.OutIdeal.Skeleton
public import proofs.«01_k».proof.Proof.Gen.OutIdeal.Value
public import proofs.«01_k».proof.Proof.Gen.Last
public import proofs.«01_k».proof.Proof.Gen.Last.Launch
public import proofs.«01_k».proof.Proof.Gen.Last.Frame
public import proofs.«01_k».proof.Proof.Gen.Last.Points
public import proofs.«01_k».proof.Proof.Gen.Last.Skeleton
public import proofs.«01_k».proof.Proof.Gen.LastIdeal
public import proofs.«01_k».proof.Proof.Gen.LastIdeal.Launch
public import proofs.«01_k».proof.Proof.Gen.LastIdeal.Frame
public import proofs.«01_k».proof.Proof.Gen.LastIdeal.Points
public import proofs.«01_k».proof.Proof.Gen.LastIdeal.Skeleton
public import proofs.«01_k».proof.Proof.Gen.OutRefIdeal
public import proofs.«01_k».proof.Proof.Gen.OutRefIdeal.Run
public import proofs.«01_k».proof.Proof.Gen.OutRefIdeal.Read
public import proofs.«01_k».proof.Proof.Gen.LastRefIdeal
public import proofs.«01_k».proof.Proof.Gen.LastRefIdeal.Run
public import proofs.«01_k».proof.Proof.Gen.LastRefIdeal.Read
public import proofs.«01_k».proof.Proof.Gen.Mods
public import proofs.«01_k».proof.Proof.Gen.Mods.Frame
public import proofs.«01_k».proof.Proof.Gen.ModsIdeal
public import proofs.«01_k».proof.Proof.Gen.ModsIdeal.Frame
public import proofs.«01_k».proof.Proof.Gen.ModsIdeal.Value
public import proofs.«01_k».proof.Proof.Gen.ModsRefIdeal
public import proofs.«01_k».proof.Proof.Gen.ModsRefIdeal.Run
public import proofs.«01_k».proof.Proof.Gen.ModsRefIdeal.Read
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import proofs.«01_k».proof.Proof.InProjFrame
public import proofs.«01_k».proof.Proof.InProjClaim
public import proofs.«01_k».proof.Proof.ModsClaim
public import proofs.«01_k».proof.Proof.ModulateClaim
public import proofs.«01_k».proof.Proof.DownClaim
public import proofs.«01_k».proof.Proof.LastFrame
public import proofs.«01_k».proof.Proof.LastClaim
public import proofs.«01_k».proof.Proof.OutClaim
public import proofs.«01_k».proof.Proof.DiffClaim
public import proofs.«01_k».proof.Proof.AttnClaim
public import proofs.«01_k».proof.Proof.UpClaim
public import Idealize.ShloMosaic.Adequacy
public import Idealize.ShloMosaic.Init

@[expose] public section

noncomputable section

namespace Cert.Proof

open Idealize.ShloMosaic Idealize.SL.Sem

theorem claim : Cert.Claim := ⟨Cert.Mods.Gen.facts, Cert.ModsIdeal.Gen.facts, Cert.ModsRefIdeal.Gen.facts,
  Cert.Modulate.Gen.facts, Cert.ModulateIdeal.Gen.facts, Cert.ModulateRefIdeal.Gen.facts,
  Cert.Down.Gen.facts, Cert.DownIdeal.Gen.facts, Cert.DownRefIdeal.Gen.facts,
  Cert.Last.Gen.facts, Cert.LastIdeal.Gen.facts, Cert.LastRefIdeal.Gen.facts, Cert.Out.Gen.facts, Cert.OutIdeal.Gen.facts, Cert.OutRefIdeal.Gen.facts,
  Cert.Diff.Gen.facts, Cert.DiffIdeal.Gen.facts, Cert.DiffRefIdeal.Gen.facts,
  Cert.Attn.Gen.facts, Cert.AttnIdeal.Gen.facts, Cert.AttnRefIdeal.Gen.facts, Cert.Up.Gen.facts, Cert.UpIdeal.Gen.facts, Cert.UpRefIdeal.Gen.facts,
  Cert.InProj.Gen.facts, Cert.InProjIdeal.Gen.facts, Cert.InProjRefIdeal.Gen.facts,
  Cert.Pre_tiles_finite_b.Gen.facts, Cert.Pre_tiles_finite_a.Gen.facts, Cert.Pre_gate_finite.Gen.facts,
  Cert.On_prompt_rows_b.Gen.facts, Cert.On_prompt_rows_a.Gen.facts, Cert.On_real_rows.Gen.facts,
  fun m ρ _ => Cert.Mods.Gen.frame m ρ, fun m ρ _ => Cert.ModsIdeal.Gen.frame m ρ, frame_mods_ref,
  fun m ρ _ => Cert.Modulate.Gen.frame m ρ, fun m ρ _ => Cert.ModulateIdeal.Gen.frame m ρ, frame_modulate_ref,
  fun m ρ _ => Cert.Down.Gen.frame m ρ, fun m ρ _ => Cert.DownIdeal.Gen.frame m ρ, frame_down_ref,
  fun m ρ _ => Cert.Last.Hand.frame_all m ρ, fun m ρ _ => Cert.LastIdeal.Hand.frame_all m ρ, frame_last_ref,
  fun m ρ _ => Cert.Out.Gen.frame m ρ, fun m ρ _ => Cert.OutIdeal.Gen.frame m ρ, frame_out_ref,
  fun m ρ _ => Cert.Diff.Gen.frame m ρ, fun m ρ _ => Cert.DiffIdeal.Gen.frame m ρ, fun m ρ _ => Cert.DiffIdeal.Gen.frame m ρ,
  frame_diff_ref, fun m ρ _ => frame_diff_ref m ρ trivial,
  fun m ρ _ => Cert.Attn.Gen.frame m ρ, fun m ρ _ => Cert.AttnIdeal.Gen.frame m ρ, fun m ρ _ => Cert.AttnIdeal.Gen.frame m ρ,
  frame_attn_ref, fun m ρ _ => frame_attn_ref m ρ trivial,
  fun m ρ _ => Cert.Up.Gen.frame m ρ, fun m ρ _ => Cert.UpIdeal.Gen.frame m ρ, fun m ρ _ => Cert.UpIdeal.Gen.frame m ρ,
  frame_up_ref, fun m ρ _ => frame_up_ref m ρ trivial,
  fun m ρ _ => Cert.InProj.Hand.frame_all m ρ, fun m ρ _ => Cert.InProjIdeal.Hand.frame_all m ρ, frame_in_ref,
  trivial, mods, trivial, modulate, trivial, down, trivial, last_down, trivial, out_proj, trivial, diff, trivial, attn, trivial, up, trivial, in_proj⟩

end Cert.Proof

end
